-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S2x128x2048 : Shape := ⟨3, ![2, 128, 2048]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x2048 : S_.BroadcastsInDim S2x128x2048 (![] : Fin 0 → Fin S2x128x2048.rank)

variable [Facts]

def fn {F : FTy → Type} [FloatOps F] (main_arg0 : FVec F S2x128x512 .f32) (main_arg1 : FVec F S512x256 .f32) (main_arg2 : FVec F S2x128x2048 .f32) (main_arg3 : FVec F S2x128x2048 .f32) (main_arg4 : FVec F S256x512 .f32) : IVec S2x128x512 1 × IVec S512x256 1 × IVec S2x128x2048 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x128x2048 .f32 := Host.absf main_arg2
  let main_cst_1 : FVec F S_ .f32 := constant S_ .f32 0x7F800000#32
  let main_v7 : FVec F S2x128x2048 .f32 := broadcastInDim S2x128x2048 ![] bcast_S_S2x128x2048 main_cst_1
  let main_v8 : IVec S2x128x2048 1 := cmpf .olt main_v6 main_v7
  (main_v2, main_v5, main_v8)
-- ==== Pre_finite_scores_ReferenceIdeal.lean ====
abbrev S2x1024x512 : Shape := ⟨3, ![2, 1024, 512]⟩
abbrev S512x2048 : Shape := ⟨2, ![512, 2048]⟩
abbrev S2x128x2048 : Shape := ⟨3, ![2, 128, 2048]⟩
abbrev S2048x512 : Shape := ⟨2, ![2048, 512]⟩
abbrev S_ : Shape := ⟨0, ![]⟩

class Facts : Prop where
  bcast_S_S2x1024x512 : S_.BroadcastsInDim S2x1024x512 (![] : Fin 0 → Fin S2x1024x512.rank)
  bcast_S_S512x2048 : S_.BroadcastsInDim S512x2048 (![] : Fin 0 → Fin S512x2048.rank)
  bcast_S_S2x128x2048 : S_.BroadcastsInDim S2x128x2048 (![] : Fin 0 → Fin S2x128x2048.rank)

variable [Facts]

def fn {F : FTy → Type} [FloatOps F] (main_arg0 : FVec F S2x1024x512 .f32) (main_arg1 : FVec F S512x2048 .f32) (main_arg2 : FVec F S2x128x2048 .f32) (main_arg3 : FVec F S2x128x2048 .f32) (main_arg4 : FVec F S2048x512 .f32) : IVec S2x1024x512 1 × IVec S512x2048 1 × IVec S2x128x2048 1 :=
  let main_v0 : FVec F S2x1024x512 .f32 := Host.absf main_arg0
  let main_cst : FVec F S_ .f32 := constant S_ .f32 0x7F800000#32
  let main_v1 : FVec F S2x1024x512 .f32 := broadcastInDim S2x1024x512 ![] bcast_S_S2x1024x512 main_cst
  let main_v2 : IVec S2x1024x512 1 := cmpf .olt main_v0 main_v1
  let main_v3 : FVec F S512x2048 .f32 := Host.absf main_arg1
  let main_cst_0 : FVec F S_ .f32 := constant S_ .f32 0x7F800000#32
  let main_v4 : FVec F S512x2048 .f32 := broadcastInDim S512x2048 ![] bcast_S_S512x2048 main_cst_0
  let main_v5 : IVec S512x2048 1 := cmpf .olt main_v3 main_v4
  let main_v6 : FVec F S2x128x2048 .f32 := Host.absf main_arg2
  let main_cst_1 : FVec F S_ .f32 := constant S_ .f32 0x7F800000#32
  let main_v7 : FVec F S2x128x2048 .f32 := broadcastInDim S2x128x2048 ![] bcast_S_S2x128x2048 main_cst_1
  let main_v8 : IVec S2x128x2048 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x2048 : Shape := ⟨3, ![2, 128, 2048]⟩
abbrev S256x512 : Shape := ⟨2, ![256, 512]⟩
abbrev S512x2048 : Shape := ⟨2, ![512, 2048]⟩
abbrev S2048x512 : Shape := ⟨2, ![2048, 512]⟩
abbrev S2x32x128x64 : Shape := ⟨4, ![2, 32, 128, 64]⟩
abbrev S2x4 : Shape := ⟨2, ![2, 4]⟩
abbrev S2 : Shape := ⟨1, ![2]⟩
abbrev S1 : Shape := ⟨1, ![1]⟩
abbrev S_ : Shape := ⟨0, ![]⟩
abbrev S1x1 : Shape := ⟨2, ![1, 1]⟩
abbrev S2x128x64 : Shape := ⟨3, ![2, 128, 64]⟩
abbrev S2x1x128x64 : Shape := ⟨4, ![2, 1, 128, 64]⟩
abbrev S128x128 : Shape := ⟨2, ![128, 128]⟩
abbrev S256x256 : Shape := ⟨2, ![256, 256]⟩
abbrev S2x128x4x64 : Shape := ⟨4, ![2, 128, 4, 64]⟩
abbrev S2x4x128x64 : Shape := ⟨4, ![2, 4, 128, 64]⟩
abbrev S8x128x64 : Shape := ⟨3, ![8, 128, 64]⟩
abbrev S8x128x128 : Shape := ⟨3, ![8, 128, 128]⟩
abbrev S1x128x128 : Shape := ⟨3, ![1, 128, 128]⟩
abbrev S8x128 : Shape := ⟨2, ![8, 128]⟩
abbrev S8x128x1 : Shape := ⟨3, ![8, 128, 1]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x2048, .f32⟩
  | .hbm, ⟨3, _⟩ => ⟨S2x128x2048, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x512, .f32⟩
  | .local _ .vmem, ⟨3, _⟩ => ⟨S2x128x512, .f32⟩
  | .local _ .vmem, ⟨4, _⟩ => ⟨S512x2048, .bf16⟩
  | .local _ .vmem, ⟨5, _⟩ => ⟨S2048x512, .bf16⟩
  | .local _ .vmem, ⟨6, _⟩ => ⟨S2x128x2048, .f32⟩
  | .local _ .vmem, ⟨7, _⟩ => ⟨S2x128x2048, .f32⟩
  | .local _ .vmem, ⟨8, _⟩ => ⟨S2x32x128x64, .bf16⟩
  | .local _ .vmem, ⟨9, _⟩ => ⟨S2x32x128x64, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 2 → Bool
  | ⟨0, _⟩ => false
  | ⟨1, _⟩ => true
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 2 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_7 : BitVec 32 := 1#32
  let v13 : BitVec 32 := Scalar.muli v5 c1_i32_7
  let v14 : BitVec 32 := Scalar.addi c0_i32_8 v13
  v14.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_10 : BitVec 32 := 1#32
  let v15 : BitVec 32 := Scalar.muli v7 c1_i32_10
  let v16 : BitVec 32 := Scalar.addi c0_i32_11 v15
  v16.toNat
def k0_off1 (d0 : Dev nD) : Fin 2 → Nat :=
  let c0_13 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v20 : BitVec 32 := Scalar.muli v2 c256_i32
  let v21 : Index := Scalar.indexCast v20
  ![0, v21.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_16 : BitVec 32 := 256#32
  let v28 : BitVec 32 := Scalar.muli v2 c256_i32_16
  let v29 : Index := Scalar.indexCast v28
  let c0_17 : Index := 0#32
  ![v29.toNat, 0]
def k0_off3 (d0 : Dev nD) (c0_i32_19 : BitVec 32) : Fin 2 → Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_18 : BitVec 32 := 8#32
  let v33 : BitVec 32 := Scalar.addi v2 c8_i32_18
  let v34 : BitVec 32 := Scalar.subi v33 c0_i32_19
  let c8_i32_20 : BitVec 32 := 8#32
  let v35 : BitVec 32 := Scalar.remsi v34 c8_i32_20
  let c256_i32_22 : BitVec 32 := 256#32
  let v37 : BitVec 32 := Scalar.muli v35 c256_i32_22
  ![0, v37.toNat]
def k0_dev3 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_69 : BitVec 32 := 1#32
  let v81 : BitVec 32 := Scalar.muli v7 c1_i32_69
  let v82 : BitVec 32 := Scalar.addi c0_i32_70 v81
  v82.toNat
def k0_off4 (d0 : Dev nD) (c0_i32_19 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_18 : BitVec 32 := 8#32
  let v33 : BitVec 32 := Scalar.addi v2 c8_i32_18
  let v34 : BitVec 32 := Scalar.subi v33 c0_i32_19
  let c8_i32_20 : BitVec 32 := 8#32
  let v35 : BitVec 32 := Scalar.remsi v34 c8_i32_20
  let c256_i32_24 : BitVec 32 := 256#32
  let v39 : BitVec 32 := Scalar.muli v35 c256_i32_24
  let c0_i32_79 : BitVec 32 := 0#32
  ![v39.toNat, 0]
def k0_dev4 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_77 : BitVec 32 := 1#32
  let v89 : BitVec 32 := Scalar.muli v7 c1_i32_77
  let v90 : BitVec 32 := Scalar.addi c0_i32_78 v89
  v90.toNat
def k0_off5 (d0 : Dev nD) (c0_i32_43 : BitVec 32) : Fin 2 → Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v59 : BitVec 32 := Scalar.addi v2 c0_i32_43
  let c8_i32_44 : BitVec 32 := 8#32
  let v60 : BitVec 32 := Scalar.remsi v59 c8_i32_44
  let c256_i32_46 : BitVec 32 := 256#32
  let v62 : BitVec 32 := Scalar.muli v60 c256_i32_46
  ![0, v62.toNat]
def k0_dev5 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_85 : BitVec 32 := 1#32
  let v97 : BitVec 32 := Scalar.muli v5 c1_i32_85
  let v98 : BitVec 32 := Scalar.addi c0_i32_86 v97
  v98.toNat
def k0_off6 (d0 : Dev nD) (c0_i32_43 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v59 : BitVec 32 := Scalar.addi v2 c0_i32_43
  let c8_i32_44 : BitVec 32 := 8#32
  let v60 : BitVec 32 := Scalar.remsi v59 c8_i32_44
  let c256_i32_48 : BitVec 32 := 256#32
  let v64 : BitVec 32 := Scalar.muli v60 c256_i32_48
  let c0_i32_95 : BitVec 32 := 0#32
  ![v64.toNat, 0]
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_93 : BitVec 32 := 1#32
  let v105 : BitVec 32 := Scalar.muli v5 c1_i32_93
  let v106 : BitVec 32 := Scalar.addi c0_i32_94 v105
  v106.toNat
def k0_off7 (d0 : Dev nD) : Fin 4 → Nat :=
  let c0_510 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v517 : BitVec 32 := Scalar.muli v2 c4_i32
  let v518 : Index := Scalar.indexCast v517
  let c0_511 : Index := 0#32
  let c0_512 : Index := 0#32
  ![0, v518.toNat, 0, 0]
def k0_dev7 (d0 : Dev nD) : Nat :=
  let c0_i32_542 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_541 : BitVec 32 := 1#32
  let v556 : BitVec 32 := Scalar.muli v7 c1_i32_541
  let v557 : BitVec 32 := Scalar.addi c0_i32_542 v556
  v557.toNat
def k0_dev8 (d0 : Dev nD) : Nat :=
  let c0_i32_558 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_557 : BitVec 32 := 1#32
  let v570 : BitVec 32 := Scalar.muli v5 c1_i32_557
  let v571 : BitVec 32 := Scalar.addi c0_i32_558 v570
  v571.toNat
def k0_dev9 (d0 : Dev nD) : Nat :=
  let c0_i32_574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_573 : BitVec 32 := 1#32
  let v584 : BitVec 32 := Scalar.muli v7 c1_i32_573
  let v585 : BitVec 32 := Scalar.addi c0_i32_574 v584
  v585.toNat
def k0_dev10 (d0 : Dev nD) : Nat :=
  let c0_i32_590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_589 : BitVec 32 := 1#32
  let v598 : BitVec 32 := Scalar.muli v5 c1_i32_589
  let v599 : BitVec 32 := Scalar.addi c0_i32_590 v598
  v599.toNat
def k0_off8 (d0 : Dev nD) (c0_i32_524 : BitVec 32) : Fin 2 → Nat :=
  let c0_594 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_522 : BitVec 32 := 8#32
  let v543 : BitVec 32 := Scalar.addi v2 c8_i32_522
  let c1_i32_523 : BitVec 32 := 1#32
  let v544 : BitVec 32 := Scalar.subi v543 c1_i32_523
  let v545 : BitVec 32 := Scalar.subi v544 c0_i32_524
  let c8_i32_525 : BitVec 32 := 8#32
  let v546 : BitVec 32 := Scalar.remsi v545 c8_i32_525
  let c256_i32_593 : BitVec 32 := 256#32
  let v606 : BitVec 32 := Scalar.muli v546 c256_i32_593
  let v607 : Index := Scalar.indexCast v606
  ![0, v607.toNat]
def k0_off9 (d0 : Dev nD) (c0_i32_524 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_522 : BitVec 32 := 8#32
  let v543 : BitVec 32 := Scalar.addi v2 c8_i32_522
  let c1_i32_523 : BitVec 32 := 1#32
  let v544 : BitVec 32 := Scalar.subi v543 c1_i32_523
  let v545 : BitVec 32 := Scalar.subi v544 c0_i32_524
  let c8_i32_525 : BitVec 32 := 8#32
  let v546 : BitVec 32 := Scalar.remsi v545 c8_i32_525
  let c256_i32_595 : BitVec 32 := 256#32
  let v609 : BitVec 32 := Scalar.muli v546 c256_i32_595
  let v610 : Index := Scalar.indexCast v609
  let c0_596 : Index := 0#32
  ![v610.toNat, 0]
def k0_off10 (d0 : Dev nD) (c0_i32_524 : BitVec 32) : Fin 4 → Nat :=
  let c0_600 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_522 : BitVec 32 := 8#32
  let v543 : BitVec 32 := Scalar.addi v2 c8_i32_522
  let c1_i32_523 : BitVec 32 := 1#32
  let v544 : BitVec 32 := Scalar.subi v543 c1_i32_523
  let v545 : BitVec 32 := Scalar.subi v544 c0_i32_524
  let c8_i32_525 : BitVec 32 := 8#32
  let v546 : BitVec 32 := Scalar.remsi v545 c8_i32_525
  let c4_i32_599 : BitVec 32 := 4#32
  let v619 : BitVec 32 := Scalar.muli v546 c4_i32_599
  let v620 : Index := Scalar.indexCast v619
  let c0_601 : Index := 0#32
  let c0_602 : Index := 0#32
  ![0, v620.toNat, 0, 0]
def k0_off11 (d0 : Dev nD) (c0_i32_527 : BitVec 32) : Fin 2 → Nat :=
  let c0_613 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_526 : BitVec 32 := 1#32
  let v547 : BitVec 32 := Scalar.addi v2 c1_i32_526
  let v548 : BitVec 32 := Scalar.addi v547 c0_i32_527
  let c8_i32_528 : BitVec 32 := 8#32
  let v549 : BitVec 32 := Scalar.remsi v548 c8_i32_528
  let c256_i32_612 : BitVec 32 := 256#32
  let v646 : BitVec 32 := Scalar.muli v549 c256_i32_612
  let v647 : Index := Scalar.indexCast v646
  ![0, v647.toNat]
def k0_off12 (d0 : Dev nD) (c0_i32_527 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_526 : BitVec 32 := 1#32
  let v547 : BitVec 32 := Scalar.addi v2 c1_i32_526
  let v548 : BitVec 32 := Scalar.addi v547 c0_i32_527
  let c8_i32_528 : BitVec 32 := 8#32
  let v549 : BitVec 32 := Scalar.remsi v548 c8_i32_528
  let c256_i32_614 : BitVec 32 := 256#32
  let v649 : BitVec 32 := Scalar.muli v549 c256_i32_614
  let v650 : Index := Scalar.indexCast v649
  let c0_615 : Index := 0#32
  ![v650.toNat, 0]
def k0_off13 (d0 : Dev nD) (c0_i32_527 : BitVec 32) : Fin 4 → Nat :=
  let c0_619 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_526 : BitVec 32 := 1#32
  let v547 : BitVec 32 := Scalar.addi v2 c1_i32_526
  let v548 : BitVec 32 := Scalar.addi v547 c0_i32_527
  let c8_i32_528 : BitVec 32 := 8#32
  let v549 : BitVec 32 := Scalar.remsi v548 c8_i32_528
  let c4_i32_618 : BitVec 32 := 4#32
  let v659 : BitVec 32 := Scalar.muli v549 c4_i32_618
  let v660 : Index := Scalar.indexCast v659
  let c0_620 : Index := 0#32
  let c0_621 : Index := 0#32
  ![0, v660.toNat, 0, 0]
def k0_dev11 (d0 : Dev nD) : Nat :=
  let c0_i32_651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_650 : BitVec 32 := 1#32
  let v699 : BitVec 32 := Scalar.muli v7 c1_i32_650
  let v700 : BitVec 32 := Scalar.addi c0_i32_651 v699
  v700.toNat
def k0_dev12 (d0 : Dev nD) : Nat :=
  let c0_i32_667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_666 : BitVec 32 := 1#32
  let v713 : BitVec 32 := Scalar.muli v5 c1_i32_666
  let v714 : BitVec 32 := Scalar.addi c0_i32_667 v713
  v714.toNat
def k0_dev13 (d0 : Dev nD) : Nat :=
  let c0_i32_683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_682 : BitVec 32 := 1#32
  let v727 : BitVec 32 := Scalar.muli v7 c1_i32_682
  let v728 : BitVec 32 := Scalar.addi c0_i32_683 v727
  v728.toNat
def k0_dev14 (d0 : Dev nD) : Nat :=
  let c0_i32_699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_698 : BitVec 32 := 1#32
  let v741 : BitVec 32 := Scalar.muli v5 c1_i32_698
  let v742 : BitVec 32 := Scalar.addi c0_i32_699 v741
  v742.toNat
def k0_dev15 (d0 : Dev nD) : Nat :=
  let c0_i32_760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_759 : BitVec 32 := 1#32
  let v842 : BitVec 32 := Scalar.muli v7 c1_i32_759
  let v843 : BitVec 32 := Scalar.addi c0_i32_760 v842
  v843.toNat
def k0_dev16 (d0 : Dev nD) : Nat :=
  let c0_i32_776 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_775 : BitVec 32 := 1#32
  let v856 : BitVec 32 := Scalar.muli v5 c1_i32_775
  let v857 : BitVec 32 := Scalar.addi c0_i32_776 v856
  v857.toNat
def k0_dev17 (d0 : Dev nD) : Nat :=
  let c0_i32_975_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_974_r0 : BitVec 32 := 1#32
  let v1071_r0 : BitVec 32 := Scalar.muli v5 c1_i32_974_r0
  let v1072_r0 : BitVec 32 := Scalar.addi c0_i32_975_r0 v1071_r0
  v1072_r0.toNat
def k0_dev18 (d0 : Dev nD) : Nat :=
  let c0_i32_978_r0 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_977_r0 : BitVec 32 := 1#32
  let v1073_r0 : BitVec 32 := Scalar.muli v7 c1_i32_977_r0
  let v1074_r0 : BitVec 32 := Scalar.addi c0_i32_978_r0 v1073_r0
  v1074_r0.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x512 : Shape := ⟨3, ![2, 1024, 512]⟩
abbrev S512x2048 : Shape := ⟨2, ![512, 2048]⟩
abbrev S2x128x2048 : Shape := ⟨3, ![2, 128, 2048]⟩
abbrev S2048x512 : Shape := ⟨2, ![2048, 512]⟩
abbrev S2x128x32x64 : Shape := ⟨4, ![2, 128, 32, 64]⟩
abbrev S2x1024x2048 : Shape := ⟨3, ![2, 1024, 2048]⟩
abbrev S2x1024x32x64 : Shape := ⟨4, ![2, 1024, 32, 64]⟩
abbrev S1024 : Shape := ⟨1, ![1024]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S2x32x1024x128 : Shape := ⟨4, ![2, 32, 1024, 128]⟩
abbrev S1x1x1024x128 : Shape := ⟨4, ![1, 1, 1024, 128]⟩
abbrev S2x32x1024 : Shape := ⟨3, ![2, 32, 1024]⟩
abbrev S2x32x1024x1 : Shape := ⟨4, ![2, 32, 1024, 1]⟩
abbrev S1x1x1024x1 : Shape := ⟨4, ![1, 1, 1024, 1]⟩
abbrev S2x32x64x1024 : Shape := ⟨4, ![2, 32, 64, 1024]⟩

abbrev nBuf : Space → Nat
  | .hbm => 125
  | .vmem => 0
  | .smem => 0
  | _ => 0

abbrev bufTy : (tb : Table) → Fin (tcTables nBuf tb) → BufTy
  | .hbm, ⟨0, _⟩ => ⟨S2x1024x512, .f32⟩
  | .hbm, ⟨1, _⟩ => ⟨S512x2048, .f32⟩
  | .hbm, ⟨2, _⟩ => ⟨S2x128x2048, .f32⟩
  | .hbm, ⟨3, _⟩ => ⟨S2x128x2048, .f32⟩
  | .hbm, ⟨4, _⟩ => ⟨S2048x512, .f32⟩
  | .hbm, ⟨5, _⟩ => ⟨S2x128x32x64, .f32⟩
  | .hbm, ⟨6, _⟩ => ⟨S2x128x32x64, .f32⟩
  | .hbm, ⟨7, _⟩ => ⟨S2x1024x2048, .f32⟩
  | .hbm, ⟨8, _⟩ => ⟨S2x1024x32x64, .f32⟩
  | .hbm, ⟨9, _⟩ => ⟨S1024, .i32⟩
  | .hbm, ⟨10, _⟩ => ⟨S_, .i32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S1024, .i32⟩
  | .hbm, ⟨19, _⟩ => ⟨S1024, .i32⟩
  | .hbm, ⟨20, _⟩ => ⟨S_, .i32⟩
  | .hbm, ⟨21, _⟩ => ⟨S1024, .i32⟩
  | .hbm, ⟨22, _⟩ => ⟨S1024, .i1⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S128, .i32⟩
  | .hbm, ⟨30, _⟩ => ⟨S_, .i32⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .i32⟩
  | .hbm, ⟨35, _⟩ => ⟨S_, .i32⟩
  | .hbm, ⟨36, _⟩ => ⟨S128, .i32⟩
  | .hbm, ⟨37, _⟩ => ⟨S128, .i1⟩
  | .hbm, ⟨38, _⟩ => ⟨S128, .i32⟩
  | .hbm, ⟨39, _⟩ => ⟨S128, .i32⟩
  | .hbm, ⟨40, _⟩ => ⟨S_, .i32⟩
  | .hbm, ⟨41, _⟩ => ⟨S128, .i32⟩
  | .hbm, ⟨42, _⟩ => ⟨S128, .i1⟩
  | .hbm, ⟨43, _⟩ => ⟨S128, .i1⟩
  | .hbm, ⟨44, _⟩ => ⟨S_, .i32⟩
  | .hbm, ⟨45, _⟩ => ⟨S128, .i32⟩
  | .hbm, ⟨46, _⟩ => ⟨S128, .i32⟩
  | .hbm, ⟨47, _⟩ => ⟨S128, .i32⟩
  | .hbm, ⟨48, _⟩ => ⟨S1x128, .i32⟩
  | .hbm, ⟨49, _⟩ => ⟨S1024x128, .i32⟩
  | .hbm, ⟨50, _⟩ => ⟨S1024x128, .i32⟩
  | .hbm, ⟨51, _⟩ => ⟨S1024x128, .i1⟩
  | .hbm, ⟨52, _⟩ => ⟨S_, .i32⟩
  | .hbm, ⟨53, _⟩ => ⟨S1x128, .i32⟩
  | .hbm, ⟨54, _⟩ => ⟨S1x128, .i1⟩
  | .hbm, ⟨55, _⟩ => ⟨S1024x128, .i1⟩
  | .hbm, ⟨56, _⟩ => ⟨S1024x128, .i1⟩
  | .hbm, ⟨57, _⟩ => ⟨S1024x128, .i32⟩
  | .hbm, ⟨58, _⟩ => ⟨S1024x128, .i32⟩
  | .hbm, ⟨59, _⟩ => ⟨S1024x128, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i1⟩
  | .hbm, ⟨64, _⟩ => ⟨S_, .i32⟩
  | .hbm, ⟨65, _⟩ => ⟨S_, .i32⟩
  | .hbm, ⟨66, _⟩ => ⟨S1024x128, .i32⟩
  | .hbm, ⟨67, _⟩ => ⟨S1024x128, .i32⟩
  | .hbm, ⟨68, _⟩ => ⟨S_, .i32⟩
  | .hbm, ⟨69, _⟩ => ⟨S1024x128, .i32⟩
  | .hbm, ⟨70, _⟩ => ⟨S1024x128, .i1⟩
  | .hbm, ⟨71, _⟩ => ⟨S_, .i32⟩
  | .hbm, ⟨72, _⟩ => ⟨S1024x128, .i32⟩
  | .hbm, ⟨73, _⟩ => ⟨S1024x128, .i1⟩
  | .hbm, ⟨74, _⟩ => ⟨S_, .i32⟩
  | .hbm, ⟨75, _⟩ => ⟨S_, .i1⟩
  | .hbm, ⟨76, _⟩ => ⟨S1024x128, .i1⟩
  | .hbm, ⟨77, _⟩ => ⟨S1024x128, .i1⟩
  | .hbm, ⟨78, _⟩ => ⟨S1024x128, .i1⟩
  | .hbm, ⟨79, _⟩ => ⟨S1024x128, .i32⟩
  | .hbm, ⟨80, _⟩ => ⟨S1024x128, .i32⟩
  | .hbm, ⟨81, _⟩ => ⟨S1024x128, .i32⟩
  | .hbm, ⟨82, _⟩ => ⟨S_, .i32⟩
  | .hbm, ⟨83, _⟩ => ⟨S1024x128, .i32⟩
  | .hbm, ⟨84, _⟩ => ⟨S1024x128, .i1⟩
  | .hbm, ⟨85, _⟩ => ⟨S1024x128, .i1⟩
  | .hbm, ⟨86, _⟩ => ⟨S2x32x1024x128, .f32⟩
  | .hbm, ⟨87, _⟩ => ⟨S_, .f32⟩
  | .hbm, ⟨88, _⟩ => ⟨S2x32x1024x128, .f32⟩
  | .hbm, ⟨89, _⟩ => ⟨S2x32x1024x128, .f32⟩
  | .hbm, ⟨90, _⟩ => ⟨S1x1x1024x128, .i1⟩
  | .hbm, ⟨91, _⟩ => ⟨S_, .f32⟩
  | .hbm, ⟨92, _⟩ => ⟨S_, .f32⟩
  | .hbm, ⟨93, _⟩ => ⟨S2x32x1024x128, .i1⟩
  | .hbm, ⟨94, _⟩ => ⟨S2x32x1024x128, .f32⟩
  | .hbm, ⟨95, _⟩ => ⟨S2x32x1024x128, .f32⟩
  | .hbm, ⟨96, _⟩ => ⟨S_, .f32⟩
  | .hbm, ⟨97, _⟩ => ⟨S2x32x1024, .f32⟩
  | .hbm, ⟨98, _⟩ => ⟨S2x32x1024x1, .f32⟩
  | .hbm, ⟨99, _⟩ => ⟨S2x32x1024x128, .f32⟩
  | .hbm, ⟨100, _⟩ => ⟨S2x32x1024x128, .f32⟩
  | .hbm, ⟨101, _⟩ => ⟨S2x32x1024x128, .f32⟩
  | .hbm, ⟨102, _⟩ => ⟨S_, .i1⟩
  | .hbm, ⟨103, _⟩ => ⟨S1024, .i1⟩
  | .hbm, ⟨104, _⟩ => ⟨S1x1x1024x1, .i1⟩
  | .hbm, ⟨105, _⟩ => ⟨S_, .f32⟩
  | .hbm, ⟨106, _⟩ => ⟨S2x32x1024, .f32⟩
  | .hbm, ⟨107, _⟩ => ⟨S2x32x1024x1, .f32⟩
  | .hbm, ⟨108, _⟩ => ⟨S_, .f32⟩
  | .hbm, ⟨109, _⟩ => ⟨S_, .f32⟩
  | .hbm, ⟨110, _⟩ => ⟨S2x32x1024x1, .i1⟩
  | .hbm, ⟨111, _⟩ => ⟨S2x32x1024x1, .f32⟩
  | .hbm, ⟨112, _⟩ => ⟨S2x32x1024x1, .f32⟩
  | .hbm, ⟨113, _⟩ => ⟨S2x32x1024x128, .f32⟩
  | .hbm, ⟨114, _⟩ => ⟨S2x32x1024x128, .f32⟩
  | .hbm, ⟨115, _⟩ => ⟨S1x1x1024x1, .i1⟩
  | .hbm, ⟨116, _⟩ => ⟨S_, .f32⟩
  | .hbm, ⟨117, _⟩ => ⟨S_, .f32⟩
  | .hbm, ⟨118, _⟩ => ⟨S2x32x1024x128, .i1⟩
  | .hbm, ⟨119, _⟩ => ⟨S2x32x1024x128, .f32⟩
  | .hbm, ⟨120, _⟩ => ⟨S2x32x1024x128, .f32⟩
  | .hbm, ⟨121, _⟩ => ⟨S2x32x64x1024, .f32⟩
  | .hbm, ⟨122, _⟩ => ⟨S2x1024x32x64, .f32⟩
  | .hbm, ⟨123, _⟩ => ⟨S2x1024x2048, .f32⟩
  | .hbm, ⟨124, _⟩ => ⟨S2x1024x512, .f32⟩
  | _, _ => ⟨S2x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_c_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_c : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_0 : Ref sig .tc := ⟨.hbm, 44, rfl⟩
abbrev main_call1_v12 : Ref sig .tc := ⟨.hbm, 45, rfl⟩
abbrev main_call1_v13 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_c_1 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_c_2 : Ref sig .tc := ⟨.hbm, 60, rfl⟩
abbrev main_call2_v0 : Ref sig .tc := ⟨.hbm, 61, rfl⟩
abbrev main_call2_c : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_c_1 : Ref sig .tc := ⟨.hbm, 68, rfl⟩
abbrev main_call2_v5 : Ref sig .tc := ⟨.hbm, 69, rfl⟩
abbrev main_call2_v6 : Ref sig .tc := ⟨.hbm, 70, rfl⟩
abbrev main_call2_c_2 : Ref sig .tc := ⟨.hbm, 71, rfl⟩
abbrev main_call2_v7 : Ref sig .tc := ⟨.hbm, 72, rfl⟩
abbrev main_call2_v8 : Ref sig .tc := ⟨.hbm, 73, rfl⟩
abbrev main_call2_c_3 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_v20 : Ref sig .tc := ⟨.hbm, 81, rfl⟩
abbrev main_c_3 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_cst : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_cst_4 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v28 : Ref sig .tc := ⟨.hbm, 95, rfl⟩
abbrev main_cst_5 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_c_6 : Ref sig .tc := ⟨.hbm, 102, rfl⟩
abbrev main_v34 : Ref sig .tc := ⟨.hbm, 103, rfl⟩
abbrev main_v35 : Ref sig .tc := ⟨.hbm, 104, rfl⟩
abbrev main_cst_7 : Ref sig .tc := ⟨.hbm, 105, rfl⟩
abbrev main_v36 : Ref sig .tc := ⟨.hbm, 106, rfl⟩
abbrev main_v37 : Ref sig .tc := ⟨.hbm, 107, rfl⟩
abbrev main_cst_8 : Ref sig .tc := ⟨.hbm, 108, rfl⟩
abbrev main_call4_v0 : Ref sig .tc := ⟨.hbm, 109, rfl⟩
abbrev main_call4_v1 : Ref sig .tc := ⟨.hbm, 110, rfl⟩
abbrev main_call4_v2 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_cst_9 : Ref sig .tc := ⟨.hbm, 116, rfl⟩
abbrev main_call5_v0 : Ref sig .tc := ⟨.hbm, 117, rfl⟩
abbrev main_call5_v1 : Ref sig .tc := ⟨.hbm, 118, rfl⟩
abbrev main_call5_v2 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩

abbrev nD : Nat := 1
abbrev τ : Topo := Topo.v7x

variable {F : FTy → Type} [FloatOps F]
-- ==== Proof.Proto.lean ====
/- The ring protocol of the kernel: the eight devices, the fourteen block transfers each device makes, the
   semaphore cells they use, what each cell hands over (with contents), what each device owes and in which
   order of levels it may wait. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The machine the kernel starts in: memory `m`, every semaphore zero. -/
def s₀ : MemSt nD τ sig (Elt F) := ⟨m, fun _ => 0, ρ⟩

/-! ## The ring -/

set_option backward.proofsInPublic true in
/-- The device `k` places forward of `c` on the ring. -/
def fw (c : Dev nD) (k : Fin 8) : Dev nD := ⟨(c.val + k.val) % 8, Nat.mod_lt _ (by decide)⟩
abbrev nxt (c : Dev nD) : Dev nD := fw c 1
abbrev prv (c : Dev nD) : Dev nD := fw c 7
theorem prv_nxt (c : Dev nD) : prv (nxt c) = c := by revert c; decide
theorem nxt_prv (c : Dev nD) : nxt (prv c) = c := by revert c; decide
theorem fw_zero (c : Dev nD) : fw c 0 = c := by revert c; decide

def ring : Dev nD ≃ Dev nD := ⟨nxt, prv, prv_nxt, nxt_prv⟩
/-- Every device is some number of places forward of `c`. -/
def around (c : Dev nD) : Fin 8 ≃ Dev nD :=
  ⟨fw c, fun d => ⟨(d.val + 8 - c.val) % 8, Nat.mod_lt _ (by decide)⟩, by revert c; decide, by revert c; decide⟩

/-! ## The fourteen transfers

In the order the device starts them: the `Wq` and `Wo` blocks rightwards (to `nxt`) and leftwards (to `prv`), hop by hop. -/

/-- Whether transfer `t` moves a `Wo` block (else a `Wq` block). -/
def isO : Fin 14 → Bool := ![false, true, false, true, false, true, true, false, false, true, true, false, false, true]
/-- Whether it goes right. -/
def isR : Fin 14 → Bool := ![true, true, false, false, true, false, true, false, true, false, true, false, true, false]
/-- Its hop. -/
def hop : Fin 14 → ℕ := ![0, 0, 0, 0, 1, 1, 1, 1, 2, 2, 2, 2, 3, 3]
/-- How far forward of the sender the block it sends started. -/
def sK : Fin 14 → Fin 8 := ![0, 0, 0, 0, 7, 1, 7, 1, 6, 2, 6, 2, 5, 3]
/-- How far forward of the receiver that block started. -/
def rK : Fin 14 → Fin 8 := ![7, 7, 1, 1, 6, 2, 6, 2, 5, 3, 5, 3, 4, 4]
/-- How far forward of the sender the receiver is. -/
def dK : Fin 14 → Fin 8 := ![1, 1, 7, 7, 1, 7, 1, 7, 1, 7, 1, 7, 1, 7]
/-- How far forward of the receiver the sender is. -/
def pK : Fin 14 → Fin 8 := ![7, 7, 1, 1, 7, 1, 7, 1, 7, 1, 7, 1, 7, 1]
/-- The send and receive semaphores. -/
def sendV : Fin 14 → ℕ := ![4, 8, 20, 24, 5, 25, 9, 21, 6, 26, 10, 22, 7, 27]
def recvV : Fin 14 → ℕ := ![12, 16, 28, 32, 13, 33, 17, 29, 14, 34, 18, 30, 15, 35]

/-- The receiver of `c`'s transfer `t`, and the device `c` receives transfer `t` from. -/
abbrev dst (t : Fin 14) (c : Dev nD) : Dev nD := fw c (dK t)
abbrev src (t : Fin 14) (c : Dev nD) : Dev nD := fw c (pK t)
theorem dst_src (t : Fin 14) (c : Dev nD) : dst t (src t c) = c := by revert t c; decide
theorem src_dst (t : Fin 14) (c : Dev nD) : src t (dst t c) = c := by revert t c; decide
/-- The block a transfer moves, seen from its two ends. -/
theorem blk_dst (t : Fin 14) (c : Dev nD) : fw (dst t c) (rK t) = fw c (sK t) := by revert t c; decide
theorem blk_src (t : Fin 14) (c : Dev nD) : fw (src t c) (sK t) = fw c (rK t) := by revert t c; decide

set_option backward.proofsInPublic true in
def sendS (t : Fin 14) : DmaSem sig := ⟨sendV t, by revert t; decide⟩
set_option backward.proofsInPublic true in
def recvS (t : Fin 14) : DmaSem sig := ⟨recvV t, by revert t; decide⟩
/-- A transfer's semaphore on its sending (`false`) or receiving (`true`) side. -/
def xS : Bool × Fin 14 → DmaSem sig := fun bt => if bt.1 then recvS bt.2 else sendS bt.2
/-- The two semaphores of the local `K`, `V` copies. -/
abbrev kvS (b : Bool) : DmaSem sig := if b then ⟨37, by decide⟩ else ⟨36, by decide⟩

/-- Which transfer, and which side of it, a DMA semaphore serves. -/
def dec (q : DmaSem sig) : Option (Bool × Fin 14) :=
  match (List.finRange 14).find? (fun t => sendV t == q.val) with
  | some t => some (false, t)
  | none => match (List.finRange 14).find? (fun t => recvV t == q.val) with
    | some t => some (true, t)
    | none => none
theorem dec_x (bt : Bool × Fin 14) : dec (xS bt) = some bt := by revert bt; decide
theorem dec_send (t : Fin 14) : dec (sendS t) = some (false, t) := dec_x (false, t)
theorem dec_recv (t : Fin 14) : dec (recvS t) = some (true, t) := dec_x (true, t)

/-- The barrier semaphore and the exit semaphore. -/
abbrev barS : Sem sig := (SemArray.scalar (sig.barrier 0 rfl) : Sems sig S_).sem
abbrev exitS : Sem sig := (cc0_scoped0 : Sems sig S_).sem
theorem exit_ne_bar : exitS ≠ barS := by decide

abbrev barCell (c : Dev nD) : GSem nD τ sig := ((c : Thread nD τ), .reg barS)
abbrev exitCell (c : Dev nD) : GSem nD τ sig := ((c : Thread nD τ), .reg exitS)
abbrev sendCell (t : Fin 14) (c : Dev nD) : GSem nD τ sig := ((c : Thread nD τ), .dma (sendS t))
abbrev recvCell (t : Fin 14) (c : Dev nD) : GSem nD τ sig := ((c : Thread nD τ), .dma (recvS t))

/-- The cells of one device under the protocol: barrier, exit, and the two sides of each transfer. -/
abbrev CI : Type := Bool ⊕ (Bool × Fin 14)
abbrev cSem : CI → SemLoc sig := fun | .inl false => .reg barS | .inl true => .reg exitS | .inr bt => .dma (xS bt)
abbrev kcell (ck : Dev nD × CI) : GSem nD τ sig := ((ck.1 : Thread nD τ), cSem ck.2)

/-! ## The blocks of the two gathered buffers -/

abbrev wqM : Memref sig .tc .vmem S512x2048 .bf16 := Memref.whole cc0_scratch0
abbrev woM : Memref sig .tc .vmem S2048x512 .bf16 := Memref.whole cc0_scratch1

theorem q_inb (j : Dev nD) : ∀ a, (![0, 256 * j.val] : Fin 2 → ℕ) a + S512x256.size a ≤ S512x2048.size a := by revert j; decide
theorem o_inb (j : Dev nD) : ∀ a, (![256 * j.val, 0] : Fin 2 → ℕ) a + S256x512.size a ≤ S2048x512.size a := by revert j; decide
/-- The rectangle of device `j`'s columns of the gathered `Wq`, and of its rows of the gathered `Wo`. -/
abbrev qR (j : Dev nD) : Rect S512x2048 := Rect.unit (s := S512x2048) ![0, 256 * j.val] S512x256.size (q_inb j)
abbrev oR (j : Dev nD) : Rect S2048x512 := Rect.unit (s := S2048x512) ![256 * j.val, 0] S256x512.size (o_inb j)
abbrev wqB (j : Dev nD) : Memref sig .tc .vmem S512x256 .bf16 := wqM.slice (qR j) (fun _ => rfl)
abbrev woB (j : Dev nD) : Memref sig .tc .vmem S256x512 .bf16 := woM.slice (oR j) (fun _ => rfl)

/-- A slice at the block's offsets, however they are written, is the block. -/
theorem wqB_of {off : Fin 2 → ℕ} {h : ∀ a, off a + S512x256.size a ≤ S512x2048.size a} {j : Dev nD} (e : off = ![0, 256 * j.val]) :
    (wqM.slice (Rect.unit (s := S512x2048) off S512x256.size h) (fun _ => rfl) : Memref sig .tc .vmem S512x256 .bf16) = wqB j := by
  subst e; rfl
theorem woB_of {off : Fin 2 → ℕ} {h : ∀ a, off a + S256x512.size a ≤ S2048x512.size a} {j : Dev nD} (e : off = ![256 * j.val, 0]) :
    (woM.slice (Rect.unit (s := S2048x512) off S256x512.size h) (fun _ => rfl) : Memref sig .tc .vmem S256x512 .bf16) = woB j := by
  subst e; rfl

/-- The elements of a block. -/
abbrev setQ (j : Dev nD) : Finset (Idx (((0 : Dev nD) : Thread nD τ).loc cc0_scratch0)) := (wqB j).view.set
abbrev setO (j : Dev nD) : Finset (Idx (((0 : Dev nD) : Thread nD τ).loc cc0_scratch1)) := (woB j).view.set

theorem mem_setQ (j : Dev nD) (i : S512x2048.Idx) : i ∈ (wqB j).view.set ↔ (i 1).val / 256 = j.val := by
  rw [show (wqB j).view.set = (qR j).set from View.set_slice_whole _ _, Rect.mem_set_unit, Fin.forall_fin_two]
  have h0 : (i 0).val < 512 := (i 0).isLt
  have h1 : (i 1).val < 2048 := (i 1).isLt
  simp only [Matrix.cons_val_zero, Matrix.cons_val_one]
  show (_ ∧ _ < 0 + 512) ∧ _ ∧ _ < 256 * j.val + 256 ↔ _
  omega
theorem mem_setO (j : Dev nD) (i : S2048x512.Idx) : i ∈ (woB j).view.set ↔ (i 0).val / 256 = j.val := by
  rw [show (woB j).view.set = (oR j).set from View.set_slice_whole _ _, Rect.mem_set_unit, Fin.forall_fin_two]
  have h0 : (i 0).val < 2048 := (i 0).isLt
  have h1 : (i 1).val < 512 := (i 1).isLt
  simp only [Matrix.cons_val_zero, Matrix.cons_val_one]
  show (_ ∧ _ < 256 * j.val + 256) ∧ _ ∧ _ < 0 + 512 ↔ _
  omega

/-- A copy of a block credits this many bytes' worth, `Wq` and `Wo` blocks alike. -/
abbrev N : ℕ := (wqB 0).view.dmaCredit
theorem N_pos : 0 < N := View.dmaCredit_pos _ (by decide)
theorem credit_q (j : Dev nD) : (wqB j).view.dmaCredit = N := rfl
theorem credit_o (j : Dev nD) : (woB j).view.dmaCredit = N := by decide +revert

/-! ## Contents -/

/-- What the pipeline stages on device `c`: its `x` block, its `Wq` columns, its `Wo` rows. -/
def xstg (c : Dev nD) : (cc0_stg0_0 : Ref sig .tc).ty.Contents (Elt F) :=
  (win0_0.blk (0 : Fin 1)).view.read (Elt F) ((s₀ m ρ).mem ((c : Thread nD τ).loc main_arg0))
def qstg (c : Dev nD) : (cc0_stg1_0 : Ref sig .tc).ty.Contents (Elt F) :=
  (win0_1.blk (0 : Fin 1)).view.read (Elt F) ((s₀ m ρ).mem ((c : Thread nD τ).loc main_arg1))
def ostg (c : Dev nD) : (cc0_stg2_0 : Ref sig .tc).ty.Contents (Elt F) :=
  (win0_2.blk (0 : Fin 1)).view.read (Elt F) ((s₀ m ρ).mem ((c : Thread nD τ).loc main_arg4))

/-- The block each device contributes. -/
def qblk (c : Dev nD) : FVec F S512x256 .bf16 := k0_pay1 (F := F) (qstg m ρ c)
def oblk (c : Dev nD) : FVec F S256x512 .bf16 := k0_pay3 (F := F) (k0_pay2 (F := F) (ostg m ρ c))

/-- The device whose block an index of the gathered buffer lies in, and where in the block. -/
def qdev (i : S512x2048.Idx) : Dev nD := ⟨(i 1).val / 256, by have : (i 1).val < 2048 := (i 1).isLt; show _ < 8; omega⟩
def odev (i : S2048x512.Idx) : Dev nD := ⟨(i 0).val / 256, by have : (i 0).val < 2048 := (i 0).isLt; show _ < 8; omega⟩
def qin (i : S512x2048.Idx) : S512x256.Idx := fun a => match a with
  | ⟨0, _⟩ => ⟨(i 0).val, (i 0).isLt⟩
  | ⟨1, _⟩ => ⟨(i 1).val % 256, Nat.mod_lt _ (by decide)⟩
def oin (i : S2048x512.Idx) : S256x512.Idx := fun a => match a with
  | ⟨0, _⟩ => ⟨(i 0).val % 256, Nat.mod_lt _ (by decide)⟩
  | ⟨1, _⟩ => ⟨(i 1).val, (i 1).isLt⟩

/-- The gathered buffers: every device's block in place. The same on every device. -/
def gQ : (cc0_scratch0 : Ref sig .tc).ty.Contents (Elt F) := fun i => qblk m ρ (qdev i) (qin i)
def gO : (cc0_scratch1 : Ref sig .tc).ty.Contents (Elt F) := fun i => oblk m ρ (odev i) (oin i)

theorem qR_emb (j : Dev nD) (x : S512x256.Idx) : qdev ((qR j).emb x) = j ∧ qin ((qR j).emb x) = x := by
  have h1 : (x 1).val < 256 := (x 1).isLt
  have e0 : ((qR j).emb x 0).val = 0 + 1 * (x 0).val := rfl
  have e1 : ((qR j).emb x 1).val = 256 * j.val + 1 * (x 1).val := rfl
  constructor
  · refine Fin.ext ?_
    show ((qR j).emb x 1).val / 256 = j.val
    rw [e1]; omega
  · funext a
    match a with
    | ⟨0, _⟩ => refine Fin.ext ?_; show ((qR j).emb x 0).val = (x 0).val; rw [e0]; omega
    | ⟨1, _⟩ => refine Fin.ext ?_; show ((qR j).emb x 1).val % 256 = (x 1).val; rw [e1]; omega
theorem oR_emb (j : Dev nD) (x : S256x512.Idx) : odev ((oR j).emb x) = j ∧ oin ((oR j).emb x) = x := by
  have h1 : (x 0).val < 256 := (x 0).isLt
  have e0 : ((oR j).emb x 0).val = 256 * j.val + 1 * (x 0).val := rfl
  have e1 : ((oR j).emb x 1).val = 0 + 1 * (x 1).val := rfl
  constructor
  · refine Fin.ext ?_
    show ((oR j).emb x 0).val / 256 = j.val
    rw [e0]; omega
  · funext a
    match a with
    | ⟨0, _⟩ => refine Fin.ext ?_; show ((oR j).emb x 0).val % 256 = (x 0).val; rw [e0]; omega
    | ⟨1, _⟩ => refine Fin.ext ?_; show ((oR j).emb x 1).val = (x 1).val; rw [e1]; omega

/-- Block `j` of the gathered buffer is what device `j` contributes. -/
theorem read_gQ (j : Dev nD) : (wqB j).view.read (Elt F) (gQ m ρ) = qblk m ρ j := by
  funext x
  show qblk m ρ (qdev ((qR j).emb x)) (qin ((qR j).emb x)) = _
  rw [(qR_emb j x).1, (qR_emb j x).2]
theorem read_gO (j : Dev nD) : (woB j).view.read (Elt F) (gO m ρ) = oblk m ρ j := by
  funext x
  show oblk m ρ (odev ((oR j).emb x)) (oin ((oR j).emb x)) = _
  rw [(oR_emb j x).1, (oR_emb j x).2]

/-- Writing through a view what it reads off `g` leaves `g` on the view's elements. -/
theorem write_on {κ : Kind} {sp : Space} {s : Shape} {e : EltTy} (v : View sig κ sp s e) (f g : v.ty.Contents (Elt F)) (w : s.Idx → Elt F e)
    (h : v.read (Elt F) g = w) : ∀ i ∈ v.set, v.write (Elt F) f w Finset.univ i = g i := by
  intro i hi
  subst h
  rw [View.write_read_eq_piecewise]
  exact Finset.piecewise_eq_of_mem _ _ _ hi

/-! ## Pieces -/

/-- Device `c`'s block `j` of the gathered `Wq` (`Wo`) buffer, at share `q` and contents `f`. -/
def pQ (c j : Dev nD) (q : PosShare TreeShare) (f : (cc0_scratch0 : Ref sig .tc).ty.Contents (Elt F)) : sProp 𝕄 :=
  (wqB j).view.loc (c : Thread nD τ) ↦[(wqB j).view.set]{q} f
def pO (c j : Dev nD) (q : PosShare TreeShare) (f : (cc0_scratch1 : Ref sig .tc).ty.Contents (Elt F)) : sProp 𝕄 :=
  (woB j).view.loc (c : Thread nD τ) ↦[(woB j).view.set]{q} f
/-- Either, at the gathered contents (`pc`), or at any contents whole (`pAny`). -/
def pc (o : Bool) (c j : Dev nD) (q : PosShare TreeShare) : sProp 𝕄 := if o then pO c j q (gO m ρ) else pQ c j q (gQ m ρ)
def pAny (o : Bool) (c j : Dev nD) : sProp 𝕄 := if o then iprop(∃ f, pO (F := F) c j fullShare f) else iprop(∃ f, pQ (F := F) c j fullShare f)

instance pQ_storable (c j : Dev nD) (q f) : BI.Storable (upEmb : UEmb _ 𝕄) (pQ (F := F) c j q f) := by unfold pQ; infer_instance
instance pO_storable (c j : Dev nD) (q f) : BI.Storable (upEmb : UEmb _ 𝕄) (pO (F := F) c j q f) := by unfold pO; infer_instance
instance pc_storable (o : Bool) (c j : Dev nD) (q) : BI.Storable (upEmb : UEmb _ 𝕄) (pc (F := F) m ρ o c j q) := by
  unfold pc; split <;> infer_instance
instance pAny_storable (o : Bool) (c j : Dev nD) : BI.Storable (upEmb : UEmb _ 𝕄) (pAny (F := F) o c j) := by
  unfold pAny; split <;> infer_instance

theorem pc_halves (o : Bool) (c j : Dev nD) :
    pc m ρ o c j fullShare ⊣⊢ iprop(pc m ρ o c j fullShare.left ∗ pc m ρ o c j fullShare.right) := by
  unfold pc pO pQ
  split <;> exact pointsTo_share (PosShare.mem_left_op_right fullShare)

/-- The share of its source a transfer takes: its own block goes out both ways at once, half to each; a received block
    is passed on at half, the other half staying to be read. -/
def shr (t : Fin 14) : PosShare TreeShare := if hop t = 0 ∧ isR t = false then fullShare.right else fullShare.left

/-! ## The schedule -/

/-- The landing place of `c`'s transfer `t`, at the receiver. -/
def land (t : Fin 14) (c : Dev nD) : sProp 𝕄 := pAny (isO t) (dst t c) (fw c (sK t))
/-- What the barrier hands `c`: from `nxt` (`true`) the places its right transfers land in, from `prv` (`false`) its left ones'. -/
def barT (c : Dev nD) : sProp 𝕄 :=
  iprop(land 0 c ∗ land 1 c ∗ land 4 c ∗ land 6 c ∗ land 8 c ∗ land 10 c ∗ land 12 c)
def barF (c : Dev nD) : sProp 𝕄 :=
  iprop(land 2 c ∗ land 3 c ∗ land 5 c ∗ land 7 c ∗ land 9 c ∗ land 11 c ∗ land 13 c)
/-- What a finished transfer hands back to the sender, and to the receiver. -/
def sPay (t : Fin 14) (c : Dev nD) : sProp 𝕄 := pc m ρ (isO t) c (fw c (sK t)) (shr t)
def rPay (t : Fin 14) (c : Dev nD) : sProp 𝕄 := pc m ρ (isO t) c (fw c (rK t)) fullShare

def duty (s : SemLoc sig) : Finset Bool := match s with
  | .reg _ => Finset.univ
  | .dma q => if (dec q).isSome then {false} else ∅
def amt (s : SemLoc sig) : ℕ := match s with | .reg _ => 1 | .dma _ => N
def pay (c : Dev nD) (s : SemLoc sig) (d : Bool) : sProp 𝕄 := match s with
  | .reg s => if s = barS then (if d then barT c else barF c) else iprop(emp)
  | .dma q => match dec q with
    | some (false, t) => sPay m ρ t c
    | some (true, t) => rPay m ρ t c
    | none => iprop(emp)

def Rd : Rounds.Schedule (GSem nD τ sig) Bool 𝕄 where
  duties g r := if r = 0 ∧ g.1.2 = .tc then duty g.2 else ∅
  unitless _ := False
  amount g _ _ := amt g.2
  payload g _ d := pay m ρ g.1.1 g.2 d
  amount_pos g _ _ _ := by
    rcases g with ⟨_, s | q⟩
    · exact Nat.one_pos
    · exact N_pos

instance Rd_payload_storable (g : GSem nD τ sig) (r : ℕ) (d : Bool) :
    BI.Storable (upEmb : UEmb _ 𝕄) ((Rd (F := F) m ρ).payload g r d) := by
  show BI.Storable upEmb (pay m ρ g.1.1 g.2 d)
  unfold pay barT barF land sPay rPay
  (repeat' split) <;> infer_instance

section Sched
variable (c : Dev nD)

theorem duties_bar : (Rd (F := F) m ρ).duties (barCell c) 0 = Finset.univ := by dsimp only [Rd]; exact if_pos ⟨rfl, rfl⟩
theorem duties_exit : (Rd (F := F) m ρ).duties (exitCell c) 0 = Finset.univ := by dsimp only [Rd]; exact if_pos ⟨rfl, rfl⟩
theorem duties_dma (q : DmaSem sig) (hq : (dec q).isSome) : (Rd (F := F) m ρ).duties ((c : Thread nD τ), .dma q) 0 = {false} := by
  dsimp only [Rd]; rw [if_pos ⟨rfl, rfl⟩]; exact if_pos hq
theorem duties_later (g : GSem nD τ sig) : ∀ r, 1 ≤ r → (Rd (F := F) m ρ).duties g r = ∅ :=
  fun r hr => by dsimp only [Rd]; rw [if_neg fun h => by omega]

theorem expect_reg (s : Sem sig) : (Rd (F := F) m ρ).expect ((c : Thread nD τ), .reg s) 0 = 2 := by
  unfold Schedule.expect Schedule.amountOf
  rw [show (Rd (F := F) m ρ).duties ((c : Thread nD τ), .reg s) 0 = Finset.univ from by dsimp only [Rd]; exact if_pos ⟨rfl, rfl⟩]
  rfl
theorem expect_dma (q : DmaSem sig) (hq : (dec q).isSome) : (Rd (F := F) m ρ).expect ((c : Thread nD τ), .dma q) 0 = N := by
  unfold Schedule.expect Schedule.amountOf; rw [duties_dma m ρ c q hq, Finset.sum_singleton]; rfl

theorem payload_bar_true : (Rd (F := F) m ρ).payload (barCell c) 0 true = barT c := by
  show (if barS = barS then (if true = true then barT c else barF c) else iprop(emp)) = barT (F := F) c
  rw [if_pos rfl, if_pos rfl]
theorem payload_bar_false : (Rd (F := F) m ρ).payload (barCell c) 0 false = barF c := by
  show (if barS = barS then (if false = true then barT c else barF c) else iprop(emp)) = barF (F := F) c
  rw [if_pos rfl, if_neg Bool.false_ne_true]
theorem payload_exit (d : Bool) : (Rd (F := F) m ρ).payload (exitCell c) 0 d = iprop(emp) := by
  show (if exitS = barS then (if d = true then barT c else barF c) else iprop(emp)) = iprop(emp)
  rw [if_neg exit_ne_bar]
theorem payload_send (t : Fin 14) (d : Bool) : (Rd (F := F) m ρ).payload (sendCell t c) 0 d = sPay m ρ t c := by
  show pay m ρ c (.dma (sendS t)) d = _; unfold pay; simp only [dec_send]
theorem payload_recv (t : Fin 14) (d : Bool) : (Rd (F := F) m ρ).payload (recvCell t c) 0 d = rPay m ρ t c := by
  show pay m ρ c (.dma (recvS t)) d = _; unfold pay; simp only [dec_recv]

theorem rest_bar : bigSep ((Rd (F := F) m ρ).duties (barCell c) 0 \ ∅) (fun d => (Rd (F := F) m ρ).payload (barCell c) 0 d) = iprop(barF c ∗ barT c) := by
  rw [Finset.sdiff_empty, duties_bar, bigSep_univ_eq_bigSepL [false, true] (by decide) (by decide), bigSepL_cons_cons, bigSepL_singleton,
    payload_bar_false, payload_bar_true]
  rfl
theorem rest_dma (q : DmaSem sig) (hq : (dec q).isSome) :
    bigSep ((Rd (F := F) m ρ).duties ((c : Thread nD τ), .dma q) 0 \ ∅) (fun d => (Rd (F := F) m ρ).payload ((c : Thread nD τ), .dma q) 0 d)
      = (Rd (F := F) m ρ).payload ((c : Thread nD τ), .dma q) 0 false := by
  rw [Finset.sdiff_empty, duties_dma m ρ c q hq, bigSep_singleton]

end Sched

/-! ## What each device owes, in the order it pays; the levels -/

/-- What a list of debts comes to, the first the outermost. -/
def tl : List (GSem nD τ sig × ℕ) → CellTallies nD τ sig Unit
  | [] => 0
  | x :: xs => tl xs + tallyAt x.1 () x.2

/-- Device `c`'s debts: the two barrier signals, the fourteen landings, the two exit signals. -/
def debts (c : Dev nD) : List (GSem nD τ sig × ℕ) :=
  [(barCell (prv c), 1), (barCell (nxt c), 1),
   (recvCell 0 (dst 0 c), N), (recvCell 1 (dst 1 c), N), (recvCell 2 (dst 2 c), N), (recvCell 3 (dst 3 c), N),
   (recvCell 4 (dst 4 c), N), (recvCell 5 (dst 5 c), N), (recvCell 6 (dst 6 c), N), (recvCell 7 (dst 7 c), N),
   (recvCell 8 (dst 8 c), N), (recvCell 9 (dst 9 c), N), (recvCell 10 (dst 10 c), N), (recvCell 11 (dst 11 c), N),
   (recvCell 12 (dst 12 c), N), (recvCell 13 (dst 13 c), N),
   (exitCell (prv c), 1), (exitCell (nxt c), 1)]
/-- What it still owes after the first `k` payments. -/
abbrev owe (k : ℕ) (c : Dev nD) : CellTallies nD τ sig Unit := tl ((debts c).drop k)

def lvS (s : SemLoc sig) : ℕ := match s with
  | .reg s => if s = barS then 1 else 10
  | .dma q => match dec q with
    | some (true, t) => 2 + hop t
    | _ => 0
def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem tl_pos {l : List (GSem nD τ sig × ℕ)} {g : GSem nD τ sig} {u : Unit} (h : 0 < tl l g u) : ∃ x ∈ l, x.1 = g := by
  induction l with
  | nil => exact absurd h (Nat.lt_irrefl 0)
  | cons x xs ih =>
    rw [tl, Pi.add_apply, Finsupp.add_apply, tallyAt_apply] at h
    by_cases hx : g = x.1
    · exact ⟨x, List.mem_cons_self, hx.symm⟩
    · rw [if_neg (fun h' => hx h'.1), Nat.add_zero] at h
      obtain ⟨y, hy, e⟩ := ih h
      exact ⟨y, List.mem_cons_of_mem _ hy, e⟩

/-- A device may wait on a cell while it owes only cells of higher level. -/
theorem mayWait (c : Dev nD) (s : SemLoc sig) (l : List (GSem nD τ sig × ℕ))
    (htc : ∀ x ∈ l, x.1.1.2 = .tc) (hlv : ∀ x ∈ l, lvS s < lvS x.1.2) :
    (levAts L lv : sProp 𝕄) ⊢ MayWait (c : Thread nD τ) s () (tl l) :=
  MayOwe.of_cut (L := L) (lev := lv) (lvS s) (fun p hp => by rw [Finset.mem_singleton.mp hp, L_tc]; exact Finset.mem_singleton_self _)
    (fun g u hg => by
      obtain ⟨x, hx, rfl⟩ := tl_pos hg
      unfold L; rw [if_pos (htc x hx)]; exact Finset.mem_singleton_self _)
    (fun p hp => by rw [Finset.mem_singleton.mp hp]; exact Nat.le_refl _)
    (fun g u hg => by obtain ⟨x, hx, rfl⟩ := tl_pos hg; exact hlv x hx)

/-- The levels of the debts, in order: the same on every device. -/
def debtLv : List ℕ := [1, 1, 2, 2, 2, 2, 3, 3, 3, 3, 4, 4, 4, 4, 5, 5, 10, 10]
theorem debts_lv (c : Dev nD) : (debts c).map (fun x => lvS x.1.2) = debtLv := by
  unfold debts
  simp only [List.map]
  decide
theorem debts_tc (c : Dev nD) : ∀ x ∈ debts c, x.1.1.2 = .tc := by
  intro x hx
  simp only [debts, List.mem_cons, List.not_mem_nil, or_false] at hx
  rcases hx with rfl | rfl | rfl | rfl | rfl | rfl | rfl | rfl | rfl | rfl | rfl | rfl | rfl | rfl | rfl | rfl | rfl | rfl <;> rfl
/-- The same after the first `k` payments, decided on the levels alone. -/
theorem mayWait_owe (c : Dev nD) (s : SemLoc sig) (k : ℕ) (h : ∀ n ∈ debtLv.drop k, lvS s < n) :
    (levAts L lv : sProp 𝕄) ⊢ MayWait (c : Thread nD τ) s () (owe k c) :=
  mayWait c s _ (fun x hx => debts_tc c x (List.mem_of_mem_drop hx)) fun x hx => by
    refine h _ ?_
    rw [← debts_lv c, ← List.map_drop]
    exact List.mem_map_of_mem hx

end Cert.RingProof

end

end
-- ==== Proof.Rules.lean ====
/- One rule per kind of step the kernel takes: the block transfers and their waits, the stores and loads of the two
   gathered buffers, the local copies of `K` and `V` and their head-by-head transposition. -/
module

public import proofs.«01_k».proof.Proof.Proto
public import Idealize.ShloMosaic.Lib.Transfers

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Running `p` on device `c` to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The shared records -/

/-- Every cell's invariant and that its round 0 is reached; and the levels. -/
def env (K : Dev nD × CI → ℕ) : sProp 𝕄 :=
  iprop((bigSep Finset.univ fun ck : Dev nD × CI => cellInv ER (Rd m ρ) (K ck) (kcell ck))
    ∗ (bigSep Finset.univ fun ck : Dev nD × CI => reached ER (kcell ck) 0) ∗ levAts L lv)
instance env_persistent (K : Dev nD × CI → ℕ) : BI.Persistent (env (F := F) m ρ K) := by unfold env; infer_instance

theorem inv_at (K : Dev nD × CI → ℕ) (ck : Dev nD × CI) :
    (bigSep Finset.univ fun ck : Dev nD × CI => (cellInv ER (Rd m ρ) (K ck) (kcell ck) : sProp 𝕄)) ⊢ cellInv ER (Rd m ρ) (K ck) (kcell ck) :=
  bigSep_elim (Finset.mem_univ ck)
omit [FloatOps F] in
theorem reached_at (ck : Dev nD × CI) :
    (bigSep Finset.univ fun ck : Dev nD × CI => (reached ER (kcell ck) 0 : sProp 𝕄)) ⊢ reached ER (kcell ck) 0 :=
  bigSep_elim (Finset.mem_univ ck)
theorem env_inv (K : Dev nD × CI → ℕ) (ck : Dev nD × CI) {g : GSem nD τ sig} (hg : g = kcell ck) : env m ρ K ⊢ cellInv ER (Rd m ρ) (K ck) g := by
  subst hg
  unfold env
  iintro ⟨#H, -, -⟩
  iapply (inv_at m ρ K ck); iexact H
theorem env_reached (K : Dev nD × CI → ℕ) (ck : Dev nD × CI) {g : GSem nD τ sig} (hg : g = kcell ck) : env m ρ K ⊢ (reached ER g 0 : sProp 𝕄) := by
  subst hg
  unfold env
  iintro ⟨-, #H, -⟩
  iapply (reached_at (F := F) ck); iexact H
theorem env_lev (K : Dev nD × CI → ℕ) : env m ρ K ⊢ (levAts L lv : sProp 𝕄) := by
  unfold env
  iintro ⟨-, -, #H⟩; iexact H

/-- What device `c` owes after `j` payments, whatever it has waited for. -/
def ow (j : ℕ) (c : Dev nD) : sProp 𝕄 := iprop(∃ W, owes (c : Thread nD τ) (owe j c) W)
/-- What `c` holds of its transfer `t` before starting it; between starting it and waiting for it; -/
def sk (t : Fin 14) (c : Dev nD) : sProp 𝕄 :=
  iprop(dutyTok ER (sendCell t c) 0 false ∗ dutyTok ER (recvCell t (dst t c)) 0 false ∗ atPos ER (sendCell t c) 0 ∅ 0)
def sw (t : Fin 14) (c : Dev nD) : sProp 𝕄 :=
  iprop(cred (tallyAt (sendCell t c) () N) ∗ atPos ER (sendCell t c) 0 ∅ 0)
/-- and of the transfer `t` it is to receive. -/
def rk (t : Fin 14) (c : Dev nD) : sProp 𝕄 :=
  iprop(cred (tallyAt (recvCell t c) () N) ∗ atPos ER (recvCell t c) 0 ∅ 0)

/-! ## Starting a transfer -/

theorem owe_step (c : Dev nD) (t : Fin 14) : owe (2 + t.val) c = owe (3 + t.val) c + tallyAt (recvCell t (dst t c)) () N := by
  fin_cases t <;> rfl

/-- The copy of block `j` by transfer `t`, on its parts. -/
theorem send_q_raw (c : Dev nD) (t : Fin 14) (j : Dev nD) (κ₁ κ₂ : ℕ) {W : Waits sig Unit} (fd : (cc0_scratch0 : Ref sig .tc).ty.Contents (Elt F))
    (hp₁ : pQ c j (shr t) (gQ m ρ) ⊢ sPay m ρ t c) (hp₂ : pQ (dst t c) j fullShare (gQ m ρ) ⊢ rPay m ρ t (dst t c))
    {hsc : (wqB j).view.ref.isScScratch = false} {hsrc : (wqB j).view.WordExact} {hdst : (wqB j).view.WordExact}
    {hsem : DmaTarget.Typed (nD := nD) (τ := τ) (sig := sig) .vmem (.dma (recvS t)) (.remote (Dev.tc (dst t c)) (wqB j) (.dma (sendS t)) hsc)}
    {α : Type} {Q : α → sProp 𝕄} {k : PUnit → Prog (TpuEff nD τ sig (Elt F) Λ₀ .tc) α} :
    iprop(cellInv ER (Rd m ρ) κ₁ (sendCell t c) ∗ cellInv ER (Rd m ρ) κ₂ (recvCell t (dst t c))
        ∗ pQ c j (shr t) (gQ m ρ) ∗ pQ (dst t c) j fullShare fd ∗ owes (c : Thread nD τ) (owe (2 + t.val) c) W
        ∗ dutyTok ER (sendCell t c) 0 false ∗ reached ER (sendCell t c) 0 ∗ dutyTok ER (recvCell t (dst t c)) 0 false ∗ reached ER (recvCell t (dst t c)) 0)
      ⊢ iprop(((cred (tallyAt (sendCell t c) () N) ∗ owes (c : Thread nD τ) (owe (3 + t.val) c) W) -∗ run c (k ⟨⟩) Q)
          -∗ run c (.op (.enqueueDma (wqB j) (.remote (Dev.tc (dst t c)) (wqB j) (.dma (sendS t)) hsc) (.dma (recvS t)) hsrc hdst hsem) k) Q) := by
  unfold pQ at hp₁ hp₂ ⊢
  refine Rounds.wp_send_pointsTo (src := wqB j) (c' := Dev.tc (dst t c)) (dst := wqB j) (hsc := hsc) (hsrc := hsrc) (hdst := hdst) (hsem := hsem)
    𝒱₀ ER (Rd m ρ) (c : Thread nD τ) none (κ₁ := κ₁) (κ₂ := κ₂) (r₁ := 0) (r₂ := 0) (d₁ := false) (d₂ := false) (fd := fd)
    ?_ ?_ () () N ?_ ?_ ?_ (owe (3 + t.val) c) ?_ (W := W) ?_ ?_
  · rw [duties_dma m ρ c (sendS t) (by rw [dec_send]; rfl)]; exact Finset.mem_singleton_self _
  · rw [duties_dma m ρ (dst t c) (recvS t) (by rw [dec_recv]; rfl)]; exact Finset.mem_singleton_self _
  · exact credit_q j
  · dsimp only [Rd, amt]
  · dsimp only [Rd, amt]
  · exact owe_step c t
  · rw [payload_send]; exact hp₁
  · rw [payload_recv]
    refine BIBase.Entails.trans (Entails.of_eq (pointsTo_congr fun i hi => ?_)) hp₂
    exact (write_on (wqB j).view fd (gQ m ρ) _ rfl : ∀ i ∈ _, _) i hi

/-- Starting transfer `t` of a `Wq` block: its source share goes out with it, to come back at its wait; the block
    lands at the receiver with the gathered contents. -/
theorem send_q (K : Dev nD × CI → ℕ) (c : Dev nD) (t : Fin 14) (ht : isO t = false) {n : Dev nD} (hn : n = dst t c)
    {srcM dstM : Memref sig .tc .vmem S512x256 .bf16} (hs : srcM = wqB (fw c (sK t))) (hd : dstM = wqB (fw c (sK t)))
    {sS rS : DmaSem sig} (hS : sS = sendS t) (hR : rS = recvS t)
    {hsc : dstM.view.ref.isScScratch = false} {hsrc : srcM.view.WordExact} {hdst : dstM.view.WordExact}
    {hsem : DmaTarget.Typed (nD := nD) (τ := τ) (sig := sig) .vmem (.dma rS) (.remote (Dev.tc n) dstM (.dma sS) hsc)}
    {α : Type} {Q : α → sProp 𝕄} {k : PUnit → Prog (TpuEff nD τ sig (Elt F) Λ₀ .tc) α} :
    iprop(env m ρ K ∗ sk t c ∗ land t c ∗ pc m ρ (isO t) c (fw c (sK t)) (shr t) ∗ ow (2 + t.val) c)
      ⊢ iprop(((sw t c ∗ ow (3 + t.val) c) -∗ run c (k ⟨⟩) Q)
          -∗ run c (.op (.enqueueDma srcM (.remote (Dev.tc n) dstM (.dma sS) hsc) (.dma rS) hsrc hdst hsem) k) Q) := by
  subst hn hs hd hS hR
  have hp₁ : pQ c (fw c (sK t)) (shr t) (gQ m ρ) ⊢ sPay m ρ t c := by
    unfold sPay pc; rw [ht]; exact .rfl
  have hp₂ : pQ (dst t c) (fw c (sK t)) fullShare (gQ m ρ) ⊢ rPay m ρ t (dst t c) := by
    unfold rPay pc; rw [ht, blk_dst]; exact .rfl
  have e₁ : pc m ρ (isO t) c (fw c (sK t)) (shr t) ⊢ pQ c (fw c (sK t)) (shr t) (gQ m ρ) := by
    unfold pc; rw [ht]; exact .rfl
  have e₂ : (land t c : sProp 𝕄) ⊢ iprop(∃ f, pQ (dst t c) (fw c (sK t)) fullShare f) := by
    unfold land pAny; rw [ht]; exact .rfl
  unfold sk sw ow
  iintro ⟨#HE, ⟨Ht1, Ht2, Hat⟩, Hd, Hs, ⟨%W, HO⟩⟩ Hk
  ihave Hs := e₁ $$ Hs
  ihave Hd := e₂ $$ Hd
  icases Hd with ⟨%fd, Hd⟩
  iapply (send_q_raw m ρ c t (fw c (sK t)) (K (c, .inr (false, t))) (K (dst t c, .inr (true, t))) fd hp₁ hp₂) $$ [Hs Hd HO Ht1 Ht2]
  · isplitr; · iapply (env_inv m ρ K (c, .inr (false, t)) rfl); iexact HE
    isplitr; · iapply (env_inv m ρ K (dst t c, .inr (true, t)) rfl); iexact HE
    isplitl [Hs]; · iexact Hs
    isplitl [Hd]; · iexact Hd
    isplitl [HO]; · iexact HO
    isplitl [Ht1]; · iexact Ht1
    isplitr; · iapply (env_reached m ρ K (c, .inr (false, t)) rfl); iexact HE
    isplitl [Ht2]; · iexact Ht2
    iapply (env_reached m ρ K (dst t c, .inr (true, t)) rfl); iexact HE
  iintro ⟨Hc, HO⟩
  iapply Hk
  isplitl [Hc Hat]
  · isplitl [Hc] <;> iassumption
  iexists W; iexact HO

/-- The copy of block `j` by transfer `t`, on its parts. -/
theorem send_o_raw (c : Dev nD) (t : Fin 14) (j : Dev nD) (κ₁ κ₂ : ℕ) {W : Waits sig Unit} (fd : (cc0_scratch1 : Ref sig .tc).ty.Contents (Elt F))
    (hp₁ : pO c j (shr t) (gO m ρ) ⊢ sPay m ρ t c) (hp₂ : pO (dst t c) j fullShare (gO m ρ) ⊢ rPay m ρ t (dst t c))
    {hsc : (woB j).view.ref.isScScratch = false} {hsrc : (woB j).view.WordExact} {hdst : (woB j).view.WordExact}
    {hsem : DmaTarget.Typed (nD := nD) (τ := τ) (sig := sig) .vmem (.dma (recvS t)) (.remote (Dev.tc (dst t c)) (woB j) (.dma (sendS t)) hsc)}
    {α : Type} {Q : α → sProp 𝕄} {k : PUnit → Prog (TpuEff nD τ sig (Elt F) Λ₀ .tc) α} :
    iprop(cellInv ER (Rd m ρ) κ₁ (sendCell t c) ∗ cellInv ER (Rd m ρ) κ₂ (recvCell t (dst t c))
        ∗ pO c j (shr t) (gO m ρ) ∗ pO (dst t c) j fullShare fd ∗ owes (c : Thread nD τ) (owe (2 + t.val) c) W
        ∗ dutyTok ER (sendCell t c) 0 false ∗ reached ER (sendCell t c) 0 ∗ dutyTok ER (recvCell t (dst t c)) 0 false ∗ reached ER (recvCell t (dst t c)) 0)
      ⊢ iprop(((cred (tallyAt (sendCell t c) () N) ∗ owes (c : Thread nD τ) (owe (3 + t.val) c) W) -∗ run c (k ⟨⟩) Q)
          -∗ run c (.op (.enqueueDma (woB j) (.remote (Dev.tc (dst t c)) (woB j) (.dma (sendS t)) hsc) (.dma (recvS t)) hsrc hdst hsem) k) Q) := by
  unfold pO at hp₁ hp₂ ⊢
  refine Rounds.wp_send_pointsTo (src := woB j) (c' := Dev.tc (dst t c)) (dst := woB j) (hsc := hsc) (hsrc := hsrc) (hdst := hdst) (hsem := hsem)
    𝒱₀ ER (Rd m ρ) (c : Thread nD τ) none (κ₁ := κ₁) (κ₂ := κ₂) (r₁ := 0) (r₂ := 0) (d₁ := false) (d₂ := false) (fd := fd)
    ?_ ?_ () () N ?_ ?_ ?_ (owe (3 + t.val) c) ?_ (W := W) ?_ ?_
  · rw [duties_dma m ρ c (sendS t) (by rw [dec_send]; rfl)]; exact Finset.mem_singleton_self _
  · rw [duties_dma m ρ (dst t c) (recvS t) (by rw [dec_recv]; rfl)]; exact Finset.mem_singleton_self _
  · exact credit_o j
  · dsimp only [Rd, amt]
  · dsimp only [Rd, amt]
  · exact owe_step c t
  · rw [payload_send]; exact hp₁
  · rw [payload_recv]
    refine BIBase.Entails.trans (Entails.of_eq (pointsTo_congr fun i hi => ?_)) hp₂
    exact (write_on (woB j).view fd (gO m ρ) _ rfl : ∀ i ∈ _, _) i hi

/-- Starting transfer `t` of a `Wo` block: its source share goes out with it, to come back at its wait; the block
    lands at the receiver with the gathered contents. -/
theorem send_o (K : Dev nD × CI → ℕ) (c : Dev nD) (t : Fin 14) (ht : isO t = true) {n : Dev nD} (hn : n = dst t c)
    {srcM dstM : Memref sig .tc .vmem S256x512 .bf16} (hs : srcM = woB (fw c (sK t))) (hd : dstM = woB (fw c (sK t)))
    {sS rS : DmaSem sig} (hS : sS = sendS t) (hR : rS = recvS t)
    {hsc : dstM.view.ref.isScScratch = false} {hsrc : srcM.view.WordExact} {hdst : dstM.view.WordExact}
    {hsem : DmaTarget.Typed (nD := nD) (τ := τ) (sig := sig) .vmem (.dma rS) (.remote (Dev.tc n) dstM (.dma sS) hsc)}
    {α : Type} {Q : α → sProp 𝕄} {k : PUnit → Prog (TpuEff nD τ sig (Elt F) Λ₀ .tc) α} :
    iprop(env m ρ K ∗ sk t c ∗ land t c ∗ pc m ρ (isO t) c (fw c (sK t)) (shr t) ∗ ow (2 + t.val) c)
      ⊢ iprop(((sw t c ∗ ow (3 + t.val) c) -∗ run c (k ⟨⟩) Q)
          -∗ run c (.op (.enqueueDma srcM (.remote (Dev.tc n) dstM (.dma sS) hsc) (.dma rS) hsrc hdst hsem) k) Q) := by
  subst hn hs hd hS hR
  have hp₁ : pO c (fw c (sK t)) (shr t) (gO m ρ) ⊢ sPay m ρ t c := by
    unfold sPay pc; rw [ht]; exact .rfl
  have hp₂ : pO (dst t c) (fw c (sK t)) fullShare (gO m ρ) ⊢ rPay m ρ t (dst t c) := by
    unfold rPay pc; rw [ht, blk_dst]; exact .rfl
  have e₁ : pc m ρ (isO t) c (fw c (sK t)) (shr t) ⊢ pO c (fw c (sK t)) (shr t) (gO m ρ) := by
    unfold pc; rw [ht]; exact .rfl
  have e₂ : (land t c : sProp 𝕄) ⊢ iprop(∃ f, pO (dst t c) (fw c (sK t)) fullShare f) := by
    unfold land pAny; rw [ht]; exact .rfl
  unfold sk sw ow
  iintro ⟨#HE, ⟨Ht1, Ht2, Hat⟩, Hd, Hs, ⟨%W, HO⟩⟩ Hk
  ihave Hs := e₁ $$ Hs
  ihave Hd := e₂ $$ Hd
  icases Hd with ⟨%fd, Hd⟩
  iapply (send_o_raw m ρ c t (fw c (sK t)) (K (c, .inr (false, t))) (K (dst t c, .inr (true, t))) fd hp₁ hp₂) $$ [Hs Hd HO Ht1 Ht2]
  · isplitr; · iapply (env_inv m ρ K (c, .inr (false, t)) rfl); iexact HE
    isplitr; · iapply (env_inv m ρ K (dst t c, .inr (true, t)) rfl); iexact HE
    isplitl [Hs]; · iexact Hs
    isplitl [Hd]; · iexact Hd
    isplitl [HO]; · iexact HO
    isplitl [Ht1]; · iexact Ht1
    isplitr; · iapply (env_reached m ρ K (c, .inr (false, t)) rfl); iexact HE
    isplitl [Ht2]; · iexact Ht2
    iapply (env_reached m ρ K (dst t c, .inr (true, t)) rfl); iexact HE
  iintro ⟨Hc, HO⟩
  iapply Hk
  isplitl [Hc Hat]
  · isplitl [Hc] <;> iassumption
  iexists W; iexact HO

/-! ## Waiting for one -/

theorem expect_dec (c : Dev nD) (q : DmaSem sig) (x : Bool × Fin 14) (hq : dec q = some x) :
    (Rd (F := F) m ρ).expect ((c : Thread nD τ), .dma q) 0 = N := expect_dma m ρ c q (by rw [hq]; rfl)

/-- The wait for a DMA cell of the protocol: its payload, and the cell back at zero. -/
theorem wait_cell (K : Dev nD × CI → ℕ) (c : Dev nD) (bt : Bool × Fin 14) (j : ℕ) {q : DmaSem sig} (hq : q = xS bt) (hj : ∀ n ∈ debtLv.drop j, lvS (.dma q) < n)
    {s : Shape} {e : EltTy} {srcM dstM : Memref sig .tc .vmem s e} (hN : dstM.view.dmaCredit = N)
    {hsrc : srcM.view.WordExact} {hdst : dstM.view.WordExact}
    {α : Type} {Q : α → sProp 𝕄} {k : PUnit → Prog (TpuEff nD τ sig (Elt F) Λ₀ .tc) α} :
    iprop(env m ρ K ∗ cred (tallyAt ((c : Thread nD τ), .dma q) () N) ∗ atPos ER ((c : Thread nD τ), .dma q) 0 ∅ 0 ∗ ow j c)
      ⊢ iprop(((semVal ((c : Thread nD τ), .dma q) 0 ∗ (Rd m ρ).payload ((c : Thread nD τ), .dma q) 0 false ∗ ow j c) -∗ run c (k ⟨⟩) Q)
          -∗ run c (.op (.waitDma2 q srcM dstM hsrc hdst) k) Q) := by
  unfold ow
  iintro ⟨#HE, Hc, Hat, ⟨%W, HO⟩⟩ Hk
  iapply (Rounds.wp_wait_rest_token 𝒱₀ ER (Rd m ρ) (c : Thread nD τ) none (κ := K (c, .inr bt))
      (wpE_waitDma2_eq 𝒱₀ (c : Thread nD τ) none Set.univ) (Set.mem_univ _) () (O := owe j c) (W := W) (R := 0) (m := 0) (T := ∅)
      (by rw [Nat.zero_add, hN, expect_dec m ρ c _ bt (by rw [hq, dec_x])])) $$ [Hc HO Hat]
  · isplitr; · iapply (env_inv m ρ K (c, .inr bt) (by rw [hq])); iexact HE
    isplitl [Hc]; · iapply (Entails.of_eq (by rw [hN])); iexact Hc
    isplitl [HO]; · iexact HO
    isplitr; · iapply (mayWait_owe c _ j hj); iapply (env_lev m ρ K); iexact HE
    iexact Hat
  iintro ⟨HO, Hat, -, Hpay⟩
  imod (Rounds.cell_close ER (Rd m ρ) (Set.mem_univ (K (c, .inr bt))) (fun h => h) (R := 0 + 1) (duties_later m ρ ((c : Thread nD τ), .dma q))) $$ [Hat] with Hz
  · isplitr; · iapply (env_inv m ρ K (c, .inr bt) (by rw [hq])); iexact HE
    iexact Hat
  iapply Hk
  isplitl [Hz]; · iexact Hz
  isplitl [Hpay]
  · iapply (Entails.of_eq (rest_dma m ρ c q (by rw [hq, dec_x]; rfl))); iexact Hpay
  iexists _; iexact HO

theorem credit_qslice {off : Fin 2 → ℕ} {h : ∀ a, off a + S512x256.size a ≤ S512x2048.size a} :
    (wqM.slice (Rect.unit (s := S512x2048) off S512x256.size h) (fun _ => rfl) : Memref sig .tc .vmem S512x256 .bf16).view.dmaCredit = N := rfl
theorem credit_oslice {off : Fin 2 → ℕ} {h : ∀ a, off a + S256x512.size a ≤ S2048x512.size a} :
    (woM.slice (Rect.unit (s := S2048x512) off S256x512.size h) (fun _ => rfl) : Memref sig .tc .vmem S256x512 .bf16).view.dmaCredit = N :=
  credit_o 0

/-- The wait for the arrival of transfer `t`: the block, whole, with the gathered contents. -/
theorem recv_x (K : Dev nD × CI → ℕ) (c : Dev nD) (t : Fin 14) (j : ℕ) (hj : ∀ n ∈ debtLv.drop j, lvS (.dma (recvS t)) < n)
    {s : Shape} {e : EltTy} {srcM dstM : Memref sig .tc .vmem s e} (hN : dstM.view.dmaCredit = N) {rS : DmaSem sig} (hR : rS = recvS t)
    {hsrc : srcM.view.WordExact} {hdst : dstM.view.WordExact}
    {α : Type} {Q : α → sProp 𝕄} {k : PUnit → Prog (TpuEff nD τ sig (Elt F) Λ₀ .tc) α} :
    iprop(env m ρ K ∗ rk t c ∗ ow j c)
      ⊢ iprop(((semVal (recvCell t c) 0 ∗ pc m ρ (isO t) c (fw c (rK t)) fullShare ∗ ow j c) -∗ run c (k ⟨⟩) Q)
          -∗ run c (.op (.waitDma2 rS srcM dstM hsrc hdst) k) Q) := by
  subst hR
  unfold rk
  iintro ⟨#HE, ⟨Hc, Hat⟩, HO⟩ Hk
  iapply (wait_cell m ρ K c (true, t) j (q := recvS t) rfl hj hN) $$ [Hc Hat HO]
  · isplitr; · iexact HE
    isplitl [Hc]; · iexact Hc
    isplitl [Hat] <;> iassumption
  iintro ⟨Hz, Hp, HO⟩
  iapply Hk
  isplitl [Hz]; · iexact Hz
  isplitl [Hp]
  · iapply (show (Rd m ρ).payload (recvCell t c) 0 false ⊢ pc m ρ (isO t) c (fw c (rK t)) fullShare by rw [payload_recv]; exact .rfl); iexact Hp
  iexact HO

/-- The wait for the departure of transfer `t`: the source share back. -/
theorem sent_x (K : Dev nD × CI → ℕ) (c : Dev nD) (t : Fin 14) (j : ℕ) (hj : ∀ n ∈ debtLv.drop j, lvS (.dma (sendS t)) < n)
    {s : Shape} {e : EltTy} {srcM dstM : Memref sig .tc .vmem s e} (hN : dstM.view.dmaCredit = N) {sS : DmaSem sig} (hS : sS = sendS t)
    {hsrc : srcM.view.WordExact} {hdst : dstM.view.WordExact}
    {α : Type} {Q : α → sProp 𝕄} {k : PUnit → Prog (TpuEff nD τ sig (Elt F) Λ₀ .tc) α} :
    iprop(env m ρ K ∗ sw t c ∗ ow j c)
      ⊢ iprop(((semVal (sendCell t c) 0 ∗ pc m ρ (isO t) c (fw c (sK t)) (shr t) ∗ ow j c) -∗ run c (k ⟨⟩) Q)
          -∗ run c (.op (.waitDma2 sS srcM dstM hsrc hdst) k) Q) := by
  subst hS
  unfold sw
  iintro ⟨#HE, ⟨Hc, Hat⟩, HO⟩ Hk
  iapply (wait_cell m ρ K c (false, t) j (q := sendS t) rfl hj hN) $$ [Hc Hat HO]
  · isplitr; · iexact HE
    isplitl [Hc]; · iexact Hc
    isplitl [Hat] <;> iassumption
  iintro ⟨Hz, Hp, HO⟩
  iapply Hk
  isplitl [Hz]; · iexact Hz
  isplitl [Hp]
  · iapply (show (Rd m ρ).payload (sendCell t c) 0 false ⊢ pc m ρ (isO t) c (fw c (sK t)) (shr t) by rw [payload_send]; exact .rfl); iexact Hp
  iexact HO

/-! ## The blocks of the gathered buffers, loaded and stored -/

theorem setOn_q (j : Dev nD) : wqM.view.setOn (qR j).toLoadRect.set ⊆ (wqB j).view.set := by
  rw [View.set_slice]; exact subset_of_eq rfl
theorem setOn_o (j : Dev nD) : woM.view.setOn (oR j).toLoadRect.set ⊆ (woB j).view.set := by
  rw [View.set_slice]; exact subset_of_eq rfl

/-- Loading block `j` of the gathered `Wq` gives what device `j` contributed. -/
theorem ld_q (c j : Dev nD) (q : PosShare TreeShare) {off : Fin 2 → ℕ} {h : ∀ a, off a + S512x256.size a ≤ S512x2048.size a} (e : off = ![0, 256 * j.val])
    {hl : wqM.view.LoadsAt (Rect.unit (s := S512x2048) off S512x256.size h).toLoadRect}
    {α : Type} {Q : α → sProp 𝕄} {k : Vec F S512x256 .bf16 → Prog (TpuEff nD τ sig (Elt F) Λ₀ .tc) α} :
    pc m ρ false c j q ⊢ iprop((pc m ρ false c j q -∗ run c (k (qblk m ρ j)) Q)
      -∗ run c (.op (.load wqM (Rect.unit (s := S512x2048) off S512x256.size h).toLoadRect hl) k) Q) := by
  subst e
  unfold pc pQ
  simp only [Bool.false_eq_true, if_false]
  iintro H Hk
  iapply (wp_load 𝒱₀ (c : Thread nD τ) none Set.univ (m := wqM) (setOn_q j)) $$ H
  iintro H
  rw [show wqM.view.readAt (Elt F) (qR j).toLoadRect (gQ m ρ) = qblk m ρ j from read_gQ m ρ j]
  iapply Hk; iexact H
theorem ld_o (c j : Dev nD) (q : PosShare TreeShare) {off : Fin 2 → ℕ} {h : ∀ a, off a + S256x512.size a ≤ S2048x512.size a} (e : off = ![256 * j.val, 0])
    {hl : woM.view.LoadsAt (Rect.unit (s := S2048x512) off S256x512.size h).toLoadRect}
    {α : Type} {Q : α → sProp 𝕄} {k : Vec F S256x512 .bf16 → Prog (TpuEff nD τ sig (Elt F) Λ₀ .tc) α} :
    pc m ρ true c j q ⊢ iprop((pc m ρ true c j q -∗ run c (k (oblk m ρ j)) Q)
      -∗ run c (.op (.load woM (Rect.unit (s := S2048x512) off S256x512.size h).toLoadRect hl) k) Q) := by
  subst e
  unfold pc pO
  simp only [if_true]
  iintro H Hk
  iapply (wp_load 𝒱₀ (c : Thread nD τ) none Set.univ (m := woM) (setOn_o j)) $$ H
  iintro H
  rw [show woM.view.readAt (Elt F) (oR j).toLoadRect (gO m ρ) = oblk m ρ j from read_gO m ρ j]
  iapply Hk; iexact H

/-- Loading a block not yet written, for nothing. -/
theorem lda_q (c j : Dev nD) {off : Fin 2 → ℕ} {h : ∀ a, off a + S512x256.size a ≤ S512x2048.size a} (e : off = ![0, 256 * j.val])
    {hl : wqM.view.LoadsAt (Rect.unit (s := S512x2048) off S512x256.size h).toLoadRect}
    {α : Type} {Q : α → sProp 𝕄} {k : Vec F S512x256 .bf16 → Prog (TpuEff nD τ sig (Elt F) Λ₀ .tc) α} :
    pAny false c j ⊢ iprop((∀ v, pAny false c j -∗ run c (k v) Q)
      -∗ run c (.op (.load wqM (Rect.unit (s := S512x2048) off S512x256.size h).toLoadRect hl) k) Q) := by
  subst e
  unfold pAny pQ
  simp only [Bool.false_eq_true, if_false]
  iintro ⟨%f, H⟩ Hk
  iapply (wp_load 𝒱₀ (c : Thread nD τ) none Set.univ (m := wqM) (setOn_q j)) $$ H
  iintro H
  iapply Hk; iexists f; iexact H
theorem lda_o (c j : Dev nD) {off : Fin 2 → ℕ} {h : ∀ a, off a + S256x512.size a ≤ S2048x512.size a} (e : off = ![256 * j.val, 0])
    {hl : woM.view.LoadsAt (Rect.unit (s := S2048x512) off S256x512.size h).toLoadRect}
    {α : Type} {Q : α → sProp 𝕄} {k : Vec F S256x512 .bf16 → Prog (TpuEff nD τ sig (Elt F) Λ₀ .tc) α} :
    pAny true c j ⊢ iprop((∀ v, pAny true c j -∗ run c (k v) Q)
      -∗ run c (.op (.load woM (Rect.unit (s := S2048x512) off S256x512.size h).toLoadRect hl) k) Q) := by
  subst e
  unfold pAny pO
  simp only [if_true]
  iintro ⟨%f, H⟩ Hk
  iapply (wp_load 𝒱₀ (c : Thread nD τ) none Set.univ (m := woM) (setOn_o j)) $$ H
  iintro H
  iapply Hk; iexists f; iexact H

/-- Storing the device's own block. -/
theorem st_q (c j : Dev nD) {off : Fin 2 → ℕ} {h : ∀ a, off a + S512x256.size a ≤ S512x2048.size a} (e : off = ![0, 256 * j.val])
    {hx : (wqM.access (Rect.unit (s := S512x2048) off S512x256.size h)).Stores Finset.univ} {hm}
    {α : Type} {Q : α → sProp 𝕄} {k : PUnit → Prog (TpuEff nD τ sig (Elt F) Λ₀ .tc) α} :
    pAny false c j ⊢ iprop((pc m ρ false c j fullShare -∗ run c (k ⟨⟩) Q)
      -∗ run c (.op (.store wqM (Rect.unit (s := S512x2048) off S512x256.size h) (qblk m ρ j) Finset.univ hx hm) k) Q) := by
  subst e
  unfold pAny pc pQ
  simp only [Bool.false_eq_true, if_false]
  iintro ⟨%f, H⟩ Hk
  have e : (((wqB j).view.loc (c : Thread nD τ) ↦[(wqB j).view.set]{fullShare} f : sProp 𝕄))
      ⊢ ((wqM.access (qR j)).loc (c : Thread nD τ) ↦[(wqM.access (qR j)).setOn Finset.univ]{fullShare} f) := .rfl
  ihave H := e $$ H
  iapply (wp_store 𝒱₀ (c : Thread nD τ) none Set.univ (m := wqM) (r := qR j) (Mk := Finset.univ) subset_rfl) $$ H
  iintro H
  iapply Hk
  iapply (Entails.of_eq (pointsTo_congr fun i hi => write_on (wqB j).view f (gQ m ρ) (qblk m ρ j) (read_gQ m ρ j) i hi)); iexact H
theorem st_o (c j : Dev nD) {off : Fin 2 → ℕ} {h : ∀ a, off a + S256x512.size a ≤ S2048x512.size a} (e : off = ![256 * j.val, 0])
    {hx : (woM.access (Rect.unit (s := S2048x512) off S256x512.size h)).Stores Finset.univ} {hm}
    {α : Type} {Q : α → sProp 𝕄} {k : PUnit → Prog (TpuEff nD τ sig (Elt F) Λ₀ .tc) α} :
    pAny true c j ⊢ iprop((pc m ρ true c j fullShare -∗ run c (k ⟨⟩) Q)
      -∗ run c (.op (.store woM (Rect.unit (s := S2048x512) off S256x512.size h) (oblk m ρ j) Finset.univ hx hm) k) Q) := by
  subst e
  unfold pAny pc pO
  simp only [if_true]
  iintro ⟨%f, H⟩ Hk
  have e : (((woB j).view.loc (c : Thread nD τ) ↦[(woB j).view.set]{fullShare} f : sProp 𝕄))
      ⊢ ((woM.access (oR j)).loc (c : Thread nD τ) ↦[(woM.access (oR j)).setOn Finset.univ]{fullShare} f) := .rfl
  ihave H := e $$ H
  iapply (wp_store 𝒱₀ (c : Thread nD τ) none Set.univ (m := woM) (r := oR j) (Mk := Finset.univ) subset_rfl) $$ H
  iintro H
  iapply Hk
  iapply (Entails.of_eq (pointsTo_congr fun i hi => write_on (woB j).view f (gO m ρ) (oblk m ρ j) (read_gO m ρ j) i hi)); iexact H

end Cert.RingProof

end

end
-- ==== Proof.KV.lean ====
/- The local steps: the staged arguments, the copies of `K` and `V` into the core's memory and their rearrangement head
   by head, the result's store; and the barrier and exit semaphores' steps. -/
module

public import proofs.«01_k».proof.Proof.Rules

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Signals and the two waits on counts -/

/-- A signal to the barrier or the exit semaphore of device `dst`. -/
theorem sig_x (K : Dev nD × CI → ℕ) (c : Dev nD) (b : Bool) (j : ℕ) (d : Bool) (dd : Dev nD) {n : Dev nD} (hn : n = dd)
    {s : Sem sig} (hs : SemLoc.reg s = cSem (.inl b))
    (hO : owe j c = owe (j + 1) c + tallyAt ((dd : Thread nD τ), .reg s) () 1)
    {P : sProp 𝕄} (hP : P ⊢ (Rd m ρ).payload ((dd : Thread nD τ), .reg s) 0 d)
    {α : Type} {Q : α → sProp 𝕄} {k : PUnit → Prog (TpuEff nD τ sig (Elt F) Λ₀ .tc) α} :
    iprop(env m ρ K ∗ P ∗ dutyTok ER ((dd : Thread nD τ), .reg s) 0 d ∗ ow j c)
      ⊢ iprop((ow (j + 1) c -∗ run c (k ⟨⟩) Q)
          -∗ run c (.op (.semSignal (n : Thread nD τ) s (1#32 : BitVec 32).toInt) k) Q) := by
  subst hn
  unfold ow
  iintro ⟨#HE, HP, Ht, ⟨%W, HO⟩⟩ Hk
  iapply (Rounds.wp_signal 𝒱₀ ER (Rd m ρ) (c : Thread nD τ) none (dst := (n : Thread nD τ)) (κ := K (n, .inl b))
      (d := d) (by rw [show (Rd (F := F) m ρ).duties ((n : Thread nD τ), .reg s) 0 = Finset.univ from by dsimp only [Rd]; exact if_pos ⟨rfl, rfl⟩]; exact Finset.mem_univ _)
      (show (Rd (F := F) m ρ).amount ((n : Thread nD τ), .reg s) 0 d = (1#32 : BitVec 32).toNat by dsimp only [Rd, amt]; rfl) () (owe (j + 1) c) hO) $$ [HP Ht HO]
  · isplitr; · iapply (env_inv m ρ K (n, .inl b) (by rw [hs])); iexact HE
    isplitl [HO]; · iexact HO
    isplitl [Ht]; · iexact Ht
    isplitl [HP]; · iapply hP; iexact HP
    iapply (env_reached m ρ K (n, .inl b) (by rw [hs])); iexact HE
  iintro HO
  iapply Hk
  iexists W; iexact HO

/-- The wait for both neighbours' signals. -/
theorem wait_reg (K : Dev nD × CI → ℕ) (c : Dev nD) (b : Bool) (j : ℕ) {s : Sem sig} (hs : SemLoc.reg s = cSem (.inl b))
    (hj : ∀ n ∈ debtLv.drop j, lvS (.reg s) < n)
    {α : Type} {Q : α → sProp 𝕄} {k : PUnit → Prog (TpuEff nD τ sig (Elt F) Λ₀ .tc) α} :
    iprop(env m ρ K ∗ cred (tallyAt ((c : Thread nD τ), .reg s) () 2) ∗ atPos ER ((c : Thread nD τ), .reg s) 0 ∅ 0 ∗ ow j c)
      ⊢ iprop(((semVal ((c : Thread nD τ), .reg s) 0
            ∗ (bigSep ((Rd m ρ).duties ((c : Thread nD τ), .reg s) 0 \ ∅) fun d => (Rd m ρ).payload ((c : Thread nD τ), .reg s) 0 d) ∗ ow j c) -∗ run c (k ⟨⟩) Q)
          -∗ run c (.op (.semWait s (2#32 : BitVec 32).toInt) k) Q) := by
  unfold ow
  iintro ⟨#HE, Hc, Hat, ⟨%W, HO⟩⟩ Hk
  iapply (Rounds.wp_wait_rest_token 𝒱₀ ER (Rd m ρ) (c : Thread nD τ) none (κ := K (c, .inl b))
      (wpE_semWait_eq 𝒱₀ (c : Thread nD τ) none Set.univ) (Set.mem_univ _) () (O := owe j c) (W := W) (R := 0) (m := 0) (T := ∅)
      (by rw [Nat.zero_add, expect_reg]; rfl)) $$ [Hc HO Hat]
  · isplitr; · iapply (env_inv m ρ K (c, .inl b) (by rw [hs])); iexact HE
    isplitl [Hc]; · iexact Hc
    isplitl [HO]; · iexact HO
    isplitr; · iapply (mayWait_owe c _ j hj); iapply (env_lev m ρ K); iexact HE
    iexact Hat
  iintro ⟨HO, Hat, -, Hpay⟩
  imod (Rounds.cell_close ER (Rd m ρ) (Set.mem_univ (K (c, .inl b))) (fun h => h) (R := 0 + 1) (duties_later m ρ ((c : Thread nD τ), .reg s))) $$ [Hat] with Hz
  · isplitr; · iapply (env_inv m ρ K (c, .inl b) (by rw [hs])); iexact HE
    iexact Hat
  iapply Hk
  isplitl [Hz]; · iexact Hz
  isplitl [Hpay]; · iexact Hpay
  iexists _; iexact HO

/-! ## The staged arguments -/

/-- Device `c`'s buffer `b`, whole, at contents `f`. -/
abbrev whole (c : Dev nD) (b : Ref sig .tc) (f : Buf (Elt F) ((c : Thread nD τ).loc b)) : sProp 𝕄 := ((c : Thread nD τ).loc b) ↦{fullShare} f

/-- Loading a whole two-axis (three-axis) buffer gives its contents. -/
theorem ld_stg1 (c : Dev nD) (f : (cc0_stg1_0 : Ref sig .tc).ty.Contents (Elt F)) {h} {hl}
    {α : Type} {Q : α → sProp 𝕄} {k : Vec F S512x256 .f32 → Prog (TpuEff nD τ sig (Elt F) Λ₀ .tc) α} :
    whole c cc0_stg1_0 f ⊢ iprop((whole c cc0_stg1_0 f -∗ run c (k f) Q)
      -∗ run c (.op (.load (Memref.whole cc0_stg1_0) (Rect.unit (s := S512x256) ![0, 0] S512x256.size h).toLoadRect hl) k) Q) := by
  iintro H Hk
  iapply (wp_load 𝒱₀ (c : Thread nD τ) none Set.univ (m := Memref.whole cc0_stg1_0) (Finset.subset_univ _)) $$ H
  iintro H
  rw [show (Memref.whole cc0_stg1_0).view.readAt (Elt F) (Rect.unit (s := S512x256) ![0, 0] S512x256.size h).toLoadRect f = f from
    Memref.readAt_unit_zero (Elt F) cc0_stg1_0 (by funext a; fin_cases a <;> rfl) _ f]
  iapply Hk; iexact H
theorem ld_stg2 (c : Dev nD) (f : (cc0_stg2_0 : Ref sig .tc).ty.Contents (Elt F)) {h} {hl}
    {α : Type} {Q : α → sProp 𝕄} {k : Vec F S256x512 .f32 → Prog (TpuEff nD τ sig (Elt F) Λ₀ .tc) α} :
    whole c cc0_stg2_0 f ⊢ iprop((whole c cc0_stg2_0 f -∗ run c (k f) Q)
      -∗ run c (.op (.load (Memref.whole cc0_stg2_0) (Rect.unit (s := S256x512) ![0, 0] S256x512.size h).toLoadRect hl) k) Q) := by
  iintro H Hk
  iapply (wp_load 𝒱₀ (c : Thread nD τ) none Set.univ (m := Memref.whole cc0_stg2_0) (Finset.subset_univ _)) $$ H
  iintro H
  rw [show (Memref.whole cc0_stg2_0).view.readAt (Elt F) (Rect.unit (s := S256x512) ![0, 0] S256x512.size h).toLoadRect f = f from
    Memref.readAt_unit_zero (Elt F) cc0_stg2_0 (by funext a; fin_cases a <;> rfl) _ f]
  iapply Hk; iexact H
theorem ld_stg0 (c : Dev nD) (f : (cc0_stg0_0 : Ref sig .tc).ty.Contents (Elt F)) {h} {hl}
    {α : Type} {Q : α → sProp 𝕄} {k : Vec F S2x128x512 .f32 → Prog (TpuEff nD τ sig (Elt F) Λ₀ .tc) α} :
    whole c cc0_stg0_0 f ⊢ iprop((whole c cc0_stg0_0 f -∗ run c (k f) Q)
      -∗ run c (.op (.load (Memref.whole cc0_stg0_0) (Rect.unit (s := S2x128x512) ![0, 0, 0] S2x128x512.size h).toLoadRect hl) k) Q) := by
  iintro H Hk
  iapply (wp_load 𝒱₀ (c : Thread nD τ) none Set.univ (m := Memref.whole cc0_stg0_0) (Finset.subset_univ _)) $$ H
  iintro H
  rw [show (Memref.whole cc0_stg0_0).view.readAt (Elt F) (Rect.unit (s := S2x128x512) ![0, 0, 0] S2x128x512.size h).toLoadRect f = f from
    Memref.readAt_unit_zero (Elt F) cc0_stg0_0 (by funext a; fin_cases a <;> rfl) _ f]
  iapply Hk; iexact H

/-- The result's buffer: what is loaded from it before its store is not used; the store sets it whole. -/
theorem lda_out (c : Dev nD) {h} {hl}
    {α : Type} {Q : α → sProp 𝕄} {k : Vec F S2x128x512 .f32 → Prog (TpuEff nD τ sig (Elt F) Λ₀ .tc) α} :
    iprop(∃ f, whole c cc0_stg3_0 f) ⊢ iprop((∀ v, (∃ f, whole c cc0_stg3_0 f) -∗ run c (k v) Q)
      -∗ run c (.op (.load (Memref.whole cc0_stg3_0) (Rect.unit (s := S2x128x512) ![0, 0, 0] S2x128x512.size h).toLoadRect hl) k) Q) := by
  iintro ⟨%f, H⟩ Hk
  iapply (wp_load 𝒱₀ (c : Thread nD τ) none Set.univ (m := Memref.whole cc0_stg3_0) (Finset.subset_univ _)) $$ H
  iintro H
  iapply Hk; iexists f; iexact H
theorem st_out (c : Dev nD) (w : Vec F S2x128x512 .f32) {h} {hx} {hm}
    {α : Type} {Q : α → sProp 𝕄} {k : PUnit → Prog (TpuEff nD τ sig (Elt F) Λ₀ .tc) α} :
    iprop(∃ f, whole c cc0_stg3_0 f) ⊢ iprop((whole c cc0_stg3_0 w -∗ run c (k ⟨⟩) Q)
      -∗ run c (.op (.store (Memref.whole cc0_stg3_0) (Rect.unit (s := S2x128x512) ![0, 0, 0] S2x128x512.size h) w Finset.univ hx hm) k) Q) := by
  iintro ⟨%f, H⟩ Hk
  iapply (wp_store 𝒱₀ (c : Thread nD τ) none Set.univ (m := Memref.whole cc0_stg3_0) (r := Rect.unit (s := S2x128x512) ![0, 0, 0] S2x128x512.size h) (Mk := Finset.univ) (Finset.subset_univ _)) $$ H
  iintro H
  rw [show ((Memref.whole cc0_stg3_0).access (Rect.unit (s := S2x128x512) ![0, 0, 0] S2x128x512.size h)).write (Elt F) f w Finset.univ = w from
    Memref.write_access_unit_zero_univ (Elt F) cc0_stg3_0 (by funext a; fin_cases a <;> rfl) _ f w]
  iapply Hk; iexact H

/-! ## `K` and `V` -/

/-- An index of the staged `K`, `V`; of one head of them; of the head-major copies. -/
def ix3 (a : Fin 2) (b : Fin 128) (d : Fin 2048) : S2x128x2048.Idx := fun | ⟨0, _⟩ => a | ⟨1, _⟩ => b | ⟨2, _⟩ => d
def ix4 (a : Fin 2) (h : Fin 32) (b : Fin 128) (d : Fin 64) : S2x32x128x64.Idx := fun | ⟨0, _⟩ => a | ⟨1, _⟩ => h | ⟨2, _⟩ => b | ⟨3, _⟩ => d
def ixh (a : Fin 2) (b : Fin 128) (d : Fin 64) : S2x1x128x64.Idx := fun | ⟨0, _⟩ => a | ⟨1, _⟩ => (0 : Fin 1) | ⟨2, _⟩ => b | ⟨3, _⟩ => d

/-- Head `h` of `f`: 64 of its columns. -/
def slab (f : S2x128x2048.Idx → Elt F .f32) (h : Fin 32) : Vec F S2x128x64 .f32 := fun x =>
  f (ix3 (x 0) (x 1) ⟨64 * h.val + (x 2).val, by have : (x 2).val < 64 := (x 2).isLt; omega⟩)
/-- All the heads of `f`, rounded, head-major. -/
def hdM (f : S2x128x2048.Idx → Elt F .f32) : S2x32x128x64.Idx → Elt F .bf16 := fun i =>
  k0_pay5 (F := F) (slab f (i 1)) (ixh (i 0) (i 2) (i 3))
/-- Four of the heads. -/
def grp (g : S2x32x128x64.Idx → Elt F .bf16) (j : Dev nD) : Vec F S2x4x128x64 .bf16 := fun x =>
  g (ix4 (x 0) ⟨4 * j.val + (x 1).val, by have h1 : (x 1).val < 4 := (x 1).isLt; have h2 : j.val < 8 := j.isLt; omega⟩ (x 2) (x 3))

theorem slab_read (f : S2x128x2048.Idx → Elt F .f32) (h : Fin 32) (hb : ∀ a, (![0, 0, 64 * h.val] : Fin 3 → ℕ) a + S2x128x64.size a ≤ S2x128x2048.size a) :
    (fun x => f ((Rect.unit (s := S2x128x2048) ![0, 0, 64 * h.val] S2x128x64.size hb).emb x)) = slab f h := by
  funext x
  unfold slab
  refine congrArg f (funext fun a => ?_)
  match a with
  | ⟨0, _⟩ => exact Fin.ext (show 0 + 1 * (x 0).val = (x 0).val by omega)
  | ⟨1, _⟩ => exact Fin.ext (show 0 + 1 * (x 1).val = (x 1).val by omega)
  | ⟨2, _⟩ => exact Fin.ext (show 64 * h.val + 1 * (x 2).val = 64 * h.val + (x 2).val by omega)
theorem grp_read (g : S2x32x128x64.Idx → Elt F .bf16) (j : Dev nD) (hb : ∀ a, (![0, 4 * j.val, 0, 0] : Fin 4 → ℕ) a + S2x4x128x64.size a ≤ S2x32x128x64.size a) :
    (fun x => g ((Rect.unit (s := S2x32x128x64) ![0, 4 * j.val, 0, 0] S2x4x128x64.size hb).emb x)) = grp g j := by
  funext x
  unfold grp
  refine congrArg g (funext fun a => ?_)
  match a with
  | ⟨0, _⟩ => exact Fin.ext (show 0 + 1 * (x 0).val = (x 0).val by omega)
  | ⟨1, _⟩ => exact Fin.ext (show 4 * j.val + 1 * (x 1).val = 4 * j.val + (x 1).val by omega)
  | ⟨2, _⟩ => exact Fin.ext (show 0 + 1 * (x 2).val = (x 2).val by omega)
  | ⟨3, _⟩ => exact Fin.ext (show 0 + 1 * (x 3).val = (x 3).val by omega)
/-- Head `h` of the head-major copy, read back. -/
theorem head_read (f : S2x128x2048.Idx → Elt F .f32) (h : Fin 32) (hb : ∀ a, (![0, h.val, 0, 0] : Fin 4 → ℕ) a + S2x1x128x64.size a ≤ S2x32x128x64.size a) :
    (fun x => hdM f ((Rect.unit (s := S2x32x128x64) ![0, h.val, 0, 0] S2x1x128x64.size hb).emb x)) = k0_pay5 (F := F) (slab f h) := by
  funext x
  have e1 : ((Rect.unit (s := S2x32x128x64) ![0, h.val, 0, 0] S2x1x128x64.size hb).emb x 1 : Fin 32) = h :=
    Fin.ext (show h.val + 1 * (x 1).val = h.val by have : (x 1).val < 1 := (x 1).isLt; omega)
  show k0_pay5 (F := F) (slab f ((Rect.unit (s := S2x32x128x64) ![0, h.val, 0, 0] S2x1x128x64.size hb).emb x 1)) _ = _
  rw [e1]
  refine congrArg (k0_pay5 (F := F) (slab f h)) (funext fun a => ?_)
  match a with
  | ⟨0, _⟩ => exact Fin.ext (show 0 + 1 * (x 0).val = (x 0).val by omega)
  | ⟨1, _⟩ => exact Fin.ext (show 0 = (x 1).val by have : (x 1).val < 1 := (x 1).isLt; omega)
  | ⟨2, _⟩ => exact Fin.ext (show 0 + 1 * (x 2).val = (x 2).val by omega)
  | ⟨3, _⟩ => exact Fin.ext (show 0 + 1 * (x 3).val = (x 3).val by omega)
/-- Writing head `h` extends the written heads by one. -/
theorem head_stepK (h : Fin 32) (hb : ∀ a, (![0, h.val, 0, 0] : Fin 4 → ℕ) a + S2x1x128x64.size a ≤ S2x32x128x64.size a)
    (f : (cc0_scratch4 : Ref sig .tc).ty.Contents (Elt F)) (g : S2x128x2048.Idx → Elt F .f32) (hf : ∀ i : S2x32x128x64.Idx, (i 1).val < h.val → f i = hdM g i) :
    ∀ i : S2x32x128x64.Idx, (i 1).val < h.val + 1 →
      ((Memref.whole cc0_scratch4).access (Rect.unit (s := S2x32x128x64) ![0, h.val, 0, 0] S2x1x128x64.size hb)).write (Elt F) f (k0_pay5 (F := F) (slab g h)) Finset.univ i = hdM g i := by
  intro i hi
  by_cases hm : i ∈ ((Memref.whole cc0_scratch4).access (Rect.unit (s := S2x32x128x64) ![0, h.val, 0, 0] S2x1x128x64.size hb)).set
  · exact write_on ((Memref.whole cc0_scratch4).access (Rect.unit (s := S2x32x128x64) ![0, h.val, 0, 0] S2x1x128x64.size hb)) f (hdM g) _ (head_read g h hb) i hm
  · rw [View.write_of_not_mem _ _ Finset.univ hm]
    refine hf i ?_
    by_contra hlt
    refine hm ?_
    rw [show ((Memref.whole cc0_scratch4).access (Rect.unit (s := S2x32x128x64) ![0, h.val, 0, 0] S2x1x128x64.size hb)).set
      = (Rect.unit (s := S2x32x128x64) ![0, h.val, 0, 0] S2x1x128x64.size hb).set from View.set_slice_whole _ _, Rect.mem_set_unit]
    intro a
    have h0 : (i 0).val < 2 := (i 0).isLt
    have h2 : (i 2).val < 128 := (i 2).isLt
    have h3 : (i 3).val < 64 := (i 3).isLt
    match a with
    | ⟨0, _⟩ => exact (show 0 ≤ (i 0).val ∧ (i 0).val < 0 + 2 by omega)
    | ⟨1, _⟩ => exact (show h.val ≤ (i 1).val ∧ (i 1).val < h.val + 1 by omega)
    | ⟨2, _⟩ => exact (show 0 ≤ (i 2).val ∧ (i 2).val < 0 + 128 by omega)
    | ⟨3, _⟩ => exact (show 0 ≤ (i 3).val ∧ (i 3).val < 0 + 64 by omega)
/-- Writing head `h` extends the written heads by one. -/
theorem head_stepV (h : Fin 32) (hb : ∀ a, (![0, h.val, 0, 0] : Fin 4 → ℕ) a + S2x1x128x64.size a ≤ S2x32x128x64.size a)
    (f : (cc0_scratch5 : Ref sig .tc).ty.Contents (Elt F)) (g : S2x128x2048.Idx → Elt F .f32) (hf : ∀ i : S2x32x128x64.Idx, (i 1).val < h.val → f i = hdM g i) :
    ∀ i : S2x32x128x64.Idx, (i 1).val < h.val + 1 →
      ((Memref.whole cc0_scratch5).access (Rect.unit (s := S2x32x128x64) ![0, h.val, 0, 0] S2x1x128x64.size hb)).write (Elt F) f (k0_pay5 (F := F) (slab g h)) Finset.univ i = hdM g i := by
  intro i hi
  by_cases hm : i ∈ ((Memref.whole cc0_scratch5).access (Rect.unit (s := S2x32x128x64) ![0, h.val, 0, 0] S2x1x128x64.size hb)).set
  · exact write_on ((Memref.whole cc0_scratch5).access (Rect.unit (s := S2x32x128x64) ![0, h.val, 0, 0] S2x1x128x64.size hb)) f (hdM g) _ (head_read g h hb) i hm
  · rw [View.write_of_not_mem _ _ Finset.univ hm]
    refine hf i ?_
    by_contra hlt
    refine hm ?_
    rw [show ((Memref.whole cc0_scratch5).access (Rect.unit (s := S2x32x128x64) ![0, h.val, 0, 0] S2x1x128x64.size hb)).set
      = (Rect.unit (s := S2x32x128x64) ![0, h.val, 0, 0] S2x1x128x64.size hb).set from View.set_slice_whole _ _, Rect.mem_set_unit]
    intro a
    have h0 : (i 0).val < 2 := (i 0).isLt
    have h2 : (i 2).val < 128 := (i 2).isLt
    have h3 : (i 3).val < 64 := (i 3).isLt
    match a with
    | ⟨0, _⟩ => exact (show 0 ≤ (i 0).val ∧ (i 0).val < 0 + 2 by omega)
    | ⟨1, _⟩ => exact (show h.val ≤ (i 1).val ∧ (i 1).val < h.val + 1 by omega)
    | ⟨2, _⟩ => exact (show 0 ≤ (i 2).val ∧ (i 2).val < 0 + 128 by omega)
    | ⟨3, _⟩ => exact (show 0 ≤ (i 3).val ∧ (i 3).val < 0 + 64 by omega)

/-! ### `K` -/

/-- Device `c`'s `K`. -/
abbrev bufK (c : Dev nD) : S2x128x2048.Idx → Elt F .f32 := m ((c : Thread nD τ).loc main_arg2)
/-- The copy of it under way. -/
def flK (c : Dev nD) : sProp 𝕄 :=
  iprop(∃ f : Buf (Elt F) ((Memref.whole cc0_scratch2).view.loc (c : Thread nD τ)), Transfers.Flight countersEmb (c : Thread nD τ) (.dma (kvS false)) () (Memref.whole cc0_scratch2).view.dmaCredit
    iprop(((Memref.whole cc0_scratch2).view.loc (c : Thread nD τ) ↦[Finset.univ]{fullShare}
          ((Memref.whole cc0_scratch2).view.write (Elt F) f ((ReadAs.same : ReadAs (Elt F) S2x128x2048 .f32 S2x128x2048 .f32).apply ((Memref.whole main_arg2).view.read (Elt F) (m ((c : Thread nD τ).loc main_arg2)))) Finset.univ))
      ∗ ((Memref.whole main_arg2).view.loc (c : Thread nD τ) ↦[(Memref.whole main_arg2).view.set]{fullShare} (m ((c : Thread nD τ).loc main_arg2)))))

/-- Starting it. -/
theorem startK (c : Dev nD) {s : DmaSem sig} (hs : s = kvS false) {h₁ h₂ h₃}
    {α : Type} {Q : α → sProp 𝕄} {k : PUnit → Prog (TpuEff nD τ sig (Elt F) Λ₀ .tc) α} :
    iprop((∃ f, whole c cc0_scratch2 f) ∗ whole c main_arg2 (m ((c : Thread nD τ).loc main_arg2)) ∗ semVal ((c : Thread nD τ), .dma (kvS false)) 0)
      ⊢ iprop((flK m c -∗ run c (k ⟨⟩) Q)
          -∗ run c (.op (.enqueueDma (Memref.whole main_arg2) (.here (Memref.whole cc0_scratch2)) (.dma s) h₁ h₂ h₃) k) Q) := by
  subst hs
  iintro ⟨⟨%f, Hd⟩, Hs, Hz⟩ Hk
  have e : (whole c main_arg2 (m ((c : Thread nD τ).loc main_arg2)) : sProp 𝕄)
      ⊢ ((Memref.whole main_arg2).view.loc (c : Thread nD τ) ↦[(Memref.whole main_arg2).view.set]{fullShare} (m ((c : Thread nD τ).loc main_arg2))) := by
    rw [show (Memref.whole main_arg2).view.set = Finset.univ from View.set_whole _]
  ihave Hs := e $$ Hs
  iapply (Transfers.wp_dmaLocal countersEmb 𝒱₀ (c : Thread nD τ) none (ι := ()) (src := Memref.whole main_arg2) (dst := Memref.whole cc0_scratch2)
      (Memref.whole cc0_scratch2).view.dmaCredit rfl (View.dmaCredit_pos _ (by decide)) (Finset.subset_univ _)) $$ [Hs Hd Hz]
  · isplitl [Hs]; · iexact Hs
    isplitl [Hd] <;> iassumption
  iintro HF
  iapply Hk
  unfold flK
  iexists f; iexact HF

/-- Waiting for it. -/
theorem waitK (K : Dev nD × CI → ℕ) (c : Dev nD) (j : ℕ) (hj : ∀ n ∈ debtLv.drop j, lvS (.dma (kvS false)) < n) {s : DmaSem sig} (hs : s = kvS false) {h₁ h₂}
    {α : Type} {Q : α → sProp 𝕄} {k : PUnit → Prog (TpuEff nD τ sig (Elt F) Λ₀ .tc) α} :
    iprop(env m ρ K ∗ flK m c ∗ ow j c)
      ⊢ iprop(((whole c cc0_scratch2 (bufK m c) ∗ whole c main_arg2 (m ((c : Thread nD τ).loc main_arg2)) ∗ semVal ((c : Thread nD τ), .dma (kvS false)) 0 ∗ ow j c) -∗ run c (k ⟨⟩) Q)
          -∗ run c (.op (.waitDma2 s (Memref.whole main_arg2) (Memref.whole cc0_scratch2) h₁ h₂) k) Q) := by
  subst hs
  have eS : ((Memref.whole main_arg2).view.loc (c : Thread nD τ) ↦[(Memref.whole main_arg2).view.set]{fullShare} (m ((c : Thread nD τ).loc main_arg2)) : sProp 𝕄)
      ⊢ whole c main_arg2 (m ((c : Thread nD τ).loc main_arg2)) := by
    rw [show (Memref.whole main_arg2).view.set = Finset.univ from View.set_whole _]
  have eD : ∀ f : Buf (Elt F) ((Memref.whole cc0_scratch2).view.loc (c : Thread nD τ)), ((Memref.whole cc0_scratch2).view.loc (c : Thread nD τ) ↦[Finset.univ]{fullShare}
          ((Memref.whole cc0_scratch2).view.write (Elt F) f ((ReadAs.same : ReadAs (Elt F) S2x128x2048 .f32 S2x128x2048 .f32).apply ((Memref.whole main_arg2).view.read (Elt F) (m ((c : Thread nD τ).loc main_arg2)))) Finset.univ) : sProp 𝕄)
      ⊢ whole c cc0_scratch2 (bufK m c) := fun f => by
    rw [show (Memref.whole cc0_scratch2).view.write (Elt F) f ((ReadAs.same : ReadAs (Elt F) S2x128x2048 .f32 S2x128x2048 .f32).apply ((Memref.whole main_arg2).view.read (Elt F) (m ((c : Thread nD τ).loc main_arg2)))) Finset.univ
      = bufK m c from View.write_whole_univ _ _ _]
  unfold flK ow
  iintro ⟨#HE, ⟨%f, HF⟩, ⟨%W, HO⟩⟩ Hk
  iapply (Transfers.wp_waitLocalO countersEmb 𝒱₀ (c : Thread nD τ) none () rfl) $$ [HF HO]
  · isplitl [HF]; · iexact HF
    isplitl [HO]; · iexact HO
    iapply (mayWait_owe c _ j hj); iapply (env_lev m ρ K); iexact HE
  iintro ⟨⟨Hd, Hs⟩, Hz, HO⟩
  iapply Hk
  isplitl [Hd]; · iapply (eD f); iexact Hd
  isplitl [Hs]; · iapply eS; iexact Hs
  isplitl [Hz]; · iexact Hz
  iexists _; iexact HO

/-- Loading head `h`'s columns. -/
theorem ldhK (c : Dev nD) (h : Fin 32) {off : Fin 3 → ℕ} {hb} (e : off = ![0, 0, 64 * h.val]) {hl}
    {α : Type} {Q : α → sProp 𝕄} {k : Vec F S2x128x64 .f32 → Prog (TpuEff nD τ sig (Elt F) Λ₀ .tc) α} :
    whole c cc0_scratch2 (bufK m c) ⊢ iprop((whole c cc0_scratch2 (bufK m c) -∗ run c (k (slab (bufK m c) h)) Q)
      -∗ run c (.op (.load (Memref.whole cc0_scratch2) (Rect.unit (s := S2x128x2048) off S2x128x64.size hb).toLoadRect hl) k) Q) := by
  subst e
  iintro H Hk
  iapply (wp_load 𝒱₀ (c : Thread nD τ) none Set.univ (m := Memref.whole cc0_scratch2) (Finset.subset_univ _)) $$ H
  iintro H
  rw [show (Memref.whole cc0_scratch2).view.readAt (Elt F) (Rect.unit (s := S2x128x2048) ![0, 0, 64 * h.val] S2x128x64.size hb).toLoadRect (bufK m c) = slab (bufK m c) h from
    slab_read _ h hb]
  iapply Hk; iexact H

/-- The head-major copy with its first `n` heads written. -/
def hdK (c : Dev nD) (n : ℕ) : sProp 𝕄 :=
  iprop(∃ f : Buf (Elt F) ((c : Thread nD τ).loc cc0_scratch4), ⌜∀ i : S2x32x128x64.Idx, (i 1).val < n → f i = hdM (bufK m c) i⌝ ∗ whole c cc0_scratch4 f)
theorem hdK_intro (c : Dev nD) : iprop(∃ f, whole c cc0_scratch4 f) ⊢ hdK m c 0 := by
  unfold hdK
  iintro ⟨%f, H⟩
  iexists f
  isplitr; · ipureintro; exact fun i h => absurd h (Nat.not_lt_zero _)
  iexact H
theorem hdK_full (c : Dev nD) : hdK m c 32 ⊢ whole c cc0_scratch4 (hdM (bufK m c)) := by
  unfold hdK
  iintro ⟨%f, %hf, H⟩
  have e : f = hdM (bufK m c) := funext fun i => hf i (i 1).isLt
  subst e
  iexact H
/-- What is loaded at a head before its store is not used. -/
theorem ldaK (c : Dev nD) (n : ℕ) {off : Fin 4 → ℕ} {hb hl}
    {α : Type} {Q : α → sProp 𝕄} {k : Vec F S2x1x128x64 .bf16 → Prog (TpuEff nD τ sig (Elt F) Λ₀ .tc) α} :
    hdK m c n ⊢ iprop((∀ v, hdK m c n -∗ run c (k v) Q)
      -∗ run c (.op (.load (Memref.whole cc0_scratch4) (Rect.unit (s := S2x32x128x64) off S2x1x128x64.size hb).toLoadRect hl) k) Q) := by
  unfold hdK
  iintro ⟨%f, %hf, H⟩ Hk
  iapply (wp_load 𝒱₀ (c : Thread nD τ) none Set.univ (m := Memref.whole cc0_scratch4) (Finset.subset_univ _)) $$ H
  iintro H
  iapply Hk
  iexists f
  isplitr; · ipureintro; exact hf
  iexact H
/-- The store of head `h`. -/
theorem sthK (c : Dev nD) (h : Fin 32) (n n' : ℕ) (hn : n = h.val) (hn' : n' = h.val + 1) {off : Fin 4 → ℕ} {hb} (e : off = ![0, h.val, 0, 0]) (P : Vec F S2x1x128x64 .bf16) (hP : P = k0_pay5 (F := F) (slab (bufK m c) h)) {hx hm}
    {α : Type} {Q : α → sProp 𝕄} {k : PUnit → Prog (TpuEff nD τ sig (Elt F) Λ₀ .tc) α} :
    hdK m c n ⊢ iprop((hdK m c n' -∗ run c (k ⟨⟩) Q)
      -∗ run c (.op (.store (Memref.whole cc0_scratch4) (Rect.unit (s := S2x32x128x64) off S2x1x128x64.size hb) P Finset.univ hx hm) k) Q) := by
  subst e hP hn hn'
  unfold hdK
  iintro ⟨%f, %hf, H⟩ Hk
  iapply (wp_store 𝒱₀ (c : Thread nD τ) none Set.univ (m := Memref.whole cc0_scratch4) (r := Rect.unit (s := S2x32x128x64) ![0, h.val, 0, 0] S2x1x128x64.size hb) (Mk := Finset.univ) (Finset.subset_univ _)) $$ H
  iintro H
  iapply Hk
  iexists _
  isplitr
  · ipureintro
    exact head_stepK h hb f (bufK m c) hf
  iexact H
/-- Loading four heads. -/
theorem ldgK (c : Dev nD) (j : Dev nD) {off : Fin 4 → ℕ} {hb} (e : off = ![0, 4 * j.val, 0, 0]) {hl}
    {α : Type} {Q : α → sProp 𝕄} {k : Vec F S2x4x128x64 .bf16 → Prog (TpuEff nD τ sig (Elt F) Λ₀ .tc) α} :
    whole c cc0_scratch4 (hdM (bufK m c)) ⊢ iprop((whole c cc0_scratch4 (hdM (bufK m c)) -∗ run c (k (grp (hdM (bufK m c)) j)) Q)
      -∗ run c (.op (.load (Memref.whole cc0_scratch4) (Rect.unit (s := S2x32x128x64) off S2x4x128x64.size hb).toLoadRect hl) k) Q) := by
  subst e
  iintro H Hk
  iapply (wp_load 𝒱₀ (c : Thread nD τ) none Set.univ (m := Memref.whole cc0_scratch4) (Finset.subset_univ _)) $$ H
  iintro H
  rw [show (Memref.whole cc0_scratch4).view.readAt (Elt F) (Rect.unit (s := S2x32x128x64) ![0, 4 * j.val, 0, 0] S2x4x128x64.size hb).toLoadRect (hdM (bufK m c)) = grp (hdM (bufK m c)) j from
    grp_read _ j hb]
  iapply Hk; iexact H

/-! ### `V` -/

/-- Device `c`'s `V`. -/
abbrev bufV (c : Dev nD) : S2x128x2048.Idx → Elt F .f32 := m ((c : Thread nD τ).loc main_arg3)
/-- The copy of it under way. -/
def flV (c : Dev nD) : sProp 𝕄 :=
  iprop(∃ f : Buf (Elt F) ((Memref.whole cc0_scratch3).view.loc (c : Thread nD τ)), Transfers.Flight countersEmb (c : Thread nD τ) (.dma (kvS true)) () (Memref.whole cc0_scratch3).view.dmaCredit
    iprop(((Memref.whole cc0_scratch3).view.loc (c : Thread nD τ) ↦[Finset.univ]{fullShare}
          ((Memref.whole cc0_scratch3).view.write (Elt F) f ((ReadAs.same : ReadAs (Elt F) S2x128x2048 .f32 S2x128x2048 .f32).apply ((Memref.whole main_arg3).view.read (Elt F) (m ((c : Thread nD τ).loc main_arg3)))) Finset.univ))
      ∗ ((Memref.whole main_arg3).view.loc (c : Thread nD τ) ↦[(Memref.whole main_arg3).view.set]{fullShare} (m ((c : Thread nD τ).loc main_arg3)))))

/-- Starting it. -/
theorem startV (c : Dev nD) {s : DmaSem sig} (hs : s = kvS true) {h₁ h₂ h₃}
    {α : Type} {Q : α → sProp 𝕄} {k : PUnit → Prog (TpuEff nD τ sig (Elt F) Λ₀ .tc) α} :
    iprop((∃ f, whole c cc0_scratch3 f) ∗ whole c main_arg3 (m ((c : Thread nD τ).loc main_arg3)) ∗ semVal ((c : Thread nD τ), .dma (kvS true)) 0)
      ⊢ iprop((flV m c -∗ run c (k ⟨⟩) Q)
          -∗ run c (.op (.enqueueDma (Memref.whole main_arg3) (.here (Memref.whole cc0_scratch3)) (.dma s) h₁ h₂ h₃) k) Q) := by
  subst hs
  iintro ⟨⟨%f, Hd⟩, Hs, Hz⟩ Hk
  have e : (whole c main_arg3 (m ((c : Thread nD τ).loc main_arg3)) : sProp 𝕄)
      ⊢ ((Memref.whole main_arg3).view.loc (c : Thread nD τ) ↦[(Memref.whole main_arg3).view.set]{fullShare} (m ((c : Thread nD τ).loc main_arg3))) := by
    rw [show (Memref.whole main_arg3).view.set = Finset.univ from View.set_whole _]
  ihave Hs := e $$ Hs
  iapply (Transfers.wp_dmaLocal countersEmb 𝒱₀ (c : Thread nD τ) none (ι := ()) (src := Memref.whole main_arg3) (dst := Memref.whole cc0_scratch3)
      (Memref.whole cc0_scratch3).view.dmaCredit rfl (View.dmaCredit_pos _ (by decide)) (Finset.subset_univ _)) $$ [Hs Hd Hz]
  · isplitl [Hs]; · iexact Hs
    isplitl [Hd] <;> iassumption
  iintro HF
  iapply Hk
  unfold flV
  iexists f; iexact HF

/-- Waiting for it. -/
theorem waitV (K : Dev nD × CI → ℕ) (c : Dev nD) (j : ℕ) (hj : ∀ n ∈ debtLv.drop j, lvS (.dma (kvS true)) < n) {s : DmaSem sig} (hs : s = kvS true) {h₁ h₂}
    {α : Type} {Q : α → sProp 𝕄} {k : PUnit → Prog (TpuEff nD τ sig (Elt F) Λ₀ .tc) α} :
    iprop(env m ρ K ∗ flV m c ∗ ow j c)
      ⊢ iprop(((whole c cc0_scratch3 (bufV m c) ∗ whole c main_arg3 (m ((c : Thread nD τ).loc main_arg3)) ∗ semVal ((c : Thread nD τ), .dma (kvS true)) 0 ∗ ow j c) -∗ run c (k ⟨⟩) Q)
          -∗ run c (.op (.waitDma2 s (Memref.whole main_arg3) (Memref.whole cc0_scratch3) h₁ h₂) k) Q) := by
  subst hs
  have eS : ((Memref.whole main_arg3).view.loc (c : Thread nD τ) ↦[(Memref.whole main_arg3).view.set]{fullShare} (m ((c : Thread nD τ).loc main_arg3)) : sProp 𝕄)
      ⊢ whole c main_arg3 (m ((c : Thread nD τ).loc main_arg3)) := by
    rw [show (Memref.whole main_arg3).view.set = Finset.univ from View.set_whole _]
  have eD : ∀ f : Buf (Elt F) ((Memref.whole cc0_scratch3).view.loc (c : Thread nD τ)), ((Memref.whole cc0_scratch3).view.loc (c : Thread nD τ) ↦[Finset.univ]{fullShare}
          ((Memref.whole cc0_scratch3).view.write (Elt F) f ((ReadAs.same : ReadAs (Elt F) S2x128x2048 .f32 S2x128x2048 .f32).apply ((Memref.whole main_arg3).view.read (Elt F) (m ((c : Thread nD τ).loc main_arg3)))) Finset.univ) : sProp 𝕄)
      ⊢ whole c cc0_scratch3 (bufV m c) := fun f => by
    rw [show (Memref.whole cc0_scratch3).view.write (Elt F) f ((ReadAs.same : ReadAs (Elt F) S2x128x2048 .f32 S2x128x2048 .f32).apply ((Memref.whole main_arg3).view.read (Elt F) (m ((c : Thread nD τ).loc main_arg3)))) Finset.univ
      = bufV m c from View.write_whole_univ _ _ _]
  unfold flV ow
  iintro ⟨#HE, ⟨%f, HF⟩, ⟨%W, HO⟩⟩ Hk
  iapply (Transfers.wp_waitLocalO countersEmb 𝒱₀ (c : Thread nD τ) none () rfl) $$ [HF HO]
  · isplitl [HF]; · iexact HF
    isplitl [HO]; · iexact HO
    iapply (mayWait_owe c _ j hj); iapply (env_lev m ρ K); iexact HE
  iintro ⟨⟨Hd, Hs⟩, Hz, HO⟩
  iapply Hk
  isplitl [Hd]; · iapply (eD f); iexact Hd
  isplitl [Hs]; · iapply eS; iexact Hs
  isplitl [Hz]; · iexact Hz
  iexists _; iexact HO

/-- Loading head `h`'s columns. -/
theorem ldhV (c : Dev nD) (h : Fin 32) {off : Fin 3 → ℕ} {hb} (e : off = ![0, 0, 64 * h.val]) {hl}
    {α : Type} {Q : α → sProp 𝕄} {k : Vec F S2x128x64 .f32 → Prog (TpuEff nD τ sig (Elt F) Λ₀ .tc) α} :
    whole c cc0_scratch3 (bufV m c) ⊢ iprop((whole c cc0_scratch3 (bufV m c) -∗ run c (k (slab (bufV m c) h)) Q)
      -∗ run c (.op (.load (Memref.whole cc0_scratch3) (Rect.unit (s := S2x128x2048) off S2x128x64.size hb).toLoadRect hl) k) Q) := by
  subst e
  iintro H Hk
  iapply (wp_load 𝒱₀ (c : Thread nD τ) none Set.univ (m := Memref.whole cc0_scratch3) (Finset.subset_univ _)) $$ H
  iintro H
  rw [show (Memref.whole cc0_scratch3).view.readAt (Elt F) (Rect.unit (s := S2x128x2048) ![0, 0, 64 * h.val] S2x128x64.size hb).toLoadRect (bufV m c) = slab (bufV m c) h from
    slab_read _ h hb]
  iapply Hk; iexact H

/-- The head-major copy with its first `n` heads written. -/
def hdV (c : Dev nD) (n : ℕ) : sProp 𝕄 :=
  iprop(∃ f : Buf (Elt F) ((c : Thread nD τ).loc cc0_scratch5), ⌜∀ i : S2x32x128x64.Idx, (i 1).val < n → f i = hdM (bufV m c) i⌝ ∗ whole c cc0_scratch5 f)
theorem hdV_intro (c : Dev nD) : iprop(∃ f, whole c cc0_scratch5 f) ⊢ hdV m c 0 := by
  unfold hdV
  iintro ⟨%f, H⟩
  iexists f
  isplitr; · ipureintro; exact fun i h => absurd h (Nat.not_lt_zero _)
  iexact H
theorem hdV_full (c : Dev nD) : hdV m c 32 ⊢ whole c cc0_scratch5 (hdM (bufV m c)) := by
  unfold hdV
  iintro ⟨%f, %hf, H⟩
  have e : f = hdM (bufV m c) := funext fun i => hf i (i 1).isLt
  subst e
  iexact H
/-- What is loaded at a head before its store is not used. -/
theorem ldaV (c : Dev nD) (n : ℕ) {off : Fin 4 → ℕ} {hb hl}
    {α : Type} {Q : α → sProp 𝕄} {k : Vec F S2x1x128x64 .bf16 → Prog (TpuEff nD τ sig (Elt F) Λ₀ .tc) α} :
    hdV m c n ⊢ iprop((∀ v, hdV m c n -∗ run c (k v) Q)
      -∗ run c (.op (.load (Memref.whole cc0_scratch5) (Rect.unit (s := S2x32x128x64) off S2x1x128x64.size hb).toLoadRect hl) k) Q) := by
  unfold hdV
  iintro ⟨%f, %hf, H⟩ Hk
  iapply (wp_load 𝒱₀ (c : Thread nD τ) none Set.univ (m := Memref.whole cc0_scratch5) (Finset.subset_univ _)) $$ H
  iintro H
  iapply Hk
  iexists f
  isplitr; · ipureintro; exact hf
  iexact H
/-- The store of head `h`. -/
theorem sthV (c : Dev nD) (h : Fin 32) (n n' : ℕ) (hn : n = h.val) (hn' : n' = h.val + 1) {off : Fin 4 → ℕ} {hb} (e : off = ![0, h.val, 0, 0]) (P : Vec F S2x1x128x64 .bf16) (hP : P = k0_pay5 (F := F) (slab (bufV m c) h)) {hx hm}
    {α : Type} {Q : α → sProp 𝕄} {k : PUnit → Prog (TpuEff nD τ sig (Elt F) Λ₀ .tc) α} :
    hdV m c n ⊢ iprop((hdV m c n' -∗ run c (k ⟨⟩) Q)
      -∗ run c (.op (.store (Memref.whole cc0_scratch5) (Rect.unit (s := S2x32x128x64) off S2x1x128x64.size hb) P Finset.univ hx hm) k) Q) := by
  subst e hP hn hn'
  unfold hdV
  iintro ⟨%f, %hf, H⟩ Hk
  iapply (wp_store 𝒱₀ (c : Thread nD τ) none Set.univ (m := Memref.whole cc0_scratch5) (r := Rect.unit (s := S2x32x128x64) ![0, h.val, 0, 0] S2x1x128x64.size hb) (Mk := Finset.univ) (Finset.subset_univ _)) $$ H
  iintro H
  iapply Hk
  iexists _
  isplitr
  · ipureintro
    exact head_stepV h hb f (bufV m c) hf
  iexact H
/-- Loading four heads. -/
theorem ldgV (c : Dev nD) (j : Dev nD) {off : Fin 4 → ℕ} {hb} (e : off = ![0, 4 * j.val, 0, 0]) {hl}
    {α : Type} {Q : α → sProp 𝕄} {k : Vec F S2x4x128x64 .bf16 → Prog (TpuEff nD τ sig (Elt F) Λ₀ .tc) α} :
    whole c cc0_scratch5 (hdM (bufV m c)) ⊢ iprop((whole c cc0_scratch5 (hdM (bufV m c)) -∗ run c (k (grp (hdM (bufV m c)) j)) Q)
      -∗ run c (.op (.load (Memref.whole cc0_scratch5) (Rect.unit (s := S2x32x128x64) off S2x4x128x64.size hb).toLoadRect hl) k) Q) := by
  subst e
  iintro H Hk
  iapply (wp_load 𝒱₀ (c : Thread nD τ) none Set.univ (m := Memref.whole cc0_scratch5) (Finset.subset_univ _)) $$ H
  iintro H
  rw [show (Memref.whole cc0_scratch5).view.readAt (Elt F) (Rect.unit (s := S2x32x128x64) ![0, 4 * j.val, 0, 0] S2x4x128x64.size hb).toLoadRect (hdM (bufV m c)) = grp (hdM (bufV m c)) j from
    grp_read _ j hb]
  iapply Hk; iexact H

end Cert.RingProof

end

end
-- ==== Proof.Tables.lean ====
/- Where the kernel's slices lie, which devices its transfers go to, which semaphores they use; and the values its
   computations pass on, named. -/
module

public import proofs.«01_k».proof.Proof.KV

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A finished stretch gives its result on. -/
theorem run_ret {α : Type} {a : α} {Φ : α → sProp 𝕄} (c : Dev nD) : Φ a ⊢ run c (Prog.ret a) Φ := by
  unfold run; rw [wp_ret]; iintro H; imodintro; iexact H

/-! ## Closed forms -/

theorem off1 (c : Dev nD) : k0_off1 c = ![0, 256 * c.val] := (k0_off1_eq c).trans (by revert c; decide)
theorem off2 (c : Dev nD) : k0_off2 c = ![256 * c.val, 0] := (k0_off2_eq c).trans (by revert c; decide)
theorem off3_0 (c : Dev nD) : k0_off3 c 0#32 = ![0, 256 * (fw c 0).val] := (k0_off3_eq c 0).trans (by revert c; decide)
theorem off3_1 (c : Dev nD) : k0_off3 c 1#32 = ![0, 256 * (fw c 7).val] := (k0_off3_eq c 1).trans (by revert c; decide)
theorem off3_2 (c : Dev nD) : k0_off3 c 2#32 = ![0, 256 * (fw c 6).val] := (k0_off3_eq c 2).trans (by revert c; decide)
theorem off3_3 (c : Dev nD) : k0_off3 c 3#32 = ![0, 256 * (fw c 5).val] := (k0_off3_eq c 3).trans (by revert c; decide)
theorem off4_0 (c : Dev nD) : k0_off4 c 0#32 = ![256 * (fw c 0).val, 0] := (k0_off4_eq c 0).trans (by revert c; decide)
theorem off4_1 (c : Dev nD) : k0_off4 c 1#32 = ![256 * (fw c 7).val, 0] := (k0_off4_eq c 1).trans (by revert c; decide)
theorem off4_2 (c : Dev nD) : k0_off4 c 2#32 = ![256 * (fw c 6).val, 0] := (k0_off4_eq c 2).trans (by revert c; decide)
theorem off5_0 (c : Dev nD) : k0_off5 c 0#32 = ![0, 256 * (fw c 0).val] := (k0_off5_eq c 0).trans (by revert c; decide)
theorem off5_1 (c : Dev nD) : k0_off5 c 1#32 = ![0, 256 * (fw c 1).val] := (k0_off5_eq c 1).trans (by revert c; decide)
theorem off5_2 (c : Dev nD) : k0_off5 c 2#32 = ![0, 256 * (fw c 2).val] := (k0_off5_eq c 2).trans (by revert c; decide)
theorem off6_0 (c : Dev nD) : k0_off6 c 0#32 = ![256 * (fw c 0).val, 0] := (k0_off6_eq c 0).trans (by revert c; decide)
theorem off6_1 (c : Dev nD) : k0_off6 c 1#32 = ![256 * (fw c 1).val, 0] := (k0_off6_eq c 1).trans (by revert c; decide)
theorem off6_2 (c : Dev nD) : k0_off6 c 2#32 = ![256 * (fw c 2).val, 0] := (k0_off6_eq c 2).trans (by revert c; decide)
theorem off6_3 (c : Dev nD) : k0_off6 c 3#32 = ![256 * (fw c 3).val, 0] := (k0_off6_eq c 3).trans (by revert c; decide)
theorem off7 (c : Dev nD) : k0_off7 c = ![0, 4 * c.val, 0, 0] := (k0_off7_eq c).trans (by revert c; decide)
theorem off8_0 (c : Dev nD) : k0_off8 c 0#32 = ![0, 256 * (fw c 7).val] := (k0_off8_eq c 0).trans (by revert c; decide)
theorem off8_1 (c : Dev nD) : k0_off8 c 1#32 = ![0, 256 * (fw c 6).val] := (k0_off8_eq c 1).trans (by revert c; decide)
theorem off8_2 (c : Dev nD) : k0_off8 c 2#32 = ![0, 256 * (fw c 5).val] := (k0_off8_eq c 2).trans (by revert c; decide)
theorem off8_3 (c : Dev nD) : k0_off8 c 3#32 = ![0, 256 * (fw c 4).val] := (k0_off8_eq c 3).trans (by revert c; decide)
theorem off9_0 (c : Dev nD) : k0_off9 c 0#32 = ![256 * (fw c 7).val, 0] := (k0_off9_eq c 0).trans (by revert c; decide)
theorem off9_1 (c : Dev nD) : k0_off9 c 1#32 = ![256 * (fw c 6).val, 0] := (k0_off9_eq c 1).trans (by revert c; decide)
theorem off9_2 (c : Dev nD) : k0_off9 c 2#32 = ![256 * (fw c 5).val, 0] := (k0_off9_eq c 2).trans (by revert c; decide)
theorem off9_3 (c : Dev nD) : k0_off9 c 3#32 = ![256 * (fw c 4).val, 0] := (k0_off9_eq c 3).trans (by revert c; decide)
theorem off10_0 (c : Dev nD) : k0_off10 c 0#32 = ![0, 4 * (fw c 7).val, 0, 0] := (k0_off10_eq c 0).trans (by revert c; decide)
theorem off10_1 (c : Dev nD) : k0_off10 c 1#32 = ![0, 4 * (fw c 6).val, 0, 0] := (k0_off10_eq c 1).trans (by revert c; decide)
theorem off10_2 (c : Dev nD) : k0_off10 c 2#32 = ![0, 4 * (fw c 5).val, 0, 0] := (k0_off10_eq c 2).trans (by revert c; decide)
theorem off10_3 (c : Dev nD) : k0_off10 c 3#32 = ![0, 4 * (fw c 4).val, 0, 0] := (k0_off10_eq c 3).trans (by revert c; decide)
theorem off11_0 (c : Dev nD) : k0_off11 c 0#32 = ![0, 256 * (fw c 1).val] := (k0_off11_eq c 0).trans (by revert c; decide)
theorem off11_1 (c : Dev nD) : k0_off11 c 1#32 = ![0, 256 * (fw c 2).val] := (k0_off11_eq c 1).trans (by revert c; decide)
theorem off11_2 (c : Dev nD) : k0_off11 c 2#32 = ![0, 256 * (fw c 3).val] := (k0_off11_eq c 2).trans (by revert c; decide)
theorem off12_0 (c : Dev nD) : k0_off12 c 0#32 = ![256 * (fw c 1).val, 0] := (k0_off12_eq c 0).trans (by revert c; decide)
theorem off12_1 (c : Dev nD) : k0_off12 c 1#32 = ![256 * (fw c 2).val, 0] := (k0_off12_eq c 1).trans (by revert c; decide)
theorem off12_2 (c : Dev nD) : k0_off12 c 2#32 = ![256 * (fw c 3).val, 0] := (k0_off12_eq c 2).trans (by revert c; decide)
theorem off13_0 (c : Dev nD) : k0_off13 c 0#32 = ![0, 4 * (fw c 1).val, 0, 0] := (k0_off13_eq c 0).trans (by revert c; decide)
theorem off13_1 (c : Dev nD) : k0_off13 c 1#32 = ![0, 4 * (fw c 2).val, 0, 0] := (k0_off13_eq c 1).trans (by revert c; decide)
theorem off13_2 (c : Dev nD) : k0_off13 c 2#32 = ![0, 4 * (fw c 3).val, 0, 0] := (k0_off13_eq c 2).trans (by revert c; decide)
theorem dev1 (c : Dev nD) : (⟨k0_dev1 c, k0_dev1_lt c⟩ : Dev nD) = prv c := Fin.ext ((k0_dev1_eq c).trans (by revert c; decide))
theorem dev2 (c : Dev nD) : (⟨k0_dev2 c, k0_dev2_lt c⟩ : Dev nD) = nxt c := Fin.ext ((k0_dev2_eq c).trans (by revert c; decide))
theorem dev3 (c : Dev nD) : (⟨k0_dev3 c, k0_dev3_lt c⟩ : Dev nD) = dst 0 c := Fin.ext ((k0_dev3_eq c).trans (by revert c; decide))
theorem dev4 (c : Dev nD) : (⟨k0_dev4 c, k0_dev4_lt c⟩ : Dev nD) = dst 1 c := Fin.ext ((k0_dev4_eq c).trans (by revert c; decide))
theorem dev5 (c : Dev nD) : (⟨k0_dev5 c, k0_dev5_lt c⟩ : Dev nD) = dst 2 c := Fin.ext ((k0_dev5_eq c).trans (by revert c; decide))
theorem dev6 (c : Dev nD) : (⟨k0_dev6 c, k0_dev6_lt c⟩ : Dev nD) = dst 3 c := Fin.ext ((k0_dev6_eq c).trans (by revert c; decide))
theorem dev7 (c : Dev nD) : (⟨k0_dev7 c, k0_dev7_lt c⟩ : Dev nD) = dst 4 c := Fin.ext ((k0_dev7_eq c).trans (by revert c; decide))
theorem dev8 (c : Dev nD) : (⟨k0_dev8 c, k0_dev8_lt c⟩ : Dev nD) = dst 5 c := Fin.ext ((k0_dev8_eq c).trans (by revert c; decide))
theorem dev9 (c : Dev nD) : (⟨k0_dev9 c, k0_dev9_lt c⟩ : Dev nD) = dst 6 c := Fin.ext ((k0_dev9_eq c).trans (by revert c; decide))
theorem dev10 (c : Dev nD) : (⟨k0_dev10 c, k0_dev10_lt c⟩ : Dev nD) = dst 7 c := Fin.ext ((k0_dev10_eq c).trans (by revert c; decide))
theorem dev11 (c : Dev nD) : (⟨k0_dev11 c, k0_dev11_lt c⟩ : Dev nD) = dst 8 c := Fin.ext ((k0_dev11_eq c).trans (by revert c; decide))
theorem dev12 (c : Dev nD) : (⟨k0_dev12 c, k0_dev12_lt c⟩ : Dev nD) = dst 9 c := Fin.ext ((k0_dev12_eq c).trans (by revert c; decide))
theorem dev13 (c : Dev nD) : (⟨k0_dev13 c, k0_dev13_lt c⟩ : Dev nD) = dst 10 c := Fin.ext ((k0_dev13_eq c).trans (by revert c; decide))
theorem dev14 (c : Dev nD) : (⟨k0_dev14 c, k0_dev14_lt c⟩ : Dev nD) = dst 11 c := Fin.ext ((k0_dev14_eq c).trans (by revert c; decide))
theorem dev15 (c : Dev nD) : (⟨k0_dev15 c, k0_dev15_lt c⟩ : Dev nD) = dst 12 c := Fin.ext ((k0_dev15_eq c).trans (by revert c; decide))
theorem dev16 (c : Dev nD) : (⟨k0_dev16 c, k0_dev16_lt c⟩ : Dev nD) = dst 13 c := Fin.ext ((k0_dev16_eq c).trans (by revert c; decide))
theorem dev17 (c : Dev nD) : (⟨k0_dev17 c, k0_dev17_lt c⟩ : Dev nD) = prv c := Fin.ext ((k0_dev17_eq c).trans (by revert c; decide))
theorem dev18 (c : Dev nD) : (⟨k0_dev18 c, k0_dev18_lt c⟩ : Dev nD) = nxt c := Fin.ext ((k0_dev18_eq c).trans (by revert c; decide))
theorem semS0 : (((cc0_scratch6 : DmaSems sig S2x4).slice (Rect.unit (s := S2x4) ![0, 0] S1x1.size inb_S2x4_S1x1_0_0)).squeeze S_ squeezes_S1x1_S_).sem = sendS 0 := rfl
theorem semR0 : (((cc0_scratch7 : DmaSems sig S2x4).slice (Rect.unit (s := S2x4) ![0, 0] S1x1.size inb_S2x4_S1x1_0_0)).squeeze S_ squeezes_S1x1_S_).sem = recvS 0 := rfl
theorem semS1 : (((cc0_scratch6 : DmaSems sig S2x4).slice (Rect.unit (s := S2x4) ![1, 0] S1x1.size inb_S2x4_S1x1_1_0)).squeeze S_ squeezes_S1x1_S_).sem = sendS 1 := rfl
theorem semR1 : (((cc0_scratch7 : DmaSems sig S2x4).slice (Rect.unit (s := S2x4) ![1, 0] S1x1.size inb_S2x4_S1x1_1_0)).squeeze S_ squeezes_S1x1_S_).sem = recvS 1 := rfl
theorem semS2 : (((cc0_scratch8 : DmaSems sig S2x4).slice (Rect.unit (s := S2x4) ![0, 0] S1x1.size inb_S2x4_S1x1_0_0)).squeeze S_ squeezes_S1x1_S_).sem = sendS 2 := rfl
theorem semR2 : (((cc0_scratch9 : DmaSems sig S2x4).slice (Rect.unit (s := S2x4) ![0, 0] S1x1.size inb_S2x4_S1x1_0_0)).squeeze S_ squeezes_S1x1_S_).sem = recvS 2 := rfl
theorem semS3 : (((cc0_scratch8 : DmaSems sig S2x4).slice (Rect.unit (s := S2x4) ![1, 0] S1x1.size inb_S2x4_S1x1_1_0)).squeeze S_ squeezes_S1x1_S_).sem = sendS 3 := rfl
theorem semR3 : (((cc0_scratch9 : DmaSems sig S2x4).slice (Rect.unit (s := S2x4) ![1, 0] S1x1.size inb_S2x4_S1x1_1_0)).squeeze S_ squeezes_S1x1_S_).sem = recvS 3 := rfl
theorem semS4 : (((cc0_scratch6 : DmaSems sig S2x4).slice (Rect.unit (s := S2x4) ![0, 1] S1x1.size inb_S2x4_S1x1_0_1)).squeeze S_ squeezes_S1x1_S_).sem = sendS 4 := rfl
theorem semR4 : (((cc0_scratch7 : DmaSems sig S2x4).slice (Rect.unit (s := S2x4) ![0, 1] S1x1.size inb_S2x4_S1x1_0_1)).squeeze S_ squeezes_S1x1_S_).sem = recvS 4 := rfl
theorem semS5 : (((cc0_scratch8 : DmaSems sig S2x4).slice (Rect.unit (s := S2x4) ![1, 1] S1x1.size inb_S2x4_S1x1_1_1)).squeeze S_ squeezes_S1x1_S_).sem = sendS 5 := rfl
theorem semR5 : (((cc0_scratch9 : DmaSems sig S2x4).slice (Rect.unit (s := S2x4) ![1, 1] S1x1.size inb_S2x4_S1x1_1_1)).squeeze S_ squeezes_S1x1_S_).sem = recvS 5 := rfl
theorem semS6 : (((cc0_scratch6 : DmaSems sig S2x4).slice (Rect.unit (s := S2x4) ![1, 1] S1x1.size inb_S2x4_S1x1_1_1)).squeeze S_ squeezes_S1x1_S_).sem = sendS 6 := rfl
theorem semR6 : (((cc0_scratch7 : DmaSems sig S2x4).slice (Rect.unit (s := S2x4) ![1, 1] S1x1.size inb_S2x4_S1x1_1_1)).squeeze S_ squeezes_S1x1_S_).sem = recvS 6 := rfl
theorem semS7 : (((cc0_scratch8 : DmaSems sig S2x4).slice (Rect.unit (s := S2x4) ![0, 1] S1x1.size inb_S2x4_S1x1_0_1)).squeeze S_ squeezes_S1x1_S_).sem = sendS 7 := rfl
theorem semR7 : (((cc0_scratch9 : DmaSems sig S2x4).slice (Rect.unit (s := S2x4) ![0, 1] S1x1.size inb_S2x4_S1x1_0_1)).squeeze S_ squeezes_S1x1_S_).sem = recvS 7 := rfl
theorem semS8 : (((cc0_scratch6 : DmaSems sig S2x4).slice (Rect.unit (s := S2x4) ![0, 2] S1x1.size inb_S2x4_S1x1_0_2)).squeeze S_ squeezes_S1x1_S_).sem = sendS 8 := rfl
theorem semR8 : (((cc0_scratch7 : DmaSems sig S2x4).slice (Rect.unit (s := S2x4) ![0, 2] S1x1.size inb_S2x4_S1x1_0_2)).squeeze S_ squeezes_S1x1_S_).sem = recvS 8 := rfl
theorem semS9 : (((cc0_scratch8 : DmaSems sig S2x4).slice (Rect.unit (s := S2x4) ![1, 2] S1x1.size inb_S2x4_S1x1_1_2)).squeeze S_ squeezes_S1x1_S_).sem = sendS 9 := rfl
theorem semR9 : (((cc0_scratch9 : DmaSems sig S2x4).slice (Rect.unit (s := S2x4) ![1, 2] S1x1.size inb_S2x4_S1x1_1_2)).squeeze S_ squeezes_S1x1_S_).sem = recvS 9 := rfl
theorem semS10 : (((cc0_scratch6 : DmaSems sig S2x4).slice (Rect.unit (s := S2x4) ![1, 2] S1x1.size inb_S2x4_S1x1_1_2)).squeeze S_ squeezes_S1x1_S_).sem = sendS 10 := rfl
theorem semR10 : (((cc0_scratch7 : DmaSems sig S2x4).slice (Rect.unit (s := S2x4) ![1, 2] S1x1.size inb_S2x4_S1x1_1_2)).squeeze S_ squeezes_S1x1_S_).sem = recvS 10 := rfl
theorem semS11 : (((cc0_scratch8 : DmaSems sig S2x4).slice (Rect.unit (s := S2x4) ![0, 2] S1x1.size inb_S2x4_S1x1_0_2)).squeeze S_ squeezes_S1x1_S_).sem = sendS 11 := rfl
theorem semR11 : (((cc0_scratch9 : DmaSems sig S2x4).slice (Rect.unit (s := S2x4) ![0, 2] S1x1.size inb_S2x4_S1x1_0_2)).squeeze S_ squeezes_S1x1_S_).sem = recvS 11 := rfl
theorem semS12 : (((cc0_scratch6 : DmaSems sig S2x4).slice (Rect.unit (s := S2x4) ![0, 3] S1x1.size inb_S2x4_S1x1_0_3)).squeeze S_ squeezes_S1x1_S_).sem = sendS 12 := rfl
theorem semR12 : (((cc0_scratch7 : DmaSems sig S2x4).slice (Rect.unit (s := S2x4) ![0, 3] S1x1.size inb_S2x4_S1x1_0_3)).squeeze S_ squeezes_S1x1_S_).sem = recvS 12 := rfl
theorem semS13 : (((cc0_scratch8 : DmaSems sig S2x4).slice (Rect.unit (s := S2x4) ![1, 3] S1x1.size inb_S2x4_S1x1_1_3)).squeeze S_ squeezes_S1x1_S_).sem = sendS 13 := rfl
theorem semR13 : (((cc0_scratch9 : DmaSems sig S2x4).slice (Rect.unit (s := S2x4) ![1, 3] S1x1.size inb_S2x4_S1x1_1_3)).squeeze S_ squeezes_S1x1_S_).sem = recvS 13 := rfl
theorem semKV0 : (((cc0_scratch10 : DmaSems sig S2).slice (Rect.unit (s := S2) ![0] S1.size inb_S2_S1_0)).squeeze S_ squeezes_S1_S_).sem = kvS false := rfl
theorem semKV1 : (((cc0_scratch10 : DmaSems sig S2).slice (Rect.unit (s := S2) ![1] S1.size inb_S2_S1_1)).squeeze S_ squeezes_S1_S_).sem = kvS true := rfl

/-! ## The values the computations pass on -/

/-- The device's number as the kernel computes it. -/
def w2 (c : Dev nD) : BitVec 32 := Scalar.remsi (Scalar.divsi (Dev.word c) 1#32) 8#32

def val27 (m : (ℓ : Loc nD τ sig) → Buf (Elt F) ℓ) (ρ : Dev nD → PrngReg) (c : Dev nD) : FVec F S256x512 .bf16 := k0_pay2 (ostg m ρ c)

def val116 (m : (ℓ : Loc nD τ sig) → Buf (Elt F) ℓ) (ρ : Dev nD → PrngReg) (c : Dev nD) : FVec F S256x512 .bf16 := k0_pay4 (xstg m ρ c)

def val162 (m : (ℓ : Loc nD τ sig) → Buf (Elt F) ℓ) (ρ : Dev nD → PrngReg) (c : Dev nD) : FVec F S2x128x64 .bf16 := k0_pay13 (slab (bufK m c) 4)

def val187 (m : (ℓ : Loc nD τ sig) → Buf (Elt F) ℓ) (ρ : Dev nD → PrngReg) (c : Dev nD) : FVec F S2x128x64 .bf16 := k0_pay19 (slab (bufV m c) 6)

def val232 (m : (ℓ : Loc nD τ sig) → Buf (Elt F) ℓ) (ρ : Dev nD → PrngReg) (c : Dev nD) : FVec F S2x128x64 .bf16 := k0_pay29 (slab (bufK m c) 11)

def val256 (m : (ℓ : Loc nD τ sig) → Buf (Elt F) ℓ) (ρ : Dev nD → PrngReg) (c : Dev nD) : Vec F S2x128x64 .f32 := (slab (bufV m c) 13)

def val280 (m : (ℓ : Loc nD τ sig) → Buf (Elt F) ℓ) (ρ : Dev nD → PrngReg) (c : Dev nD) : FVec F S2x1x128x64 .bf16 := k0_pay39 (slab (bufV m c) 15)

def val302 (m : (ℓ : Loc nD τ sig) → Buf (Elt F) ℓ) (ρ : Dev nD → PrngReg) (c : Dev nD) : FVec F S2x128x64 .bf16 := k0_pay44 (slab (bufK m c) 18)

def val347 (m : (ℓ : Loc nD τ sig) → Buf (Elt F) ℓ) (ρ : Dev nD → PrngReg) (c : Dev nD) : FVec F S2x128x64 .bf16 := k0_pay54 (slab (bufV m c) 22)

def val372 (m : (ℓ : Loc nD τ sig) → Buf (Elt F) ℓ) (ρ : Dev nD → PrngReg) (c : Dev nD) : FVec F S2x128x64 .bf16 := k0_pay60 (slab (bufK m c) 25)

def val417 (m : (ℓ : Loc nD τ sig) → Buf (Elt F) ℓ) (ρ : Dev nD → PrngReg) (c : Dev nD) : FVec F S2x128x64 .bf16 := k0_pay70 (slab (bufV m c) 29)

def val441 (m : (ℓ : Loc nD τ sig) → Buf (Elt F) ℓ) (ρ : Dev nD → PrngReg) (c : Dev nD) : IVec S128x128 32 := iota .tc S128x128 32 [0] iota_S128x128_d0_w32

def val442 (m : (ℓ : Loc nD τ sig) → Buf (Elt F) ℓ) (ρ : Dev nD → PrngReg) (c : Dev nD) : IVec S128x128 32 := iota .tc S128x128 32 [1] iota_S128x128_d1_w32

def val469 (m : (ℓ : Loc nD τ sig) → Buf (Elt F) ℓ) (ρ : Dev nD → PrngReg) (c : Dev nD) : IVec S128x128 32 := k0_pay76 (w2 c) (val441 m ρ c) 2#32

def val471 (m : (ℓ : Loc nD τ sig) → Buf (Elt F) ℓ) (ρ : Dev nD → PrngReg) (c : Dev nD) : IVec S128x128 32 := k0_pay77 (val442 m ρ c)

def val485 (m : (ℓ : Loc nD τ sig) → Buf (Elt F) ℓ) (ρ : Dev nD → PrngReg) (c : Dev nD) : IVec S128x128 1 := k0_pay78 (val442 m ρ c)

def val489 (m : (ℓ : Loc nD τ sig) → Buf (Elt F) ℓ) (ρ : Dev nD → PrngReg) (c : Dev nD) : IVec S128x128 1 := k0_pay79 (val442 m ρ c)

def val503 (m : (ℓ : Loc nD τ sig) → Buf (Elt F) ℓ) (ρ : Dev nD → PrngReg) (c : Dev nD) : IVec S128x128 1 := k0_pay80 (val469 m ρ c) (val471 m ρ c) (val485 m ρ c) (val489 m ρ c)

def val509 (m : (ℓ : Loc nD τ sig) → Buf (Elt F) ℓ) (ρ : Dev nD → PrngReg) (c : Dev nD) : FVec F S256x512 .bf16 := k0_pay81 (ostg m ρ c)

def val524 (m : (ℓ : Loc nD τ sig) → Buf (Elt F) ℓ) (ρ : Dev nD → PrngReg) (c : Dev nD) : FVec F S8x128x64 .bf16 := k0_pay82 (grp (hdM (bufV m c)) c)

def val525 (m : (ℓ : Loc nD τ sig) → Buf (Elt F) ℓ) (ρ : Dev nD → PrngReg) (c : Dev nD) : FVec F S8x128x128 .f32 := k0_pay83 (val116 m ρ c) (qstg m ρ c) (grp (hdM (bufK m c)) c)

def val528 (m : (ℓ : Loc nD τ sig) → Buf (Elt F) ℓ) (ρ : Dev nD → PrngReg) (c : Dev nD) : IVec S8x128x128 1 := k0_pay84 (val469 m ρ c) (val471 m ρ c) (val485 m ρ c) (val489 m ρ c)

def val529 (m : (ℓ : Loc nD τ sig) → Buf (Elt F) ℓ) (ρ : Dev nD → PrngReg) (c : Dev nD) : FVec F S8x128x128 .f32 := k0_pay85 (F := F)

def val542 (m : (ℓ : Loc nD τ sig) → Buf (Elt F) ℓ) (ρ : Dev nD → PrngReg) (c : Dev nD) : FVec F S256x512 .f32 := k0_pay86 (val509 m ρ c) (val524 m ρ c) (val525 m ρ c) (val528 m ρ c) (val529 m ρ c)

def val611 (m : (ℓ : Loc nD τ sig) → Buf (Elt F) ℓ) (ρ : Dev nD → PrngReg) (c : Dev nD) : Vec F S256x512 .bf16 := (oblk m ρ (fw c 7))

def val618 (m : (ℓ : Loc nD τ sig) → Buf (Elt F) ℓ) (ρ : Dev nD → PrngReg) (c : Dev nD) : FVec F S8x128x64 .bf16 := k0_pay87 (val116 m ρ c) (qblk m ρ (fw c 7))

def val645 (m : (ℓ : Loc nD τ sig) → Buf (Elt F) ℓ) (ρ : Dev nD → PrngReg) (c : Dev nD) : FVec F S256x512 .f32 := k0_pay88 (val503 m ρ c) (val542 m ρ c) (val611 m ρ c) (val618 m ρ c) (grp (hdM (bufK m c)) (fw c 7)) (grp (hdM (bufV m c)) (fw c 7))

def val651 (m : (ℓ : Loc nD τ sig) → Buf (Elt F) ℓ) (ρ : Dev nD → PrngReg) (c : Dev nD) : Vec F S256x512 .bf16 := (oblk m ρ (fw c 1))

def val658 (m : (ℓ : Loc nD τ sig) → Buf (Elt F) ℓ) (ρ : Dev nD → PrngReg) (c : Dev nD) : FVec F S8x128x64 .bf16 := k0_pay89 (val116 m ρ c) (qblk m ρ (fw c 1))

def val685 (m : (ℓ : Loc nD τ sig) → Buf (Elt F) ℓ) (ρ : Dev nD → PrngReg) (c : Dev nD) : FVec F S256x512 .f32 := k0_pay90 (val503 m ρ c) (val645 m ρ c) (val651 m ρ c) (val658 m ρ c) (grp (hdM (bufK m c)) (fw c 1)) (grp (hdM (bufV m c)) (fw c 1))

def val788 (m : (ℓ : Loc nD τ sig) → Buf (Elt F) ℓ) (ρ : Dev nD → PrngReg) (c : Dev nD) : FVec F S256x512 .f32 := k0_pay91 (val116 m ρ c) (val503 m ρ c) (val685 m ρ c) (qblk m ρ (fw c 6)) (oblk m ρ (fw c 6)) (grp (hdM (bufK m c)) (fw c 6)) (grp (hdM (bufV m c)) (fw c 6))

def val828 (m : (ℓ : Loc nD τ sig) → Buf (Elt F) ℓ) (ρ : Dev nD → PrngReg) (c : Dev nD) : FVec F S256x512 .f32 := k0_pay92 (val116 m ρ c) (val503 m ρ c) (val788 m ρ c) (qblk m ρ (fw c 2)) (oblk m ρ (fw c 2)) (grp (hdM (bufK m c)) (fw c 2)) (grp (hdM (bufV m c)) (fw c 2))

def val881 (m : (ℓ : Loc nD τ sig) → Buf (Elt F) ℓ) (ρ : Dev nD → PrngReg) (c : Dev nD) : Vec F S256x512 .bf16 := (oblk m ρ (fw c 5))

def val885 (m : (ℓ : Loc nD τ sig) → Buf (Elt F) ℓ) (ρ : Dev nD → PrngReg) (c : Dev nD) : FVec F S256x256 .bf16 := k0_pay93 (val116 m ρ c) (qblk m ρ (fw c 5))

def val915 (m : (ℓ : Loc nD τ sig) → Buf (Elt F) ℓ) (ρ : Dev nD → PrngReg) (c : Dev nD) : FVec F S256x512 .f32 := k0_pay94 (val503 m ρ c) (val828 m ρ c) (val881 m ρ c) (val885 m ρ c) (grp (hdM (bufK m c)) (fw c 5)) (grp (hdM (bufV m c)) (fw c 5))

def val921 (m : (ℓ : Loc nD τ sig) → Buf (Elt F) ℓ) (ρ : Dev nD → PrngReg) (c : Dev nD) : Vec F S256x512 .bf16 := (oblk m ρ (fw c 3))

def val926 (m : (ℓ : Loc nD τ sig) → Buf (Elt F) ℓ) (ρ : Dev nD → PrngReg) (c : Dev nD) : FVec F S2x128x4x64 .bf16 := k0_pay95 (val116 m ρ c) (qblk m ρ (fw c 3))

def val955 (m : (ℓ : Loc nD τ sig) → Buf (Elt F) ℓ) (ρ : Dev nD → PrngReg) (c : Dev nD) : FVec F S256x512 .f32 := k0_pay96 (val503 m ρ c) (val915 m ρ c) (val921 m ρ c) (val926 m ρ c) (grp (hdM (bufK m c)) (fw c 3)) (grp (hdM (bufV m c)) (fw c 3))

def val977 (m : (ℓ : Loc nD τ sig) → Buf (Elt F) ℓ) (ρ : Dev nD → PrngReg) (c : Dev nD) : Vec F S256x512 .bf16 := (oblk m ρ (fw c 4))

def val992 (m : (ℓ : Loc nD τ sig) → Buf (Elt F) ℓ) (ρ : Dev nD → PrngReg) (c : Dev nD) : FVec F S8x128x64 .bf16 := k0_pay97 (grp (hdM (bufV m c)) (fw c 4))

def val993 (m : (ℓ : Loc nD τ sig) → Buf (Elt F) ℓ) (ρ : Dev nD → PrngReg) (c : Dev nD) : FVec F S8x128x128 .f32 := k0_pay98 (val116 m ρ c) (qblk m ρ (fw c 4)) (grp (hdM (bufK m c)) (fw c 4))

def val868 (m : (ℓ : Loc nD τ sig) → Buf (Elt F) ℓ) (ρ : Dev nD → PrngReg) (c : Dev nD) : F .f32 := Scalar.ofBits .f32 0xCE6E6B28#32

def val995 (m : (ℓ : Loc nD τ sig) → Buf (Elt F) ℓ) (ρ : Dev nD → PrngReg) (c : Dev nD) : IVec S1x128x128 1 := k0_pay99 (val503 m ρ c)

def val1011 (m : (ℓ : Loc nD τ sig) → Buf (Elt F) ℓ) (ρ : Dev nD → PrngReg) (c : Dev nD) : FVec F S256x512 .f32 := k0_pay100 (val955 m ρ c) (val977 m ρ c) (val992 m ρ c) (val993 m ρ c) (val868 m ρ c) (val995 m ρ c)

/-- The result device `c` stores. -/
def outv (m : (ℓ : Loc nD τ sig) → Buf (Elt F) ℓ) (ρ : Dev nD → PrngReg) (c : Dev nD) : FVec F S2x128x512 .f32 := k0_pay101 (val1011 m ρ c)

end Cert.RingProof

end

end
-- ==== Proof.PartsA.lean ====
/- The kernel's first stretch: the copies of `K`, `V` started, the barrier, the device's own blocks, the first transfers. -/
module

public import proofs.«01_k».proof.Proof.Tables

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem part_1 (K : Dev nD × CI → ℕ) (c : Dev nD)  {Φ : (Σ' (d0 : Dev nD) (v2 : BitVec 32) (v5 : BitVec 32) (v7 : BitVec 32) (v27 : FVec F S256x512 .bf16), BitVec 32) → sProp 𝕄} :
    iprop(env m ρ K ∗ (∃ f, whole c cc0_scratch2 f) ∗ whole c main_arg2 (m ((c : Thread nD τ).loc main_arg2)) ∗ semVal ((c : Thread nD τ), .dma (kvS false)) 0 ∗ (∃ f, whole c cc0_scratch3 f) ∗ whole c main_arg3 (m ((c : Thread nD τ).loc main_arg3)) ∗ semVal ((c : Thread nD τ), .dma (kvS true)) 0 ∗ ow 0 c ∗ barT (prv c) ∗ dutyTok ER (barCell (prv c)) 0 true ∗ barF (nxt c) ∗ dutyTok ER (barCell (nxt c)) 0 false ∗ cred (tallyAt (barCell c) () 2) ∗ atPos ER (barCell c) 0 ∅ 0 ∗ whole c cc0_stg1_0 (qstg m ρ c) ∗ pAny false c c ∗ whole c cc0_stg2_0 (ostg m ρ c))
      ⊢ iprop((∀ (v5 : BitVec 32) (v7 : BitVec 32) (v28 : BitVec 32) , (flK m c ∗ flV m c ∗ ow 2 c ∗ semVal (barCell c) 0 ∗ iprop(barF c ∗ barT c) ∗ whole c cc0_stg1_0 (qstg m ρ c) ∗ pc m ρ false c c fullShare ∗ whole c cc0_stg2_0 (ostg m ρ c)) -∗ Φ ⟨c, (w2 c), v5, v7, (val27 m ρ c), v28⟩)
        -∗ run c (k0_part1 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 ) Φ) := by
  rw [k0_part1_eq_skeleton]; unfold k0_part1_skel
  simp only [semSignalWord, semWaitWord, Prog.lift, Prog.bind_op, Prog.bind_ret, Prog.pure_eq_ret, Prog.bind_assoc, wp_deviceId]
  unfold w2 val27
  iintro ⟨#HE, HKd, HKs, HKz, HVd, HVs, HVz, HO, HBp, HBtp, HBn, HBtn, HBc, HBa, Hq, HAq, Ho⟩ Hk
  iapply (startK m c (s := _) (semKV0)) $$ [HKd HKs HKz]
  · isplitl [HKd]; · iexact HKd
    isplitl [HKs] <;> iassumption
  iintro HKf
  iapply (startV m c (s := _) (semKV1)) $$ [HVd HVs HVz]
  · isplitl [HVd]; · iexact HVd
    isplitl [HVs] <;> iassumption
  iintro HVf
  iapply (sig_x m ρ K c false 0 true (prv c) (dev1 c) rfl rfl (P := barT (prv c)) (by rw [payload_bar_true])) $$ [HBp HBtp HO]
  · isplitr; · iexact HE
    isplitl [HBp]; · iexact HBp
    isplitl [HBtp] <;> iassumption
  iintro HO
  iapply (sig_x m ρ K c false 1 false (nxt c) (dev2 c) rfl rfl (P := barF (nxt c)) (by rw [payload_bar_false])) $$ [HBn HBtn HO]
  · isplitr; · iexact HE
    isplitl [HBn]; · iexact HBn
    isplitl [HBtn] <;> iassumption
  iintro HO
  iapply (wait_reg m ρ K c false 2 rfl (by decide)) $$ [HBc HBa HO]
  · isplitr; · iexact HE
    isplitl [HBc]; · iexact HBc
    isplitl [HBa] <;> iassumption
  iintro ⟨HBz, Hpay, HO⟩
  ihave HBB := (Entails.of_eq (rest_bar m ρ c)) $$ Hpay
  iapply (ld_stg1 c (qstg m ρ c)) $$ Hq; iintro Hq
  iapply (lda_q c c (off1 c)) $$ HAq; iintro %v22 HAq
  rw [show ((k0_pay1 (qstg m ρ c)) : FVec F _ .bf16) = qblk m ρ c from rfl]
  iapply (st_q m ρ c c (off1 c)) $$ HAq; iintro HBq
  iapply (ld_stg2 c (ostg m ρ c)) $$ Ho; iintro Ho
  iapply (run_ret c); iapply Hk
  isplitl [HKf]; · iexact HKf
  isplitl [HVf]; · iexact HVf
  isplitl [HO]; · iexact HO
  isplitl [HBz]; · iexact HBz
  isplitl [HBB]; · iexact HBB
  isplitl [Hq]; · iexact Hq
  isplitl [HBq]; · iexact HBq
  iexact Ho

theorem part_2 (K : Dev nD × CI → ℕ) (c : Dev nD) (v2 : BitVec 32) (v28 : BitVec 32) {Φ : (BitVec 32) → sProp 𝕄} :
    iprop(env m ρ K ∗ pAny true c c)
      ⊢ iprop((∀ (v59 : BitVec 32) , (pc m ρ true c c fullShare) -∗ Φ v59)
        -∗ run c (k0_part2 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c v2 (val27 m ρ c) v28) Φ) := by
  rw [k0_part2_eq_skeleton]; unfold k0_part2_skel
  simp only [semSignalWord, semWaitWord, Prog.lift, Prog.bind_op, Prog.bind_ret, Prog.pure_eq_ret, Prog.bind_assoc, wp_deviceId]
  iintro ⟨#HE, HAo⟩ Hk
  iapply (lda_o c c (off2 c)) $$ HAo; iintro %v30 HAo
  rw [show ((k0_pay3 (val27 m ρ c)) : FVec F _ .bf16) = oblk m ρ c from rfl]
  iapply (st_o m ρ c c (off2 c)) $$ HAo; iintro HBo
  iapply (run_ret c); iapply Hk
  iexact HBo

theorem part_3 (K : Dev nD × CI → ℕ) (c : Dev nD) (v2 : BitVec 32) (v7 : BitVec 32) (v59 : BitVec 32) {Φ : (PUnit) → sProp 𝕄} :
    iprop(env m ρ K ∗ sk 0 c ∗ land 0 c ∗ pc m ρ false c (fw c 0) fullShare.left ∗ ow 2 c)
      ⊢ iprop(((ow 3 c ∗ sw 0 c) -∗ Φ ⟨⟩)
        -∗ run c (k0_part3 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c v2 v7 v59) Φ) := by
  rw [k0_part3_eq_skeleton]; unfold k0_part3_skel
  simp only [semSignalWord, semWaitWord, Prog.lift, Prog.bind_op, Prog.bind_ret, Prog.pure_eq_ret, Prog.bind_assoc, wp_deviceId]
  iintro ⟨#HE, Hs0, Hl0, Hpq0l, HO⟩ Hk
  iapply (send_q m ρ K c 0 rfl (dev3 c) (wqB_of (off3_0 c)) (wqB_of (off3_0 c)) semS0 semR0) $$ [Hs0 Hl0 Hpq0l HO]
  · isplitr; · iexact HE
    isplitl [Hs0]; · iexact Hs0
    isplitl [Hl0]; · iexact Hl0
    isplitl [Hpq0l]; · iexact Hpq0l
    iexact HO
  iintro ⟨Hw0, HO⟩
  iapply (run_ret c); iapply Hk
  isplitl [HO]; · iexact HO
  iexact Hw0

theorem part_4 (K : Dev nD × CI → ℕ) (c : Dev nD) (v5 : BitVec 32) (v7 : BitVec 32) {Φ : (FVec F S256x512 .bf16) → sProp 𝕄} :
    iprop(env m ρ K ∗ sk 1 c ∗ land 1 c ∗ pc m ρ true c (fw c 0) fullShare.left ∗ ow 3 c ∗ sk 2 c ∗ land 2 c ∗ pc m ρ false c (fw c 0) fullShare.right ∗ sk 3 c ∗ land 3 c ∗ pc m ρ true c (fw c 0) fullShare.right ∗ whole c cc0_stg0_0 (xstg m ρ c))
      ⊢ iprop(((ow 6 c ∗ sw 1 c ∗ sw 2 c ∗ sw 3 c ∗ whole c cc0_stg0_0 (xstg m ρ c)) -∗ Φ (val116 m ρ c))
        -∗ run c (k0_part4 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c v5 v7) Φ) := by
  rw [k0_part4_eq_skeleton]; unfold k0_part4_skel
  simp only [semSignalWord, semWaitWord, Prog.lift, Prog.bind_op, Prog.bind_ret, Prog.pure_eq_ret, Prog.bind_assoc, wp_deviceId]
  unfold val116
  iintro ⟨#HE, Hs1, Hl1, Hpo0l, HO, Hs2, Hl2, Hpq0r, Hs3, Hl3, Hpo0r, Hx⟩ Hk
  iapply (send_o m ρ K c 1 rfl (dev4 c) (woB_of (off4_0 c)) (woB_of (off4_0 c)) semS1 semR1) $$ [Hs1 Hl1 Hpo0l HO]
  · isplitr; · iexact HE
    isplitl [Hs1]; · iexact Hs1
    isplitl [Hl1]; · iexact Hl1
    isplitl [Hpo0l]; · iexact Hpo0l
    iexact HO
  iintro ⟨Hw1, HO⟩
  iapply (send_q m ρ K c 2 rfl (dev5 c) (wqB_of (off5_0 c)) (wqB_of (off5_0 c)) semS2 semR2) $$ [Hs2 Hl2 Hpq0r HO]
  · isplitr; · iexact HE
    isplitl [Hs2]; · iexact Hs2
    isplitl [Hl2]; · iexact Hl2
    isplitl [Hpq0r]; · iexact Hpq0r
    iexact HO
  iintro ⟨Hw2, HO⟩
  iapply (send_o m ρ K c 3 rfl (dev6 c) (woB_of (off6_0 c)) (woB_of (off6_0 c)) semS3 semR3) $$ [Hs3 Hl3 Hpo0r HO]
  · isplitr; · iexact HE
    isplitl [Hs3]; · iexact Hs3
    isplitl [Hl3]; · iexact Hl3
    isplitl [Hpo0r]; · iexact Hpo0r
    iexact HO
  iintro ⟨Hw3, HO⟩
  iapply (ld_stg0 c (xstg m ρ c)) $$ Hx; iintro Hx
  iapply (run_ret c); iapply Hk
  isplitl [HO]; · iexact HO
  isplitl [Hw1]; · iexact Hw1
  isplitl [Hw2]; · iexact Hw2
  isplitl [Hw3]; · iexact Hw3
  iexact Hx

end Cert.RingProof

end

end
-- ==== Proof.PartsB.lean ====
/- The rearrangement of `K` and `V` head by head, first half. -/
module

public import proofs.«01_k».proof.Proof.Tables

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem part_5 (K : Dev nD × CI → ℕ) (c : Dev nD)  {Φ : (PUnit) → sProp 𝕄} :
    iprop(env m ρ K ∗ ow 6 c ∗ flK m c ∗ flV m c ∗ hdK m c 0 ∗ hdV m c 0)
      ⊢ iprop(((ow 6 c ∗ whole c cc0_scratch2 (bufK m c) ∗ whole c main_arg2 (m ((c : Thread nD τ).loc main_arg2)) ∗ semVal ((c : Thread nD τ), .dma (kvS false)) 0 ∗ whole c cc0_scratch3 (bufV m c) ∗ whole c main_arg3 (m ((c : Thread nD τ).loc main_arg3)) ∗ semVal ((c : Thread nD τ), .dma (kvS true)) 0 ∗ hdK m c 2 ∗ hdV m c 2) -∗ Φ ⟨⟩)
        -∗ run c (k0_part5 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 ) Φ) := by
  rw [k0_part5_eq_skeleton]; unfold k0_part5_skel
  simp only [semSignalWord, semWaitWord, Prog.lift, Prog.bind_op, Prog.bind_ret, Prog.pure_eq_ret, Prog.bind_assoc, wp_deviceId]
  iintro ⟨#HE, HO, HKf, HVf, HKh, HVh⟩ Hk
  iapply (waitK m ρ K c 6 (by decide) semKV0) $$ [HKf HO]
  · isplitr; · iexact HE
    isplitl [HKf] <;> iassumption
  iintro ⟨HKb, HKs, HKz, HO⟩
  iapply (waitV m ρ K c 6 (by decide) semKV1) $$ [HVf HO]
  · isplitr; · iexact HE
    isplitl [HVf] <;> iassumption
  iintro ⟨HVb, HVs, HVz, HO⟩
  iapply (ldhK m c 0 (off := ![0, 0, 0]) rfl) $$ HKb; iintro HKb
  iapply (ldaK m c 0) $$ HKh; iintro %v123 HKh
  iapply (sthK m c 0 0 1 rfl rfl (off := ![0, 0, 0, 0]) rfl ((k0_pay5 (slab (bufK m c) 0))) rfl) $$ HKh; iintro HKh
  iapply (ldhV m c 0 (off := ![0, 0, 0]) rfl) $$ HVb; iintro HVb
  iapply (ldaV m c 0) $$ HVh; iintro %v128 HVh
  iapply (sthV m c 0 0 1 rfl rfl (off := ![0, 0, 0, 0]) rfl ((k0_pay6 (slab (bufV m c) 0))) rfl) $$ HVh; iintro HVh
  iapply (ldhK m c 1 (off := ![0, 0, 64]) rfl) $$ HKb; iintro HKb
  iapply (ldaK m c 1) $$ HKh; iintro %v133 HKh
  iapply (sthK m c 1 1 2 rfl rfl (off := ![0, 1, 0, 0]) rfl ((k0_pay7 (slab (bufK m c) 1))) rfl) $$ HKh; iintro HKh
  iapply (ldhV m c 1 (off := ![0, 0, 64]) rfl) $$ HVb; iintro HVb
  iapply (ldaV m c 1) $$ HVh; iintro %v138 HVh
  iapply (sthV m c 1 1 2 rfl rfl (off := ![0, 1, 0, 0]) rfl ((k0_pay8 (slab (bufV m c) 1))) rfl) $$ HVh; iintro HVh
  iapply (run_ret c); iapply Hk
  isplitl [HO]; · iexact HO
  isplitl [HKb]; · iexact HKb
  isplitl [HKs]; · iexact HKs
  isplitl [HKz]; · iexact HKz
  isplitl [HVb]; · iexact HVb
  isplitl [HVs]; · iexact HVs
  isplitl [HVz]; · iexact HVz
  isplitl [HKh]; · iexact HKh
  iexact HVh

theorem part_6 (K : Dev nD × CI → ℕ) (c : Dev nD)  {Φ : (FVec F S2x128x64 .bf16) → sProp 𝕄} :
    iprop(env m ρ K ∗ whole c cc0_scratch2 (bufK m c) ∗ hdK m c 2 ∗ whole c cc0_scratch3 (bufV m c) ∗ hdV m c 2)
      ⊢ iprop(((whole c cc0_scratch2 (bufK m c) ∗ hdK m c 4 ∗ whole c cc0_scratch3 (bufV m c) ∗ hdV m c 4) -∗ Φ (val162 m ρ c))
        -∗ run c (k0_part6 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 ) Φ) := by
  rw [k0_part6_eq_skeleton]; unfold k0_part6_skel
  simp only [semSignalWord, semWaitWord, Prog.lift, Prog.bind_op, Prog.bind_ret, Prog.pure_eq_ret, Prog.bind_assoc, wp_deviceId]
  unfold val162
  iintro ⟨#HE, HKb, HKh, HVb, HVh⟩ Hk
  iapply (ldhK m c 2 (off := ![0, 0, 128]) rfl) $$ HKb; iintro HKb
  iapply (ldaK m c 2) $$ HKh; iintro %v143 HKh
  iapply (sthK m c 2 2 3 rfl rfl (off := ![0, 2, 0, 0]) rfl ((k0_pay9 (slab (bufK m c) 2))) rfl) $$ HKh; iintro HKh
  iapply (ldhV m c 2 (off := ![0, 0, 128]) rfl) $$ HVb; iintro HVb
  iapply (ldaV m c 2) $$ HVh; iintro %v148 HVh
  iapply (sthV m c 2 2 3 rfl rfl (off := ![0, 2, 0, 0]) rfl ((k0_pay10 (slab (bufV m c) 2))) rfl) $$ HVh; iintro HVh
  iapply (ldhK m c 3 (off := ![0, 0, 192]) rfl) $$ HKb; iintro HKb
  iapply (ldaK m c 3) $$ HKh; iintro %v153 HKh
  iapply (sthK m c 3 3 4 rfl rfl (off := ![0, 3, 0, 0]) rfl ((k0_pay11 (slab (bufK m c) 3))) rfl) $$ HKh; iintro HKh
  iapply (ldhV m c 3 (off := ![0, 0, 192]) rfl) $$ HVb; iintro HVb
  iapply (ldaV m c 3) $$ HVh; iintro %v158 HVh
  iapply (sthV m c 3 3 4 rfl rfl (off := ![0, 3, 0, 0]) rfl ((k0_pay12 (slab (bufV m c) 3))) rfl) $$ HVh; iintro HVh
  iapply (ldhK m c 4 (off := ![0, 0, 256]) rfl) $$ HKb; iintro HKb
  iapply (ldaK m c 4) $$ HKh; iintro %v163 HKh
  iapply (run_ret c); iapply Hk
  isplitl [HKb]; · iexact HKb
  isplitl [HKh]; · iexact HKh
  isplitl [HVb]; · iexact HVb
  iexact HVh

theorem part_7 (K : Dev nD × CI → ℕ) (c : Dev nD)  {Φ : (FVec F S2x128x64 .bf16) → sProp 𝕄} :
    iprop(env m ρ K ∗ hdK m c 4 ∗ whole c cc0_scratch3 (bufV m c) ∗ hdV m c 4 ∗ whole c cc0_scratch2 (bufK m c))
      ⊢ iprop(((hdK m c 7 ∗ whole c cc0_scratch3 (bufV m c) ∗ hdV m c 6 ∗ whole c cc0_scratch2 (bufK m c)) -∗ Φ (val187 m ρ c))
        -∗ run c (k0_part7 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 (val162 m ρ c)) Φ) := by
  rw [k0_part7_eq_skeleton]; unfold k0_part7_skel
  simp only [semSignalWord, semWaitWord, Prog.lift, Prog.bind_op, Prog.bind_ret, Prog.pure_eq_ret, Prog.bind_assoc, wp_deviceId]
  unfold val187
  iintro ⟨#HE, HKh, HVb, HVh, HKb⟩ Hk
  iapply (sthK m c 4 4 5 rfl rfl (off := ![0, 4, 0, 0]) rfl ((k0_pay14 (val162 m ρ c))) rfl) $$ HKh; iintro HKh
  iapply (ldhV m c 4 (off := ![0, 0, 256]) rfl) $$ HVb; iintro HVb
  iapply (ldaV m c 4) $$ HVh; iintro %v168 HVh
  iapply (sthV m c 4 4 5 rfl rfl (off := ![0, 4, 0, 0]) rfl ((k0_pay15 (slab (bufV m c) 4))) rfl) $$ HVh; iintro HVh
  iapply (ldhK m c 5 (off := ![0, 0, 320]) rfl) $$ HKb; iintro HKb
  iapply (ldaK m c 5) $$ HKh; iintro %v173 HKh
  iapply (sthK m c 5 5 6 rfl rfl (off := ![0, 5, 0, 0]) rfl ((k0_pay16 (slab (bufK m c) 5))) rfl) $$ HKh; iintro HKh
  iapply (ldhV m c 5 (off := ![0, 0, 320]) rfl) $$ HVb; iintro HVb
  iapply (ldaV m c 5) $$ HVh; iintro %v178 HVh
  iapply (sthV m c 5 5 6 rfl rfl (off := ![0, 5, 0, 0]) rfl ((k0_pay17 (slab (bufV m c) 5))) rfl) $$ HVh; iintro HVh
  iapply (ldhK m c 6 (off := ![0, 0, 384]) rfl) $$ HKb; iintro HKb
  iapply (ldaK m c 6) $$ HKh; iintro %v183 HKh
  iapply (sthK m c 6 6 7 rfl rfl (off := ![0, 6, 0, 0]) rfl ((k0_pay18 (slab (bufK m c) 6))) rfl) $$ HKh; iintro HKh
  iapply (ldhV m c 6 (off := ![0, 0, 384]) rfl) $$ HVb; iintro HVb
  iapply (run_ret c); iapply Hk
  isplitl [HKh]; · iexact HKh
  isplitl [HVb]; · iexact HVb
  isplitl [HVh]; · iexact HVh
  iexact HKb

theorem part_8 (K : Dev nD × CI → ℕ) (c : Dev nD)  {Φ : (PUnit) → sProp 𝕄} :
    iprop(env m ρ K ∗ hdV m c 6 ∗ whole c cc0_scratch2 (bufK m c) ∗ hdK m c 7 ∗ whole c cc0_scratch3 (bufV m c))
      ⊢ iprop(((hdV m c 9 ∗ whole c cc0_scratch2 (bufK m c) ∗ hdK m c 9 ∗ whole c cc0_scratch3 (bufV m c)) -∗ Φ ⟨⟩)
        -∗ run c (k0_part8 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 (val187 m ρ c)) Φ) := by
  rw [k0_part8_eq_skeleton]; unfold k0_part8_skel
  simp only [semSignalWord, semWaitWord, Prog.lift, Prog.bind_op, Prog.bind_ret, Prog.pure_eq_ret, Prog.bind_assoc, wp_deviceId]
  iintro ⟨#HE, HVh, HKb, HKh, HVb⟩ Hk
  iapply (ldaV m c 6) $$ HVh; iintro %v188 HVh
  iapply (sthV m c 6 6 7 rfl rfl (off := ![0, 6, 0, 0]) rfl ((k0_pay20 (val187 m ρ c))) rfl) $$ HVh; iintro HVh
  iapply (ldhK m c 7 (off := ![0, 0, 448]) rfl) $$ HKb; iintro HKb
  iapply (ldaK m c 7) $$ HKh; iintro %v193 HKh
  iapply (sthK m c 7 7 8 rfl rfl (off := ![0, 7, 0, 0]) rfl ((k0_pay21 (slab (bufK m c) 7))) rfl) $$ HKh; iintro HKh
  iapply (ldhV m c 7 (off := ![0, 0, 448]) rfl) $$ HVb; iintro HVb
  iapply (ldaV m c 7) $$ HVh; iintro %v198 HVh
  iapply (sthV m c 7 7 8 rfl rfl (off := ![0, 7, 0, 0]) rfl ((k0_pay22 (slab (bufV m c) 7))) rfl) $$ HVh; iintro HVh
  iapply (ldhK m c 8 (off := ![0, 0, 512]) rfl) $$ HKb; iintro HKb
  iapply (ldaK m c 8) $$ HKh; iintro %v203 HKh
  iapply (sthK m c 8 8 9 rfl rfl (off := ![0, 8, 0, 0]) rfl ((k0_pay23 (slab (bufK m c) 8))) rfl) $$ HKh; iintro HKh
  iapply (ldhV m c 8 (off := ![0, 0, 512]) rfl) $$ HVb; iintro HVb
  iapply (ldaV m c 8) $$ HVh; iintro %v208 HVh
  iapply (sthV m c 8 8 9 rfl rfl (off := ![0, 8, 0, 0]) rfl ((k0_pay24 (slab (bufV m c) 8))) rfl) $$ HVh; iintro HVh
  iapply (run_ret c); iapply Hk
  isplitl [HVh]; · iexact HVh
  isplitl [HKb]; · iexact HKb
  isplitl [HKh]; · iexact HKh
  iexact HVb

theorem part_9 (K : Dev nD × CI → ℕ) (c : Dev nD)  {Φ : (FVec F S2x128x64 .bf16) → sProp 𝕄} :
    iprop(env m ρ K ∗ whole c cc0_scratch2 (bufK m c) ∗ hdK m c 9 ∗ whole c cc0_scratch3 (bufV m c) ∗ hdV m c 9)
      ⊢ iprop(((whole c cc0_scratch2 (bufK m c) ∗ hdK m c 11 ∗ whole c cc0_scratch3 (bufV m c) ∗ hdV m c 11) -∗ Φ (val232 m ρ c))
        -∗ run c (k0_part9 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 ) Φ) := by
  rw [k0_part9_eq_skeleton]; unfold k0_part9_skel
  simp only [semSignalWord, semWaitWord, Prog.lift, Prog.bind_op, Prog.bind_ret, Prog.pure_eq_ret, Prog.bind_assoc, wp_deviceId]
  unfold val232
  iintro ⟨#HE, HKb, HKh, HVb, HVh⟩ Hk
  iapply (ldhK m c 9 (off := ![0, 0, 576]) rfl) $$ HKb; iintro HKb
  iapply (ldaK m c 9) $$ HKh; iintro %v213 HKh
  iapply (sthK m c 9 9 10 rfl rfl (off := ![0, 9, 0, 0]) rfl ((k0_pay25 (slab (bufK m c) 9))) rfl) $$ HKh; iintro HKh
  iapply (ldhV m c 9 (off := ![0, 0, 576]) rfl) $$ HVb; iintro HVb
  iapply (ldaV m c 9) $$ HVh; iintro %v218 HVh
  iapply (sthV m c 9 9 10 rfl rfl (off := ![0, 9, 0, 0]) rfl ((k0_pay26 (slab (bufV m c) 9))) rfl) $$ HVh; iintro HVh
  iapply (ldhK m c 10 (off := ![0, 0, 640]) rfl) $$ HKb; iintro HKb
  iapply (ldaK m c 10) $$ HKh; iintro %v223 HKh
  iapply (sthK m c 10 10 11 rfl rfl (off := ![0, 10, 0, 0]) rfl ((k0_pay27 (slab (bufK m c) 10))) rfl) $$ HKh; iintro HKh
  iapply (ldhV m c 10 (off := ![0, 0, 640]) rfl) $$ HVb; iintro HVb
  iapply (ldaV m c 10) $$ HVh; iintro %v228 HVh
  iapply (sthV m c 10 10 11 rfl rfl (off := ![0, 10, 0, 0]) rfl ((k0_pay28 (slab (bufV m c) 10))) rfl) $$ HVh; iintro HVh
  iapply (ldhK m c 11 (off := ![0, 0, 704]) rfl) $$ HKb; iintro HKb
  iapply (run_ret c); iapply Hk
  isplitl [HKb]; · iexact HKb
  isplitl [HKh]; · iexact HKh
  isplitl [HVb]; · iexact HVb
  iexact HVh

theorem part_10 (K : Dev nD × CI → ℕ) (c : Dev nD)  {Φ : (Vec F S2x128x64 .f32) → sProp 𝕄} :
    iprop(env m ρ K ∗ hdK m c 11 ∗ whole c cc0_scratch3 (bufV m c) ∗ hdV m c 11 ∗ whole c cc0_scratch2 (bufK m c))
      ⊢ iprop(((hdK m c 14 ∗ whole c cc0_scratch3 (bufV m c) ∗ hdV m c 13 ∗ whole c cc0_scratch2 (bufK m c)) -∗ Φ (val256 m ρ c))
        -∗ run c (k0_part10 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 (val232 m ρ c)) Φ) := by
  rw [k0_part10_eq_skeleton]; unfold k0_part10_skel
  simp only [semSignalWord, semWaitWord, Prog.lift, Prog.bind_op, Prog.bind_ret, Prog.pure_eq_ret, Prog.bind_assoc, wp_deviceId]
  unfold val256
  iintro ⟨#HE, HKh, HVb, HVh, HKb⟩ Hk
  iapply (ldaK m c 11) $$ HKh; iintro %v233 HKh
  iapply (sthK m c 11 11 12 rfl rfl (off := ![0, 11, 0, 0]) rfl ((k0_pay30 (val232 m ρ c))) rfl) $$ HKh; iintro HKh
  iapply (ldhV m c 11 (off := ![0, 0, 704]) rfl) $$ HVb; iintro HVb
  iapply (ldaV m c 11) $$ HVh; iintro %v238 HVh
  iapply (sthV m c 11 11 12 rfl rfl (off := ![0, 11, 0, 0]) rfl ((k0_pay31 (slab (bufV m c) 11))) rfl) $$ HVh; iintro HVh
  iapply (ldhK m c 12 (off := ![0, 0, 768]) rfl) $$ HKb; iintro HKb
  iapply (ldaK m c 12) $$ HKh; iintro %v243 HKh
  iapply (sthK m c 12 12 13 rfl rfl (off := ![0, 12, 0, 0]) rfl ((k0_pay32 (slab (bufK m c) 12))) rfl) $$ HKh; iintro HKh
  iapply (ldhV m c 12 (off := ![0, 0, 768]) rfl) $$ HVb; iintro HVb
  iapply (ldaV m c 12) $$ HVh; iintro %v248 HVh
  iapply (sthV m c 12 12 13 rfl rfl (off := ![0, 12, 0, 0]) rfl ((k0_pay33 (slab (bufV m c) 12))) rfl) $$ HVh; iintro HVh
  iapply (ldhK m c 13 (off := ![0, 0, 832]) rfl) $$ HKb; iintro HKb
  iapply (ldaK m c 13) $$ HKh; iintro %v253 HKh
  iapply (sthK m c 13 13 14 rfl rfl (off := ![0, 13, 0, 0]) rfl ((k0_pay34 (slab (bufK m c) 13))) rfl) $$ HKh; iintro HKh
  iapply (ldhV m c 13 (off := ![0, 0, 832]) rfl) $$ HVb; iintro HVb
  iapply (run_ret c); iapply Hk
  isplitl [HKh]; · iexact HKh
  isplitl [HVb]; · iexact HVb
  isplitl [HVh]; · iexact HVh
  iexact HKb

theorem part_11 (K : Dev nD × CI → ℕ) (c : Dev nD)  {Φ : (FVec F S2x1x128x64 .bf16) → sProp 𝕄} :
    iprop(env m ρ K ∗ hdV m c 13 ∗ whole c cc0_scratch2 (bufK m c) ∗ hdK m c 14 ∗ whole c cc0_scratch3 (bufV m c))
      ⊢ iprop(((hdV m c 15 ∗ whole c cc0_scratch2 (bufK m c) ∗ hdK m c 16 ∗ whole c cc0_scratch3 (bufV m c)) -∗ Φ (val280 m ρ c))
        -∗ run c (k0_part11 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 (val256 m ρ c)) Φ) := by
  rw [k0_part11_eq_skeleton]; unfold k0_part11_skel
  simp only [semSignalWord, semWaitWord, Prog.lift, Prog.bind_op, Prog.bind_ret, Prog.pure_eq_ret, Prog.bind_assoc, wp_deviceId]
  unfold val280
  iintro ⟨#HE, HVh, HKb, HKh, HVb⟩ Hk
  iapply (ldaV m c 13) $$ HVh; iintro %v258 HVh
  iapply (sthV m c 13 13 14 rfl rfl (off := ![0, 13, 0, 0]) rfl ((k0_pay35 (val256 m ρ c))) rfl) $$ HVh; iintro HVh
  iapply (ldhK m c 14 (off := ![0, 0, 896]) rfl) $$ HKb; iintro HKb
  iapply (ldaK m c 14) $$ HKh; iintro %v263 HKh
  iapply (sthK m c 14 14 15 rfl rfl (off := ![0, 14, 0, 0]) rfl ((k0_pay36 (slab (bufK m c) 14))) rfl) $$ HKh; iintro HKh
  iapply (ldhV m c 14 (off := ![0, 0, 896]) rfl) $$ HVb; iintro HVb
  iapply (ldaV m c 14) $$ HVh; iintro %v268 HVh
  iapply (sthV m c 14 14 15 rfl rfl (off := ![0, 14, 0, 0]) rfl ((k0_pay37 (slab (bufV m c) 14))) rfl) $$ HVh; iintro HVh
  iapply (ldhK m c 15 (off := ![0, 0, 960]) rfl) $$ HKb; iintro HKb
  iapply (ldaK m c 15) $$ HKh; iintro %v273 HKh
  iapply (sthK m c 15 15 16 rfl rfl (off := ![0, 15, 0, 0]) rfl ((k0_pay38 (slab (bufK m c) 15))) rfl) $$ HKh; iintro HKh
  iapply (ldhV m c 15 (off := ![0, 0, 960]) rfl) $$ HVb; iintro HVb
  iapply (ldaV m c 15) $$ HVh; iintro %v278 HVh
  iapply (run_ret c); iapply Hk
  isplitl [HVh]; · iexact HVh
  isplitl [HKb]; · iexact HKb
  isplitl [HKh]; · iexact HKh
  iexact HVb

theorem part_12 (K : Dev nD × CI → ℕ) (c : Dev nD)  {Φ : (FVec F S2x128x64 .bf16) → sProp 𝕄} :
    iprop(env m ρ K ∗ hdV m c 15 ∗ whole c cc0_scratch2 (bufK m c) ∗ hdK m c 16 ∗ whole c cc0_scratch3 (bufV m c))
      ⊢ iprop(((hdV m c 18 ∗ whole c cc0_scratch2 (bufK m c) ∗ hdK m c 18 ∗ whole c cc0_scratch3 (bufV m c)) -∗ Φ (val302 m ρ c))
        -∗ run c (k0_part12 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 (val280 m ρ c)) Φ) := by
  rw [k0_part12_eq_skeleton]; unfold k0_part12_skel
  simp only [semSignalWord, semWaitWord, Prog.lift, Prog.bind_op, Prog.bind_ret, Prog.pure_eq_ret, Prog.bind_assoc, wp_deviceId]
  unfold val302
  iintro ⟨#HE, HVh, HKb, HKh, HVb⟩ Hk
  iapply (sthV m c 15 15 16 rfl rfl (off := ![0, 15, 0, 0]) rfl ((val280 m ρ c)) rfl) $$ HVh; iintro HVh
  iapply (ldhK m c 16 (off := ![0, 0, 1024]) rfl) $$ HKb; iintro HKb
  iapply (ldaK m c 16) $$ HKh; iintro %v283 HKh
  iapply (sthK m c 16 16 17 rfl rfl (off := ![0, 16, 0, 0]) rfl ((k0_pay40 (slab (bufK m c) 16))) rfl) $$ HKh; iintro HKh
  iapply (ldhV m c 16 (off := ![0, 0, 1024]) rfl) $$ HVb; iintro HVb
  iapply (ldaV m c 16) $$ HVh; iintro %v288 HVh
  iapply (sthV m c 16 16 17 rfl rfl (off := ![0, 16, 0, 0]) rfl ((k0_pay41 (slab (bufV m c) 16))) rfl) $$ HVh; iintro HVh
  iapply (ldhK m c 17 (off := ![0, 0, 1088]) rfl) $$ HKb; iintro HKb
  iapply (ldaK m c 17) $$ HKh; iintro %v293 HKh
  iapply (sthK m c 17 17 18 rfl rfl (off := ![0, 17, 0, 0]) rfl ((k0_pay42 (slab (bufK m c) 17))) rfl) $$ HKh; iintro HKh
  iapply (ldhV m c 17 (off := ![0, 0, 1088]) rfl) $$ HVb; iintro HVb
  iapply (ldaV m c 17) $$ HVh; iintro %v298 HVh
  iapply (sthV m c 17 17 18 rfl rfl (off := ![0, 17, 0, 0]) rfl ((k0_pay43 (slab (bufV m c) 17))) rfl) $$ HVh; iintro HVh
  iapply (ldhK m c 18 (off := ![0, 0, 1152]) rfl) $$ HKb; iintro HKb
  iapply (run_ret c); iapply Hk
  isplitl [HVh]; · iexact HVh
  isplitl [HKb]; · iexact HKb
  isplitl [HKh]; · iexact HKh
  iexact HVb

end Cert.RingProof

end

end
-- ==== Proof.PartsB2.lean ====
/- The rearrangement of `K` and `V` head by head, second half; the mask; the operands of the own block. -/
module

public import proofs.«01_k».proof.Proof.Tables

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem part_13 (K : Dev nD × CI → ℕ) (c : Dev nD)  {Φ : (PUnit) → sProp 𝕄} :
    iprop(env m ρ K ∗ hdK m c 18 ∗ whole c cc0_scratch3 (bufV m c) ∗ hdV m c 18 ∗ whole c cc0_scratch2 (bufK m c))
      ⊢ iprop(((hdK m c 21 ∗ whole c cc0_scratch3 (bufV m c) ∗ hdV m c 20 ∗ whole c cc0_scratch2 (bufK m c)) -∗ Φ ⟨⟩)
        -∗ run c (k0_part13 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 (val302 m ρ c)) Φ) := by
  rw [k0_part13_eq_skeleton]; unfold k0_part13_skel
  simp only [semSignalWord, semWaitWord, Prog.lift, Prog.bind_op, Prog.bind_ret, Prog.pure_eq_ret, Prog.bind_assoc, wp_deviceId]
  iintro ⟨#HE, HKh, HVb, HVh, HKb⟩ Hk
  iapply (ldaK m c 18) $$ HKh; iintro %v303 HKh
  iapply (sthK m c 18 18 19 rfl rfl (off := ![0, 18, 0, 0]) rfl ((k0_pay45 (val302 m ρ c))) rfl) $$ HKh; iintro HKh
  iapply (ldhV m c 18 (off := ![0, 0, 1152]) rfl) $$ HVb; iintro HVb
  iapply (ldaV m c 18) $$ HVh; iintro %v308 HVh
  iapply (sthV m c 18 18 19 rfl rfl (off := ![0, 18, 0, 0]) rfl ((k0_pay46 (slab (bufV m c) 18))) rfl) $$ HVh; iintro HVh
  iapply (ldhK m c 19 (off := ![0, 0, 1216]) rfl) $$ HKb; iintro HKb
  iapply (ldaK m c 19) $$ HKh; iintro %v313 HKh
  iapply (sthK m c 19 19 20 rfl rfl (off := ![0, 19, 0, 0]) rfl ((k0_pay47 (slab (bufK m c) 19))) rfl) $$ HKh; iintro HKh
  iapply (ldhV m c 19 (off := ![0, 0, 1216]) rfl) $$ HVb; iintro HVb
  iapply (ldaV m c 19) $$ HVh; iintro %v318 HVh
  iapply (sthV m c 19 19 20 rfl rfl (off := ![0, 19, 0, 0]) rfl ((k0_pay48 (slab (bufV m c) 19))) rfl) $$ HVh; iintro HVh
  iapply (ldhK m c 20 (off := ![0, 0, 1280]) rfl) $$ HKb; iintro HKb
  iapply (ldaK m c 20) $$ HKh; iintro %v323 HKh
  iapply (sthK m c 20 20 21 rfl rfl (off := ![0, 20, 0, 0]) rfl ((k0_pay49 (slab (bufK m c) 20))) rfl) $$ HKh; iintro HKh
  iapply (run_ret c); iapply Hk
  isplitl [HKh]; · iexact HKh
  isplitl [HVb]; · iexact HVb
  isplitl [HVh]; · iexact HVh
  iexact HKb

theorem part_14 (K : Dev nD × CI → ℕ) (c : Dev nD)  {Φ : (Σ' (v347 : FVec F S2x128x64 .bf16), Vec F S2x1x128x64 .bf16) → sProp 𝕄} :
    iprop(env m ρ K ∗ whole c cc0_scratch3 (bufV m c) ∗ hdV m c 20 ∗ whole c cc0_scratch2 (bufK m c) ∗ hdK m c 21)
      ⊢ iprop((∀ (v348 : Vec F S2x1x128x64 .bf16) , (whole c cc0_scratch3 (bufV m c) ∗ hdV m c 22 ∗ whole c cc0_scratch2 (bufK m c) ∗ hdK m c 23) -∗ Φ ⟨(val347 m ρ c), v348⟩)
        -∗ run c (k0_part14 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 ) Φ) := by
  rw [k0_part14_eq_skeleton]; unfold k0_part14_skel
  simp only [semSignalWord, semWaitWord, Prog.lift, Prog.bind_op, Prog.bind_ret, Prog.pure_eq_ret, Prog.bind_assoc, wp_deviceId]
  unfold val347
  iintro ⟨#HE, HVb, HVh, HKb, HKh⟩ Hk
  iapply (ldhV m c 20 (off := ![0, 0, 1280]) rfl) $$ HVb; iintro HVb
  iapply (ldaV m c 20) $$ HVh; iintro %v328 HVh
  iapply (sthV m c 20 20 21 rfl rfl (off := ![0, 20, 0, 0]) rfl ((k0_pay50 (slab (bufV m c) 20))) rfl) $$ HVh; iintro HVh
  iapply (ldhK m c 21 (off := ![0, 0, 1344]) rfl) $$ HKb; iintro HKb
  iapply (ldaK m c 21) $$ HKh; iintro %v333 HKh
  iapply (sthK m c 21 21 22 rfl rfl (off := ![0, 21, 0, 0]) rfl ((k0_pay51 (slab (bufK m c) 21))) rfl) $$ HKh; iintro HKh
  iapply (ldhV m c 21 (off := ![0, 0, 1344]) rfl) $$ HVb; iintro HVb
  iapply (ldaV m c 21) $$ HVh; iintro %v338 HVh
  iapply (sthV m c 21 21 22 rfl rfl (off := ![0, 21, 0, 0]) rfl ((k0_pay52 (slab (bufV m c) 21))) rfl) $$ HVh; iintro HVh
  iapply (ldhK m c 22 (off := ![0, 0, 1408]) rfl) $$ HKb; iintro HKb
  iapply (ldaK m c 22) $$ HKh; iintro %v343 HKh
  iapply (sthK m c 22 22 23 rfl rfl (off := ![0, 22, 0, 0]) rfl ((k0_pay53 (slab (bufK m c) 22))) rfl) $$ HKh; iintro HKh
  iapply (ldhV m c 22 (off := ![0, 0, 1408]) rfl) $$ HVb; iintro HVb
  iapply (ldaV m c 22) $$ HVh; iintro %v348 HVh
  iapply (run_ret c); iapply Hk
  isplitl [HVb]; · iexact HVb
  isplitl [HVh]; · iexact HVh
  isplitl [HKb]; · iexact HKb
  iexact HKh

theorem part_15 (K : Dev nD × CI → ℕ) (c : Dev nD) (v348 : Vec F S2x1x128x64 .bf16) {Φ : (FVec F S2x128x64 .bf16) → sProp 𝕄} :
    iprop(env m ρ K ∗ hdV m c 22 ∗ whole c cc0_scratch2 (bufK m c) ∗ hdK m c 23 ∗ whole c cc0_scratch3 (bufV m c))
      ⊢ iprop(((hdV m c 25 ∗ whole c cc0_scratch2 (bufK m c) ∗ hdK m c 25 ∗ whole c cc0_scratch3 (bufV m c)) -∗ Φ (val372 m ρ c))
        -∗ run c (k0_part15 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 (val347 m ρ c) v348) Φ) := by
  rw [k0_part15_eq_skeleton]; unfold k0_part15_skel
  simp only [semSignalWord, semWaitWord, Prog.lift, Prog.bind_op, Prog.bind_ret, Prog.pure_eq_ret, Prog.bind_assoc, wp_deviceId]
  unfold val372
  iintro ⟨#HE, HVh, HKb, HKh, HVb⟩ Hk
  iapply (sthV m c 22 22 23 rfl rfl (off := ![0, 22, 0, 0]) rfl ((k0_pay55 (val347 m ρ c))) rfl) $$ HVh; iintro HVh
  iapply (ldhK m c 23 (off := ![0, 0, 1472]) rfl) $$ HKb; iintro HKb
  iapply (ldaK m c 23) $$ HKh; iintro %v353 HKh
  iapply (sthK m c 23 23 24 rfl rfl (off := ![0, 23, 0, 0]) rfl ((k0_pay56 (slab (bufK m c) 23))) rfl) $$ HKh; iintro HKh
  iapply (ldhV m c 23 (off := ![0, 0, 1472]) rfl) $$ HVb; iintro HVb
  iapply (ldaV m c 23) $$ HVh; iintro %v358 HVh
  iapply (sthV m c 23 23 24 rfl rfl (off := ![0, 23, 0, 0]) rfl ((k0_pay57 (slab (bufV m c) 23))) rfl) $$ HVh; iintro HVh
  iapply (ldhK m c 24 (off := ![0, 0, 1536]) rfl) $$ HKb; iintro HKb
  iapply (ldaK m c 24) $$ HKh; iintro %v363 HKh
  iapply (sthK m c 24 24 25 rfl rfl (off := ![0, 24, 0, 0]) rfl ((k0_pay58 (slab (bufK m c) 24))) rfl) $$ HKh; iintro HKh
  iapply (ldhV m c 24 (off := ![0, 0, 1536]) rfl) $$ HVb; iintro HVb
  iapply (ldaV m c 24) $$ HVh; iintro %v368 HVh
  iapply (sthV m c 24 24 25 rfl rfl (off := ![0, 24, 0, 0]) rfl ((k0_pay59 (slab (bufV m c) 24))) rfl) $$ HVh; iintro HVh
  iapply (ldhK m c 25 (off := ![0, 0, 1600]) rfl) $$ HKb; iintro HKb
  iapply (run_ret c); iapply Hk
  isplitl [HVh]; · iexact HVh
  isplitl [HKb]; · iexact HKb
  isplitl [HKh]; · iexact HKh
  iexact HVb

theorem part_16 (K : Dev nD × CI → ℕ) (c : Dev nD)  {Φ : (PUnit) → sProp 𝕄} :
    iprop(env m ρ K ∗ hdK m c 25 ∗ whole c cc0_scratch3 (bufV m c) ∗ hdV m c 25 ∗ whole c cc0_scratch2 (bufK m c))
      ⊢ iprop(((hdK m c 28 ∗ whole c cc0_scratch3 (bufV m c) ∗ hdV m c 27 ∗ whole c cc0_scratch2 (bufK m c)) -∗ Φ ⟨⟩)
        -∗ run c (k0_part16 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 (val372 m ρ c)) Φ) := by
  rw [k0_part16_eq_skeleton]; unfold k0_part16_skel
  simp only [semSignalWord, semWaitWord, Prog.lift, Prog.bind_op, Prog.bind_ret, Prog.pure_eq_ret, Prog.bind_assoc, wp_deviceId]
  iintro ⟨#HE, HKh, HVb, HVh, HKb⟩ Hk
  iapply (ldaK m c 25) $$ HKh; iintro %v373 HKh
  iapply (sthK m c 25 25 26 rfl rfl (off := ![0, 25, 0, 0]) rfl ((k0_pay61 (val372 m ρ c))) rfl) $$ HKh; iintro HKh
  iapply (ldhV m c 25 (off := ![0, 0, 1600]) rfl) $$ HVb; iintro HVb
  iapply (ldaV m c 25) $$ HVh; iintro %v378 HVh
  iapply (sthV m c 25 25 26 rfl rfl (off := ![0, 25, 0, 0]) rfl ((k0_pay62 (slab (bufV m c) 25))) rfl) $$ HVh; iintro HVh
  iapply (ldhK m c 26 (off := ![0, 0, 1664]) rfl) $$ HKb; iintro HKb
  iapply (ldaK m c 26) $$ HKh; iintro %v383 HKh
  iapply (sthK m c 26 26 27 rfl rfl (off := ![0, 26, 0, 0]) rfl ((k0_pay63 (slab (bufK m c) 26))) rfl) $$ HKh; iintro HKh
  iapply (ldhV m c 26 (off := ![0, 0, 1664]) rfl) $$ HVb; iintro HVb
  iapply (ldaV m c 26) $$ HVh; iintro %v388 HVh
  iapply (sthV m c 26 26 27 rfl rfl (off := ![0, 26, 0, 0]) rfl ((k0_pay64 (slab (bufV m c) 26))) rfl) $$ HVh; iintro HVh
  iapply (ldhK m c 27 (off := ![0, 0, 1728]) rfl) $$ HKb; iintro HKb
  iapply (ldaK m c 27) $$ HKh; iintro %v393 HKh
  iapply (sthK m c 27 27 28 rfl rfl (off := ![0, 27, 0, 0]) rfl ((k0_pay65 (slab (bufK m c) 27))) rfl) $$ HKh; iintro HKh
  iapply (run_ret c); iapply Hk
  isplitl [HKh]; · iexact HKh
  isplitl [HVb]; · iexact HVb
  isplitl [HVh]; · iexact HVh
  iexact HKb

theorem part_17 (K : Dev nD × CI → ℕ) (c : Dev nD)  {Φ : (FVec F S2x128x64 .bf16) → sProp 𝕄} :
    iprop(env m ρ K ∗ whole c cc0_scratch3 (bufV m c) ∗ hdV m c 27 ∗ whole c cc0_scratch2 (bufK m c) ∗ hdK m c 28)
      ⊢ iprop(((whole c cc0_scratch3 (bufV m c) ∗ hdV m c 29 ∗ whole c cc0_scratch2 (bufK m c) ∗ hdK m c 30) -∗ Φ (val417 m ρ c))
        -∗ run c (k0_part17 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 ) Φ) := by
  rw [k0_part17_eq_skeleton]; unfold k0_part17_skel
  simp only [semSignalWord, semWaitWord, Prog.lift, Prog.bind_op, Prog.bind_ret, Prog.pure_eq_ret, Prog.bind_assoc, wp_deviceId]
  unfold val417
  iintro ⟨#HE, HVb, HVh, HKb, HKh⟩ Hk
  iapply (ldhV m c 27 (off := ![0, 0, 1728]) rfl) $$ HVb; iintro HVb
  iapply (ldaV m c 27) $$ HVh; iintro %v398 HVh
  iapply (sthV m c 27 27 28 rfl rfl (off := ![0, 27, 0, 0]) rfl ((k0_pay66 (slab (bufV m c) 27))) rfl) $$ HVh; iintro HVh
  iapply (ldhK m c 28 (off := ![0, 0, 1792]) rfl) $$ HKb; iintro HKb
  iapply (ldaK m c 28) $$ HKh; iintro %v403 HKh
  iapply (sthK m c 28 28 29 rfl rfl (off := ![0, 28, 0, 0]) rfl ((k0_pay67 (slab (bufK m c) 28))) rfl) $$ HKh; iintro HKh
  iapply (ldhV m c 28 (off := ![0, 0, 1792]) rfl) $$ HVb; iintro HVb
  iapply (ldaV m c 28) $$ HVh; iintro %v408 HVh
  iapply (sthV m c 28 28 29 rfl rfl (off := ![0, 28, 0, 0]) rfl ((k0_pay68 (slab (bufV m c) 28))) rfl) $$ HVh; iintro HVh
  iapply (ldhK m c 29 (off := ![0, 0, 1856]) rfl) $$ HKb; iintro HKb
  iapply (ldaK m c 29) $$ HKh; iintro %v413 HKh
  iapply (sthK m c 29 29 30 rfl rfl (off := ![0, 29, 0, 0]) rfl ((k0_pay69 (slab (bufK m c) 29))) rfl) $$ HKh; iintro HKh
  iapply (ldhV m c 29 (off := ![0, 0, 1856]) rfl) $$ HVb; iintro HVb
  iapply (run_ret c); iapply Hk
  isplitl [HVb]; · iexact HVb
  isplitl [HVh]; · iexact HVh
  isplitl [HKb]; · iexact HKb
  iexact HKh

theorem part_18 (K : Dev nD × CI → ℕ) (c : Dev nD)  {Φ : (Σ' (v441 : IVec S128x128 32) (v442 : IVec S128x128 32), BitVec 32) → sProp 𝕄} :
    iprop(env m ρ K ∗ hdV m c 29 ∗ whole c cc0_scratch2 (bufK m c) ∗ hdK m c 30 ∗ whole c cc0_scratch3 (bufV m c))
      ⊢ iprop(((hdV m c 32 ∗ whole c cc0_scratch2 (bufK m c) ∗ hdK m c 32 ∗ whole c cc0_scratch3 (bufV m c)) -∗ Φ ⟨(val441 m ρ c), (val442 m ρ c), 2#32⟩)
        -∗ run c (k0_part18 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 (val417 m ρ c)) Φ) := by
  rw [k0_part18_eq_skeleton]; unfold k0_part18_skel
  simp only [semSignalWord, semWaitWord, Prog.lift, Prog.bind_op, Prog.bind_ret, Prog.pure_eq_ret, Prog.bind_assoc, wp_deviceId]
  unfold val441 val442
  iintro ⟨#HE, HVh, HKb, HKh, HVb⟩ Hk
  iapply (ldaV m c 29) $$ HVh; iintro %v418 HVh
  iapply (sthV m c 29 29 30 rfl rfl (off := ![0, 29, 0, 0]) rfl ((k0_pay71 (val417 m ρ c))) rfl) $$ HVh; iintro HVh
  iapply (ldhK m c 30 (off := ![0, 0, 1920]) rfl) $$ HKb; iintro HKb
  iapply (ldaK m c 30) $$ HKh; iintro %v423 HKh
  iapply (sthK m c 30 30 31 rfl rfl (off := ![0, 30, 0, 0]) rfl ((k0_pay72 (slab (bufK m c) 30))) rfl) $$ HKh; iintro HKh
  iapply (ldhV m c 30 (off := ![0, 0, 1920]) rfl) $$ HVb; iintro HVb
  iapply (ldaV m c 30) $$ HVh; iintro %v428 HVh
  iapply (sthV m c 30 30 31 rfl rfl (off := ![0, 30, 0, 0]) rfl ((k0_pay73 (slab (bufV m c) 30))) rfl) $$ HVh; iintro HVh
  iapply (ldhK m c 31 (off := ![0, 0, 1984]) rfl) $$ HKb; iintro HKb
  iapply (ldaK m c 31) $$ HKh; iintro %v433 HKh
  iapply (sthK m c 31 31 32 rfl rfl (off := ![0, 31, 0, 0]) rfl ((k0_pay74 (slab (bufK m c) 31))) rfl) $$ HKh; iintro HKh
  iapply (ldhV m c 31 (off := ![0, 0, 1984]) rfl) $$ HVb; iintro HVb
  iapply (ldaV m c 31) $$ HVh; iintro %v438 HVh
  iapply (sthV m c 31 31 32 rfl rfl (off := ![0, 31, 0, 0]) rfl ((k0_pay75 (slab (bufV m c) 31))) rfl) $$ HVh; iintro HVh
  iapply (run_ret c); iapply Hk
  isplitl [HVh]; · iexact HVh
  isplitl [HKb]; · iexact HKb
  isplitl [HKh]; · iexact HKh
  iexact HVb

theorem part_19 (K : Dev nD × CI → ℕ) (c : Dev nD)  {Φ : (Σ' (v469 : IVec S128x128 32) (v471 : IVec S128x128 32) (v485 : IVec S128x128 1), IVec S128x128 1) → sProp 𝕄} :
    iprop(env m ρ K)
      ⊢ iprop((Φ ⟨(val469 m ρ c), (val471 m ρ c), (val485 m ρ c), (val489 m ρ c)⟩)
        -∗ run c (k0_part19 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 (w2 c) (val441 m ρ c) (val442 m ρ c) 2#32) Φ) := by
  rw [k0_part19_eq_skeleton]; unfold k0_part19_skel
  simp only [semSignalWord, semWaitWord, Prog.lift, Prog.bind_op, Prog.bind_ret, Prog.pure_eq_ret, Prog.bind_assoc, wp_deviceId]
  unfold val469 val471 val485 val489
  iintro #HE Hk
  iapply (run_ret c); iapply Hk

theorem part_20 (K : Dev nD × CI → ℕ) (c : Dev nD) (v2 : BitVec 32) {Φ : (Σ' (v503 : IVec S128x128 1) (v509 : FVec F S256x512 .bf16) (v524 : FVec F S8x128x64 .bf16) (v525 : FVec F S8x128x128 .f32) (v528 : IVec S8x128x128 1), FVec F S8x128x128 .f32) → sProp 𝕄} :
    iprop(env m ρ K ∗ whole c cc0_stg1_0 (qstg m ρ c) ∗ whole c cc0_stg2_0 (ostg m ρ c) ∗ whole c cc0_scratch4 (hdM (bufK m c)) ∗ whole c cc0_scratch5 (hdM (bufV m c)))
      ⊢ iprop(((whole c cc0_stg1_0 (qstg m ρ c) ∗ whole c cc0_stg2_0 (ostg m ρ c) ∗ whole c cc0_scratch4 (hdM (bufK m c)) ∗ whole c cc0_scratch5 (hdM (bufV m c))) -∗ Φ ⟨(val503 m ρ c), (val509 m ρ c), (val524 m ρ c), (val525 m ρ c), (val528 m ρ c), (val529 m ρ c)⟩)
        -∗ run c (k0_part20 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c v2 (val116 m ρ c) (val469 m ρ c) (val471 m ρ c) (val485 m ρ c) (val489 m ρ c)) Φ) := by
  rw [k0_part20_eq_skeleton]; unfold k0_part20_skel
  simp only [semSignalWord, semWaitWord, Prog.lift, Prog.bind_op, Prog.bind_ret, Prog.pure_eq_ret, Prog.bind_assoc, wp_deviceId]
  unfold val503 val509 val524 val525 val528 val529
  iintro ⟨#HE, Hq, Ho, HKg, HVg⟩ Hk
  iapply (ld_stg1 c (qstg m ρ c)) $$ Hq; iintro Hq
  iapply (ld_stg2 c (ostg m ρ c)) $$ Ho; iintro Ho
  iapply (ldgK m c c (off7 c)) $$ HKg; iintro HKg
  iapply (ldgV m c c (off7 c)) $$ HVg; iintro HVg
  iapply (run_ret c); iapply Hk
  isplitl [Hq]; · iexact Hq
  isplitl [Ho]; · iexact Ho
  isplitl [HKg]; · iexact HKg
  iexact HVg

end Cert.RingProof

end

end
-- ==== Proof.PartsC.lean ====
/- The ring: each round's waits, transfers and block computations, and the waits for the transfers' departures. -/
module

public import proofs.«01_k».proof.Proof.Tables

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem part_21 (K : Dev nD × CI → ℕ) (c : Dev nD) (v2 : BitVec 32) (v7 : BitVec 32) {Φ : (Σ' (v542 : FVec F S256x512 .f32) (v546 : BitVec 32), BitVec 32) → sProp 𝕄} :
    iprop(env m ρ K ∗ ow 6 c ∗ rk 0 c)
      ⊢ iprop((∀ (v546 : BitVec 32) (v549 : BitVec 32) , (ow 6 c ∗ semVal (recvCell 0 c) 0 ∗ pc m ρ false c (fw c 7) fullShare.left ∗ pc m ρ false c (fw c 7) fullShare.right) -∗ Φ ⟨(val542 m ρ c), v546, v549⟩)
        -∗ run c (k0_part21 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c v2 v7 (val509 m ρ c) (val524 m ρ c) (val525 m ρ c) (val528 m ρ c) (val529 m ρ c)) Φ) := by
  rw [k0_part21_eq_skeleton]; unfold k0_part21_skel
  simp only [semSignalWord, semWaitWord, Prog.lift, Prog.bind_op, Prog.bind_ret, Prog.pure_eq_ret, Prog.bind_assoc, wp_deviceId]
  unfold val542
  iintro ⟨#HE, HO, Hr0⟩ Hk
  iapply (recv_x m ρ K c 0 6 (by decide) credit_qslice semR0) $$ [Hr0 HO]
  · isplitr; · iexact HE
    isplitl [Hr0] <;> iassumption
  iintro ⟨Hzr0, Hpq7f, HO⟩
  ihave Hpq7f := (show (pc m ρ (isO 0) c (fw c (rK 0)) fullShare : sProp 𝕄) ⊢ iprop(pc m ρ false c (fw c 7) fullShare.left ∗ pc m ρ false c (fw c 7) fullShare.right) from (pc_halves m ρ false c (fw c 7)).1) $$ Hpq7f
  icases Hpq7f with ⟨Hpq7l, Hpq7r⟩
  iapply (run_ret c); iapply Hk
  isplitl [HO]; · iexact HO
  isplitl [Hzr0]; · iexact Hzr0
  isplitl [Hpq7l]; · iexact Hpq7l
  iexact Hpq7r

theorem part_22 (K : Dev nD × CI → ℕ) (c : Dev nD) (v5 : BitVec 32) (v7 : BitVec 32) {Φ : (PUnit) → sProp 𝕄} :
    iprop(env m ρ K ∗ sk 4 c ∗ land 4 c ∗ pc m ρ false c (fw c 7) fullShare.left ∗ ow 6 c ∗ rk 3 c ∗ sk 5 c ∗ land 5 c ∗ rk 1 c)
      ⊢ iprop(((ow 8 c ∗ sw 4 c ∗ semVal (recvCell 3 c) 0 ∗ pc m ρ true c (fw c 1) fullShare.right ∗ sw 5 c ∗ semVal (recvCell 1 c) 0 ∗ pc m ρ true c (fw c 7) fullShare.left ∗ pc m ρ true c (fw c 7) fullShare.right) -∗ Φ ⟨⟩)
        -∗ run c (k0_part22 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c v5 v7) Φ) := by
  rw [k0_part22_eq_skeleton]; unfold k0_part22_skel
  simp only [semSignalWord, semWaitWord, Prog.lift, Prog.bind_op, Prog.bind_ret, Prog.pure_eq_ret, Prog.bind_assoc, wp_deviceId]
  iintro ⟨#HE, Hs4, Hl4, Hpq7l, HO, Hr3, Hs5, Hl5, Hr1⟩ Hk
  iapply (send_q m ρ K c 4 rfl (dev7 c) (wqB_of (off3_1 c)) (wqB_of (off3_1 c)) semS4 semR4) $$ [Hs4 Hl4 Hpq7l HO]
  · isplitr; · iexact HE
    isplitl [Hs4]; · iexact Hs4
    isplitl [Hl4]; · iexact Hl4
    isplitl [Hpq7l]; · iexact Hpq7l
    iexact HO
  iintro ⟨Hw4, HO⟩
  iapply (recv_x m ρ K c 3 7 (by decide) credit_oslice semR3) $$ [Hr3 HO]
  · isplitr; · iexact HE
    isplitl [Hr3] <;> iassumption
  iintro ⟨Hzr3, Hpo1f, HO⟩
  ihave Hpo1f := (show (pc m ρ (isO 3) c (fw c (rK 3)) fullShare : sProp 𝕄) ⊢ iprop(pc m ρ true c (fw c 1) fullShare.left ∗ pc m ρ true c (fw c 1) fullShare.right) from (pc_halves m ρ true c (fw c 1)).1) $$ Hpo1f
  icases Hpo1f with ⟨Hpo1l, Hpo1r⟩
  iapply (send_o m ρ K c 5 rfl (dev8 c) (woB_of (off6_1 c)) (woB_of (off6_1 c)) semS5 semR5) $$ [Hs5 Hl5 Hpo1l HO]
  · isplitr; · iexact HE
    isplitl [Hs5]; · iexact Hs5
    isplitl [Hl5]; · iexact Hl5
    isplitl [Hpo1l]; · iexact Hpo1l
    iexact HO
  iintro ⟨Hw5, HO⟩
  iapply (recv_x m ρ K c 1 8 (by decide) credit_oslice semR1) $$ [Hr1 HO]
  · isplitr; · iexact HE
    isplitl [Hr1] <;> iassumption
  iintro ⟨Hzr1, Hpo7f, HO⟩
  ihave Hpo7f := (show (pc m ρ (isO 1) c (fw c (rK 1)) fullShare : sProp 𝕄) ⊢ iprop(pc m ρ true c (fw c 7) fullShare.left ∗ pc m ρ true c (fw c 7) fullShare.right) from (pc_halves m ρ true c (fw c 7)).1) $$ Hpo7f
  icases Hpo7f with ⟨Hpo7l, Hpo7r⟩
  iapply (run_ret c); iapply Hk
  isplitl [HO]; · iexact HO
  isplitl [Hw4]; · iexact Hw4
  isplitl [Hzr3]; · iexact Hzr3
  isplitl [Hpo1r]; · iexact Hpo1r
  isplitl [Hw5]; · iexact Hw5
  isplitl [Hzr1]; · iexact Hzr1
  isplitl [Hpo7l]; · iexact Hpo7l
  iexact Hpo7r

theorem part_23 (K : Dev nD × CI → ℕ) (c : Dev nD) (v5 : BitVec 32) (v546 : BitVec 32) {Φ : (Σ' (v611 : Vec F S256x512 .bf16) (v618 : FVec F S8x128x64 .bf16), BitVec 32) → sProp 𝕄} :
    iprop(env m ρ K ∗ sk 6 c ∗ land 6 c ∗ pc m ρ true c (fw c 7) fullShare.left ∗ ow 8 c ∗ rk 2 c ∗ sk 7 c ∗ land 7 c ∗ pc m ρ false c (fw c 7) fullShare.right ∗ pc m ρ true c (fw c 7) fullShare.right)
      ⊢ iprop((∀ (v619 : BitVec 32) , (ow 10 c ∗ sw 6 c ∗ semVal (recvCell 2 c) 0 ∗ pc m ρ false c (fw c 1) fullShare.right ∗ sw 7 c ∗ pc m ρ false c (fw c 7) fullShare.right ∗ pc m ρ true c (fw c 7) fullShare.right) -∗ Φ ⟨(val611 m ρ c), (val618 m ρ c), v619⟩)
        -∗ run c (k0_part23 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c v5 (val116 m ρ c) v546) Φ) := by
  rw [k0_part23_eq_skeleton]; unfold k0_part23_skel
  simp only [semSignalWord, semWaitWord, Prog.lift, Prog.bind_op, Prog.bind_ret, Prog.pure_eq_ret, Prog.bind_assoc, wp_deviceId]
  unfold val611 val618
  iintro ⟨#HE, Hs6, Hl6, Hpo7l, HO, Hr2, Hs7, Hl7, Hpq7r, Hpo7r⟩ Hk
  iapply (send_o m ρ K c 6 rfl (dev9 c) (woB_of (off4_1 c)) (woB_of (off4_1 c)) semS6 semR6) $$ [Hs6 Hl6 Hpo7l HO]
  · isplitr; · iexact HE
    isplitl [Hs6]; · iexact Hs6
    isplitl [Hl6]; · iexact Hl6
    isplitl [Hpo7l]; · iexact Hpo7l
    iexact HO
  iintro ⟨Hw6, HO⟩
  iapply (recv_x m ρ K c 2 9 (by decide) credit_qslice semR2) $$ [Hr2 HO]
  · isplitr; · iexact HE
    isplitl [Hr2] <;> iassumption
  iintro ⟨Hzr2, Hpq1f, HO⟩
  ihave Hpq1f := (show (pc m ρ (isO 2) c (fw c (rK 2)) fullShare : sProp 𝕄) ⊢ iprop(pc m ρ false c (fw c 1) fullShare.left ∗ pc m ρ false c (fw c 1) fullShare.right) from (pc_halves m ρ false c (fw c 1)).1) $$ Hpq1f
  icases Hpq1f with ⟨Hpq1l, Hpq1r⟩
  iapply (send_q m ρ K c 7 rfl (dev10 c) (wqB_of (off5_1 c)) (wqB_of (off5_1 c)) semS7 semR7) $$ [Hs7 Hl7 Hpq1l HO]
  · isplitr; · iexact HE
    isplitl [Hs7]; · iexact Hs7
    isplitl [Hl7]; · iexact Hl7
    isplitl [Hpq1l]; · iexact Hpq1l
    iexact HO
  iintro ⟨Hw7, HO⟩
  iapply (ld_q m ρ c (fw c 7) fullShare.right (off8_0 c)) $$ Hpq7r; iintro Hpq7r
  iapply (ld_o m ρ c (fw c 7) fullShare.right (off9_0 c)) $$ Hpo7r; iintro Hpo7r
  iapply (run_ret c); iapply Hk
  isplitl [HO]; · iexact HO
  isplitl [Hw6]; · iexact Hw6
  isplitl [Hzr2]; · iexact Hzr2
  isplitl [Hpq1r]; · iexact Hpq1r
  isplitl [Hw7]; · iexact Hw7
  isplitl [Hpq7r]; · iexact Hpq7r
  iexact Hpo7r

theorem part_24 (K : Dev nD × CI → ℕ) (c : Dev nD) (v546 : BitVec 32) (v549 : BitVec 32) (v619 : BitVec 32) {Φ : (Σ' (v645 : FVec F S256x512 .f32) (v651 : Vec F S256x512 .bf16), FVec F S8x128x64 .bf16) → sProp 𝕄} :
    iprop(env m ρ K ∗ whole c cc0_scratch4 (hdM (bufK m c)) ∗ whole c cc0_scratch5 (hdM (bufV m c)) ∗ pc m ρ false c (fw c 1) fullShare.right ∗ pc m ρ true c (fw c 1) fullShare.right)
      ⊢ iprop(((whole c cc0_scratch4 (hdM (bufK m c)) ∗ whole c cc0_scratch5 (hdM (bufV m c)) ∗ pc m ρ false c (fw c 1) fullShare.right ∗ pc m ρ true c (fw c 1) fullShare.right) -∗ Φ ⟨(val645 m ρ c), (val651 m ρ c), (val658 m ρ c)⟩)
        -∗ run c (k0_part24 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c (val116 m ρ c) (val503 m ρ c) (val542 m ρ c) v546 v549 (val611 m ρ c) (val618 m ρ c) v619) Φ) := by
  rw [k0_part24_eq_skeleton]; unfold k0_part24_skel
  simp only [semSignalWord, semWaitWord, Prog.lift, Prog.bind_op, Prog.bind_ret, Prog.pure_eq_ret, Prog.bind_assoc, wp_deviceId]
  unfold val645 val651 val658
  iintro ⟨#HE, HKg, HVg, Hpq1r, Hpo1r⟩ Hk
  iapply (ldgK m c (fw c 7) (off10_0 c)) $$ HKg; iintro HKg
  iapply (ldgV m c (fw c 7) (off10_0 c)) $$ HVg; iintro HVg
  iapply (ld_q m ρ c (fw c 1) fullShare.right (off11_0 c)) $$ Hpq1r; iintro Hpq1r
  iapply (ld_o m ρ c (fw c 1) fullShare.right (off12_0 c)) $$ Hpo1r; iintro Hpo1r
  iapply (run_ret c); iapply Hk
  isplitl [HKg]; · iexact HKg
  isplitl [HVg]; · iexact HVg
  isplitl [Hpq1r]; · iexact Hpq1r
  iexact Hpo1r

theorem part_25 (K : Dev nD × CI → ℕ) (c : Dev nD) (v2 : BitVec 32) (v7 : BitVec 32) (v549 : BitVec 32) {Φ : (Σ' (v685 : FVec F S256x512 .f32) (v689 : BitVec 32), BitVec 32) → sProp 𝕄} :
    iprop(env m ρ K ∗ whole c cc0_scratch4 (hdM (bufK m c)) ∗ whole c cc0_scratch5 (hdM (bufV m c)))
      ⊢ iprop((∀ (v689 : BitVec 32) (v692 : BitVec 32) , (whole c cc0_scratch4 (hdM (bufK m c)) ∗ whole c cc0_scratch5 (hdM (bufV m c))) -∗ Φ ⟨(val685 m ρ c), v689, v692⟩)
        -∗ run c (k0_part25 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c v2 v7 (val503 m ρ c) v549 (val645 m ρ c) (val651 m ρ c) (val658 m ρ c)) Φ) := by
  rw [k0_part25_eq_skeleton]; unfold k0_part25_skel
  simp only [semSignalWord, semWaitWord, Prog.lift, Prog.bind_op, Prog.bind_ret, Prog.pure_eq_ret, Prog.bind_assoc, wp_deviceId]
  unfold val685
  iintro ⟨#HE, HKg, HVg⟩ Hk
  iapply (ldgK m c (fw c 1) (off13_0 c)) $$ HKg; iintro HKg
  iapply (ldgV m c (fw c 1) (off13_0 c)) $$ HVg; iintro HVg
  iapply (run_ret c); iapply Hk
  isplitl [HKg]; · iexact HKg
  iexact HVg

theorem part_26 (K : Dev nD × CI → ℕ) (c : Dev nD) (v5 : BitVec 32) (v7 : BitVec 32) {Φ : (BitVec 32) → sProp 𝕄} :
    iprop(env m ρ K ∗ ow 10 c ∗ rk 4 c ∗ sk 8 c ∗ land 8 c ∗ rk 5 c ∗ sk 9 c ∗ land 9 c)
      ⊢ iprop((∀ (v721 : BitVec 32) , (ow 12 c ∗ semVal (recvCell 4 c) 0 ∗ pc m ρ false c (fw c 6) fullShare.right ∗ sw 8 c ∗ semVal (recvCell 5 c) 0 ∗ pc m ρ true c (fw c 2) fullShare.right ∗ sw 9 c) -∗ Φ v721)
        -∗ run c (k0_part26 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c v5 v7) Φ) := by
  rw [k0_part26_eq_skeleton]; unfold k0_part26_skel
  simp only [semSignalWord, semWaitWord, Prog.lift, Prog.bind_op, Prog.bind_ret, Prog.pure_eq_ret, Prog.bind_assoc, wp_deviceId]
  iintro ⟨#HE, HO, Hr4, Hs8, Hl8, Hr5, Hs9, Hl9⟩ Hk
  iapply (recv_x m ρ K c 4 10 (by decide) credit_qslice semR4) $$ [Hr4 HO]
  · isplitr; · iexact HE
    isplitl [Hr4] <;> iassumption
  iintro ⟨Hzr4, Hpq6f, HO⟩
  ihave Hpq6f := (show (pc m ρ (isO 4) c (fw c (rK 4)) fullShare : sProp 𝕄) ⊢ iprop(pc m ρ false c (fw c 6) fullShare.left ∗ pc m ρ false c (fw c 6) fullShare.right) from (pc_halves m ρ false c (fw c 6)).1) $$ Hpq6f
  icases Hpq6f with ⟨Hpq6l, Hpq6r⟩
  iapply (send_q m ρ K c 8 rfl (dev11 c) (wqB_of (off3_2 c)) (wqB_of (off3_2 c)) semS8 semR8) $$ [Hs8 Hl8 Hpq6l HO]
  · isplitr; · iexact HE
    isplitl [Hs8]; · iexact Hs8
    isplitl [Hl8]; · iexact Hl8
    isplitl [Hpq6l]; · iexact Hpq6l
    iexact HO
  iintro ⟨Hw8, HO⟩
  iapply (recv_x m ρ K c 5 11 (by decide) credit_oslice semR5) $$ [Hr5 HO]
  · isplitr; · iexact HE
    isplitl [Hr5] <;> iassumption
  iintro ⟨Hzr5, Hpo2f, HO⟩
  ihave Hpo2f := (show (pc m ρ (isO 5) c (fw c (rK 5)) fullShare : sProp 𝕄) ⊢ iprop(pc m ρ true c (fw c 2) fullShare.left ∗ pc m ρ true c (fw c 2) fullShare.right) from (pc_halves m ρ true c (fw c 2)).1) $$ Hpo2f
  icases Hpo2f with ⟨Hpo2l, Hpo2r⟩
  iapply (send_o m ρ K c 9 rfl (dev12 c) (woB_of (off6_2 c)) (woB_of (off6_2 c)) semS9 semR9) $$ [Hs9 Hl9 Hpo2l HO]
  · isplitr; · iexact HE
    isplitl [Hs9]; · iexact Hs9
    isplitl [Hl9]; · iexact Hl9
    isplitl [Hpo2l]; · iexact Hpo2l
    iexact HO
  iintro ⟨Hw9, HO⟩
  iapply (run_ret c); iapply Hk
  isplitl [HO]; · iexact HO
  isplitl [Hzr4]; · iexact Hzr4
  isplitl [Hpq6r]; · iexact Hpq6r
  isplitl [Hw8]; · iexact Hw8
  isplitl [Hzr5]; · iexact Hzr5
  isplitl [Hpo2r]; · iexact Hpo2r
  iexact Hw9

theorem part_27 (K : Dev nD × CI → ℕ) (c : Dev nD) (v5 : BitVec 32) (v7 : BitVec 32) (v689 : BitVec 32) (v721 : BitVec 32) {Φ : (BitVec 32) → sProp 𝕄} :
    iprop(env m ρ K ∗ ow 12 c ∗ rk 6 c ∗ sk 10 c ∗ land 10 c ∗ rk 7 c ∗ sk 11 c ∗ land 11 c)
      ⊢ iprop((∀ (v749 : BitVec 32) , (ow 14 c ∗ semVal (recvCell 6 c) 0 ∗ pc m ρ true c (fw c 6) fullShare.right ∗ sw 10 c ∗ semVal (recvCell 7 c) 0 ∗ pc m ρ false c (fw c 2) fullShare.right ∗ sw 11 c) -∗ Φ v749)
        -∗ run c (k0_part27 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c v5 v7 v689 v721) Φ) := by
  rw [k0_part27_eq_skeleton]; unfold k0_part27_skel
  simp only [semSignalWord, semWaitWord, Prog.lift, Prog.bind_op, Prog.bind_ret, Prog.pure_eq_ret, Prog.bind_assoc, wp_deviceId]
  iintro ⟨#HE, HO, Hr6, Hs10, Hl10, Hr7, Hs11, Hl11⟩ Hk
  iapply (recv_x m ρ K c 6 12 (by decide) credit_oslice semR6) $$ [Hr6 HO]
  · isplitr; · iexact HE
    isplitl [Hr6] <;> iassumption
  iintro ⟨Hzr6, Hpo6f, HO⟩
  ihave Hpo6f := (show (pc m ρ (isO 6) c (fw c (rK 6)) fullShare : sProp 𝕄) ⊢ iprop(pc m ρ true c (fw c 6) fullShare.left ∗ pc m ρ true c (fw c 6) fullShare.right) from (pc_halves m ρ true c (fw c 6)).1) $$ Hpo6f
  icases Hpo6f with ⟨Hpo6l, Hpo6r⟩
  iapply (send_o m ρ K c 10 rfl (dev13 c) (woB_of (off4_2 c)) (woB_of (off4_2 c)) semS10 semR10) $$ [Hs10 Hl10 Hpo6l HO]
  · isplitr; · iexact HE
    isplitl [Hs10]; · iexact Hs10
    isplitl [Hl10]; · iexact Hl10
    isplitl [Hpo6l]; · iexact Hpo6l
    iexact HO
  iintro ⟨Hw10, HO⟩
  iapply (recv_x m ρ K c 7 13 (by decide) credit_qslice semR7) $$ [Hr7 HO]
  · isplitr; · iexact HE
    isplitl [Hr7] <;> iassumption
  iintro ⟨Hzr7, Hpq2f, HO⟩
  ihave Hpq2f := (show (pc m ρ (isO 7) c (fw c (rK 7)) fullShare : sProp 𝕄) ⊢ iprop(pc m ρ false c (fw c 2) fullShare.left ∗ pc m ρ false c (fw c 2) fullShare.right) from (pc_halves m ρ false c (fw c 2)).1) $$ Hpq2f
  icases Hpq2f with ⟨Hpq2l, Hpq2r⟩
  iapply (send_q m ρ K c 11 rfl (dev14 c) (wqB_of (off5_2 c)) (wqB_of (off5_2 c)) semS11 semR11) $$ [Hs11 Hl11 Hpq2l HO]
  · isplitr; · iexact HE
    isplitl [Hs11]; · iexact Hs11
    isplitl [Hl11]; · iexact Hl11
    isplitl [Hpq2l]; · iexact Hpq2l
    iexact HO
  iintro ⟨Hw11, HO⟩
  iapply (run_ret c); iapply Hk
  isplitl [HO]; · iexact HO
  isplitl [Hzr6]; · iexact Hzr6
  isplitl [Hpo6r]; · iexact Hpo6r
  isplitl [Hw10]; · iexact Hw10
  isplitl [Hzr7]; · iexact Hzr7
  isplitl [Hpq2r]; · iexact Hpq2r
  iexact Hw11

theorem part_28 (K : Dev nD × CI → ℕ) (c : Dev nD) (v689 : BitVec 32) (v692 : BitVec 32) (v749 : BitVec 32) {Φ : (Σ' (v788 : FVec F S256x512 .f32), BitVec 32) → sProp 𝕄} :
    iprop(env m ρ K ∗ pc m ρ false c (fw c 6) fullShare.right ∗ pc m ρ true c (fw c 6) fullShare.right ∗ whole c cc0_scratch4 (hdM (bufK m c)) ∗ whole c cc0_scratch5 (hdM (bufV m c)))
      ⊢ iprop((∀ (v789 : BitVec 32) , (pc m ρ false c (fw c 6) fullShare.right ∗ pc m ρ true c (fw c 6) fullShare.right ∗ whole c cc0_scratch4 (hdM (bufK m c)) ∗ whole c cc0_scratch5 (hdM (bufV m c))) -∗ Φ ⟨(val788 m ρ c), v789⟩)
        -∗ run c (k0_part28 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c (val116 m ρ c) (val503 m ρ c) (val685 m ρ c) v689 v692 v749) Φ) := by
  rw [k0_part28_eq_skeleton]; unfold k0_part28_skel
  simp only [semSignalWord, semWaitWord, Prog.lift, Prog.bind_op, Prog.bind_ret, Prog.pure_eq_ret, Prog.bind_assoc, wp_deviceId]
  unfold val788
  iintro ⟨#HE, Hpq6r, Hpo6r, HKg, HVg⟩ Hk
  iapply (ld_q m ρ c (fw c 6) fullShare.right (off8_1 c)) $$ Hpq6r; iintro Hpq6r
  iapply (ld_o m ρ c (fw c 6) fullShare.right (off9_1 c)) $$ Hpo6r; iintro Hpo6r
  iapply (ldgK m c (fw c 6) (off10_1 c)) $$ HKg; iintro HKg
  iapply (ldgV m c (fw c 6) (off10_1 c)) $$ HVg; iintro HVg
  iapply (run_ret c); iapply Hk
  isplitl [Hpq6r]; · iexact Hpq6r
  isplitl [Hpo6r]; · iexact Hpo6r
  isplitl [HKg]; · iexact HKg
  iexact HVg

theorem part_29 (K : Dev nD × CI → ℕ) (c : Dev nD) (v2 : BitVec 32) (v692 : BitVec 32) (v789 : BitVec 32) {Φ : (Σ' (v828 : FVec F S256x512 .f32), BitVec 32) → sProp 𝕄} :
    iprop(env m ρ K ∗ pc m ρ false c (fw c 2) fullShare.right ∗ pc m ρ true c (fw c 2) fullShare.right ∗ whole c cc0_scratch4 (hdM (bufK m c)) ∗ whole c cc0_scratch5 (hdM (bufV m c)))
      ⊢ iprop((∀ (v830 : BitVec 32) , (pc m ρ false c (fw c 2) fullShare.right ∗ pc m ρ true c (fw c 2) fullShare.right ∗ whole c cc0_scratch4 (hdM (bufK m c)) ∗ whole c cc0_scratch5 (hdM (bufV m c))) -∗ Φ ⟨(val828 m ρ c), v830⟩)
        -∗ run c (k0_part29 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c v2 (val116 m ρ c) (val503 m ρ c) v692 (val788 m ρ c) v789) Φ) := by
  rw [k0_part29_eq_skeleton]; unfold k0_part29_skel
  simp only [semSignalWord, semWaitWord, Prog.lift, Prog.bind_op, Prog.bind_ret, Prog.pure_eq_ret, Prog.bind_assoc, wp_deviceId]
  unfold val828
  iintro ⟨#HE, Hpq2r, Hpo2r, HKg, HVg⟩ Hk
  iapply (ld_q m ρ c (fw c 2) fullShare.right (off11_1 c)) $$ Hpq2r; iintro Hpq2r
  iapply (ld_o m ρ c (fw c 2) fullShare.right (off12_1 c)) $$ Hpo2r; iintro Hpo2r
  iapply (ldgK m c (fw c 2) (off13_1 c)) $$ HKg; iintro HKg
  iapply (ldgV m c (fw c 2) (off13_1 c)) $$ HVg; iintro HVg
  iapply (run_ret c); iapply Hk
  isplitl [Hpq2r]; · iexact Hpq2r
  isplitl [Hpo2r]; · iexact Hpo2r
  isplitl [HKg]; · iexact HKg
  iexact HVg

theorem part_30 (K : Dev nD × CI → ℕ) (c : Dev nD) (v2 : BitVec 32) (v5 : BitVec 32) (v7 : BitVec 32) (v830 : BitVec 32) {Φ : (Σ' (v832 : BitVec 32), BitVec 32) → sProp 𝕄} :
    iprop(env m ρ K ∗ ow 14 c ∗ rk 8 c ∗ sk 12 c ∗ land 12 c ∗ rk 9 c)
      ⊢ iprop((∀ (v832 : BitVec 32) (v835 : BitVec 32) , (ow 15 c ∗ semVal (recvCell 8 c) 0 ∗ pc m ρ false c (fw c 5) fullShare.right ∗ sw 12 c ∗ semVal (recvCell 9 c) 0 ∗ pc m ρ true c (fw c 3) fullShare.left ∗ pc m ρ true c (fw c 3) fullShare.right) -∗ Φ ⟨v832, v835⟩)
        -∗ run c (k0_part30 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c v2 v5 v7 v830) Φ) := by
  rw [k0_part30_eq_skeleton]; unfold k0_part30_skel
  simp only [semSignalWord, semWaitWord, Prog.lift, Prog.bind_op, Prog.bind_ret, Prog.pure_eq_ret, Prog.bind_assoc, wp_deviceId]
  iintro ⟨#HE, HO, Hr8, Hs12, Hl12, Hr9⟩ Hk
  iapply (recv_x m ρ K c 8 14 (by decide) credit_qslice semR8) $$ [Hr8 HO]
  · isplitr; · iexact HE
    isplitl [Hr8] <;> iassumption
  iintro ⟨Hzr8, Hpq5f, HO⟩
  ihave Hpq5f := (show (pc m ρ (isO 8) c (fw c (rK 8)) fullShare : sProp 𝕄) ⊢ iprop(pc m ρ false c (fw c 5) fullShare.left ∗ pc m ρ false c (fw c 5) fullShare.right) from (pc_halves m ρ false c (fw c 5)).1) $$ Hpq5f
  icases Hpq5f with ⟨Hpq5l, Hpq5r⟩
  iapply (send_q m ρ K c 12 rfl (dev15 c) (wqB_of (off3_3 c)) (wqB_of (off3_3 c)) semS12 semR12) $$ [Hs12 Hl12 Hpq5l HO]
  · isplitr; · iexact HE
    isplitl [Hs12]; · iexact Hs12
    isplitl [Hl12]; · iexact Hl12
    isplitl [Hpq5l]; · iexact Hpq5l
    iexact HO
  iintro ⟨Hw12, HO⟩
  iapply (recv_x m ρ K c 9 15 (by decide) credit_oslice semR9) $$ [Hr9 HO]
  · isplitr; · iexact HE
    isplitl [Hr9] <;> iassumption
  iintro ⟨Hzr9, Hpo3f, HO⟩
  ihave Hpo3f := (show (pc m ρ (isO 9) c (fw c (rK 9)) fullShare : sProp 𝕄) ⊢ iprop(pc m ρ true c (fw c 3) fullShare.left ∗ pc m ρ true c (fw c 3) fullShare.right) from (pc_halves m ρ true c (fw c 3)).1) $$ Hpo3f
  icases Hpo3f with ⟨Hpo3l, Hpo3r⟩
  iapply (run_ret c); iapply Hk
  isplitl [HO]; · iexact HO
  isplitl [Hzr8]; · iexact Hzr8
  isplitl [Hpq5r]; · iexact Hpq5r
  isplitl [Hw12]; · iexact Hw12
  isplitl [Hzr9]; · iexact Hzr9
  isplitl [Hpo3l]; · iexact Hpo3l
  iexact Hpo3r

theorem part_31 (K : Dev nD × CI → ℕ) (c : Dev nD) (v5 : BitVec 32) (v7 : BitVec 32) (v832 : BitVec 32) {Φ : (Σ' (v881 : Vec F S256x512 .bf16), FVec F S256x256 .bf16) → sProp 𝕄} :
    iprop(env m ρ K ∗ sk 13 c ∗ land 13 c ∗ pc m ρ true c (fw c 3) fullShare.left ∗ ow 15 c ∗ rk 10 c ∗ rk 11 c ∗ pc m ρ false c (fw c 5) fullShare.right)
      ⊢ iprop(((ow 16 c ∗ sw 13 c ∗ semVal (recvCell 10 c) 0 ∗ pc m ρ true c (fw c 5) fullShare ∗ semVal (recvCell 11 c) 0 ∗ pc m ρ false c (fw c 3) fullShare ∗ pc m ρ false c (fw c 5) fullShare.right) -∗ Φ ⟨(val881 m ρ c), (val885 m ρ c)⟩)
        -∗ run c (k0_part31 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c v5 v7 (val116 m ρ c) v832) Φ) := by
  rw [k0_part31_eq_skeleton]; unfold k0_part31_skel
  simp only [semSignalWord, semWaitWord, Prog.lift, Prog.bind_op, Prog.bind_ret, Prog.pure_eq_ret, Prog.bind_assoc, wp_deviceId]
  unfold val881 val885
  iintro ⟨#HE, Hs13, Hl13, Hpo3l, HO, Hr10, Hr11, Hpq5r⟩ Hk
  iapply (send_o m ρ K c 13 rfl (dev16 c) (woB_of (off6_3 c)) (woB_of (off6_3 c)) semS13 semR13) $$ [Hs13 Hl13 Hpo3l HO]
  · isplitr; · iexact HE
    isplitl [Hs13]; · iexact Hs13
    isplitl [Hl13]; · iexact Hl13
    isplitl [Hpo3l]; · iexact Hpo3l
    iexact HO
  iintro ⟨Hw13, HO⟩
  iapply (recv_x m ρ K c 10 16 (by decide) credit_oslice semR10) $$ [Hr10 HO]
  · isplitr; · iexact HE
    isplitl [Hr10] <;> iassumption
  iintro ⟨Hzr10, Hpo5f, HO⟩
  ihave Hpo5f := (show (pc m ρ (isO 10) c (fw c (rK 10)) fullShare : sProp 𝕄) ⊢ pc m ρ true c (fw c 5) fullShare from .rfl) $$ Hpo5f
  iapply (recv_x m ρ K c 11 16 (by decide) credit_qslice semR11) $$ [Hr11 HO]
  · isplitr; · iexact HE
    isplitl [Hr11] <;> iassumption
  iintro ⟨Hzr11, Hpq3f, HO⟩
  ihave Hpq3f := (show (pc m ρ (isO 11) c (fw c (rK 11)) fullShare : sProp 𝕄) ⊢ pc m ρ false c (fw c 3) fullShare from .rfl) $$ Hpq3f
  iapply (ld_q m ρ c (fw c 5) fullShare.right (off8_2 c)) $$ Hpq5r; iintro Hpq5r
  iapply (ld_o m ρ c (fw c 5) fullShare (off9_2 c)) $$ Hpo5f; iintro Hpo5f
  iapply (run_ret c); iapply Hk
  isplitl [HO]; · iexact HO
  isplitl [Hw13]; · iexact Hw13
  isplitl [Hzr10]; · iexact Hzr10
  isplitl [Hpo5f]; · iexact Hpo5f
  isplitl [Hzr11]; · iexact Hzr11
  isplitl [Hpq3f]; · iexact Hpq3f
  iexact Hpq5r

theorem part_32 (K : Dev nD × CI → ℕ) (c : Dev nD) (v832 : BitVec 32) (v835 : BitVec 32) {Φ : (Σ' (v915 : FVec F S256x512 .f32) (v921 : Vec F S256x512 .bf16), FVec F S2x128x4x64 .bf16) → sProp 𝕄} :
    iprop(env m ρ K ∗ whole c cc0_scratch4 (hdM (bufK m c)) ∗ whole c cc0_scratch5 (hdM (bufV m c)) ∗ pc m ρ false c (fw c 3) fullShare ∗ pc m ρ true c (fw c 3) fullShare.right)
      ⊢ iprop(((whole c cc0_scratch4 (hdM (bufK m c)) ∗ whole c cc0_scratch5 (hdM (bufV m c)) ∗ pc m ρ false c (fw c 3) fullShare ∗ pc m ρ true c (fw c 3) fullShare.right) -∗ Φ ⟨(val915 m ρ c), (val921 m ρ c), (val926 m ρ c)⟩)
        -∗ run c (k0_part32 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c (val116 m ρ c) (val503 m ρ c) (val828 m ρ c) v832 v835 (val881 m ρ c) (val885 m ρ c)) Φ) := by
  rw [k0_part32_eq_skeleton]; unfold k0_part32_skel
  simp only [semSignalWord, semWaitWord, Prog.lift, Prog.bind_op, Prog.bind_ret, Prog.pure_eq_ret, Prog.bind_assoc, wp_deviceId]
  unfold val915 val921 val926
  iintro ⟨#HE, HKg, HVg, Hpq3f, Hpo3r⟩ Hk
  iapply (ldgK m c (fw c 5) (off10_2 c)) $$ HKg; iintro HKg
  iapply (ldgV m c (fw c 5) (off10_2 c)) $$ HVg; iintro HVg
  iapply (ld_q m ρ c (fw c 3) fullShare (off11_2 c)) $$ Hpq3f; iintro Hpq3f
  iapply (ld_o m ρ c (fw c 3) fullShare.right (off12_2 c)) $$ Hpo3r; iintro Hpo3r
  iapply (run_ret c); iapply Hk
  isplitl [HKg]; · iexact HKg
  isplitl [HVg]; · iexact HVg
  isplitl [Hpq3f]; · iexact Hpq3f
  iexact Hpo3r

theorem part_33 (K : Dev nD × CI → ℕ) (c : Dev nD) (v2 : BitVec 32) (v7 : BitVec 32) (v835 : BitVec 32) {Φ : (Σ' (v955 : FVec F S256x512 .f32), BitVec 32) → sProp 𝕄} :
    iprop(env m ρ K ∗ whole c cc0_scratch4 (hdM (bufK m c)) ∗ whole c cc0_scratch5 (hdM (bufV m c)))
      ⊢ iprop((∀ (v959 : BitVec 32) , (whole c cc0_scratch4 (hdM (bufK m c)) ∗ whole c cc0_scratch5 (hdM (bufV m c))) -∗ Φ ⟨(val955 m ρ c), v959⟩)
        -∗ run c (k0_part33 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c v2 v7 (val503 m ρ c) v835 (val915 m ρ c) (val921 m ρ c) (val926 m ρ c)) Φ) := by
  rw [k0_part33_eq_skeleton]; unfold k0_part33_skel
  simp only [semSignalWord, semWaitWord, Prog.lift, Prog.bind_op, Prog.bind_ret, Prog.pure_eq_ret, Prog.bind_assoc, wp_deviceId]
  unfold val955
  iintro ⟨#HE, HKg, HVg⟩ Hk
  iapply (ldgK m c (fw c 3) (off13_2 c)) $$ HKg; iintro HKg
  iapply (ldgV m c (fw c 3) (off13_2 c)) $$ HVg; iintro HVg
  iapply (run_ret c); iapply Hk
  isplitl [HKg]; · iexact HKg
  iexact HVg

theorem part_34 (K : Dev nD × CI → ℕ) (c : Dev nD) (v5 : BitVec 32) (v959 : BitVec 32) {Φ : (Σ' (v977 : Vec F S256x512 .bf16) (v992 : FVec F S8x128x64 .bf16) (v993 : FVec F S8x128x128 .f32) (cst_868 : F .f32), IVec S1x128x128 1) → sProp 𝕄} :
    iprop(env m ρ K ∗ ow 16 c ∗ rk 12 c ∗ rk 13 c ∗ whole c cc0_scratch4 (hdM (bufK m c)) ∗ whole c cc0_scratch5 (hdM (bufV m c)))
      ⊢ iprop(((ow 16 c ∗ semVal (recvCell 12 c) 0 ∗ pc m ρ false c (fw c 4) fullShare ∗ semVal (recvCell 13 c) 0 ∗ pc m ρ true c (fw c 4) fullShare ∗ whole c cc0_scratch4 (hdM (bufK m c)) ∗ whole c cc0_scratch5 (hdM (bufV m c))) -∗ Φ ⟨(val977 m ρ c), (val992 m ρ c), (val993 m ρ c), (val868 m ρ c), (val995 m ρ c)⟩)
        -∗ run c (k0_part34 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c v5 (val116 m ρ c) (val503 m ρ c) v959) Φ) := by
  rw [k0_part34_eq_skeleton]; unfold k0_part34_skel
  simp only [semSignalWord, semWaitWord, Prog.lift, Prog.bind_op, Prog.bind_ret, Prog.pure_eq_ret, Prog.bind_assoc, wp_deviceId]
  unfold val977 val992 val993 val868 val995
  iintro ⟨#HE, HO, Hr12, Hr13, HKg, HVg⟩ Hk
  iapply (recv_x m ρ K c 12 16 (by decide) credit_qslice semR12) $$ [Hr12 HO]
  · isplitr; · iexact HE
    isplitl [Hr12] <;> iassumption
  iintro ⟨Hzr12, Hpq4f, HO⟩
  ihave Hpq4f := (show (pc m ρ (isO 12) c (fw c (rK 12)) fullShare : sProp 𝕄) ⊢ pc m ρ false c (fw c 4) fullShare from .rfl) $$ Hpq4f
  iapply (recv_x m ρ K c 13 16 (by decide) credit_oslice semR13) $$ [Hr13 HO]
  · isplitr; · iexact HE
    isplitl [Hr13] <;> iassumption
  iintro ⟨Hzr13, Hpo4f, HO⟩
  ihave Hpo4f := (show (pc m ρ (isO 13) c (fw c (rK 13)) fullShare : sProp 𝕄) ⊢ pc m ρ true c (fw c 4) fullShare from .rfl) $$ Hpo4f
  iapply (ld_q m ρ c (fw c 4) fullShare (off8_3 c)) $$ Hpq4f; iintro Hpq4f
  iapply (ld_o m ρ c (fw c 4) fullShare (off9_3 c)) $$ Hpo4f; iintro Hpo4f
  iapply (ldgK m c (fw c 4) (off10_3 c)) $$ HKg; iintro HKg
  iapply (ldgV m c (fw c 4) (off10_3 c)) $$ HVg; iintro HVg
  iapply (run_ret c); iapply Hk
  isplitl [HO]; · iexact HO
  isplitl [Hzr12]; · iexact Hzr12
  isplitl [Hpq4f]; · iexact Hpq4f
  isplitl [Hzr13]; · iexact Hzr13
  isplitl [Hpo4f]; · iexact Hpo4f
  isplitl [HKg]; · iexact HKg
  iexact HVg

theorem part_35 (K : Dev nD × CI → ℕ) (c : Dev nD)  {Φ : (FVec F S256x512 .f32) → sProp 𝕄} :
    iprop(env m ρ K ∗ ow 16 c ∗ sw 0 c ∗ sw 3 c ∗ sw 1 c)
      ⊢ iprop(((ow 16 c ∗ semVal (sendCell 0 c) 0 ∗ pc m ρ false c (fw c 0) fullShare.left ∗ semVal (sendCell 3 c) 0 ∗ pc m ρ true c (fw c 0) fullShare.right ∗ semVal (sendCell 1 c) 0 ∗ pc m ρ true c (fw c 0) fullShare.left) -∗ Φ (val1011 m ρ c))
        -∗ run c (k0_part35 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c (val955 m ρ c) (val977 m ρ c) (val992 m ρ c) (val993 m ρ c) (val868 m ρ c) (val995 m ρ c)) Φ) := by
  rw [k0_part35_eq_skeleton]; unfold k0_part35_skel
  simp only [semSignalWord, semWaitWord, Prog.lift, Prog.bind_op, Prog.bind_ret, Prog.pure_eq_ret, Prog.bind_assoc, wp_deviceId]
  unfold val1011
  iintro ⟨#HE, HO, Hw0, Hw3, Hw1⟩ Hk
  iapply (sent_x m ρ K c 0 16 (by decide) credit_qslice semS0) $$ [Hw0 HO]
  · isplitr; · iexact HE
    isplitl [Hw0] <;> iassumption
  iintro ⟨Hzs0, Hpq0l, HO⟩
  iapply (sent_x m ρ K c 3 16 (by decide) credit_oslice semS3) $$ [Hw3 HO]
  · isplitr; · iexact HE
    isplitl [Hw3] <;> iassumption
  iintro ⟨Hzs3, Hpo0r, HO⟩
  iapply (sent_x m ρ K c 1 16 (by decide) credit_oslice semS1) $$ [Hw1 HO]
  · isplitr; · iexact HE
    isplitl [Hw1] <;> iassumption
  iintro ⟨Hzs1, Hpo0l, HO⟩
  iapply (run_ret c); iapply Hk
  isplitl [HO]; · iexact HO
  isplitl [Hzs0]; · iexact Hzs0
  isplitl [Hpq0l]; · iexact Hpq0l
  isplitl [Hzs3]; · iexact Hzs3
  isplitl [Hpo0r]; · iexact Hpo0r
  isplitl [Hzs1]; · iexact Hzs1
  iexact Hpo0l

theorem part_36 (K : Dev nD × CI → ℕ) (c : Dev nD)  {Φ : (PUnit) → sProp 𝕄} :
    iprop(env m ρ K ∗ ow 16 c ∗ sw 2 c ∗ sw 4 c ∗ sw 5 c ∗ sw 6 c ∗ sw 7 c)
      ⊢ iprop(((ow 16 c ∗ semVal (sendCell 2 c) 0 ∗ pc m ρ false c (fw c 0) fullShare.right ∗ semVal (sendCell 4 c) 0 ∗ pc m ρ false c (fw c 7) fullShare.left ∗ semVal (sendCell 5 c) 0 ∗ pc m ρ true c (fw c 1) fullShare.left ∗ semVal (sendCell 6 c) 0 ∗ pc m ρ true c (fw c 7) fullShare.left ∗ semVal (sendCell 7 c) 0 ∗ pc m ρ false c (fw c 1) fullShare.left) -∗ Φ ⟨⟩)
        -∗ run c (k0_part36 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c) Φ) := by
  rw [k0_part36_eq_skeleton]; unfold k0_part36_skel
  simp only [semSignalWord, semWaitWord, Prog.lift, Prog.bind_op, Prog.bind_ret, Prog.pure_eq_ret, Prog.bind_assoc, wp_deviceId]
  iintro ⟨#HE, HO, Hw2, Hw4, Hw5, Hw6, Hw7⟩ Hk
  iapply (sent_x m ρ K c 2 16 (by decide) credit_qslice semS2) $$ [Hw2 HO]
  · isplitr; · iexact HE
    isplitl [Hw2] <;> iassumption
  iintro ⟨Hzs2, Hpq0r, HO⟩
  iapply (sent_x m ρ K c 4 16 (by decide) credit_qslice semS4) $$ [Hw4 HO]
  · isplitr; · iexact HE
    isplitl [Hw4] <;> iassumption
  iintro ⟨Hzs4, Hpq7l, HO⟩
  iapply (sent_x m ρ K c 5 16 (by decide) credit_oslice semS5) $$ [Hw5 HO]
  · isplitr; · iexact HE
    isplitl [Hw5] <;> iassumption
  iintro ⟨Hzs5, Hpo1l, HO⟩
  iapply (sent_x m ρ K c 6 16 (by decide) credit_oslice semS6) $$ [Hw6 HO]
  · isplitr; · iexact HE
    isplitl [Hw6] <;> iassumption
  iintro ⟨Hzs6, Hpo7l, HO⟩
  iapply (sent_x m ρ K c 7 16 (by decide) credit_qslice semS7) $$ [Hw7 HO]
  · isplitr; · iexact HE
    isplitl [Hw7] <;> iassumption
  iintro ⟨Hzs7, Hpq1l, HO⟩
  iapply (run_ret c); iapply Hk
  isplitl [HO]; · iexact HO
  isplitl [Hzs2]; · iexact Hzs2
  isplitl [Hpq0r]; · iexact Hpq0r
  isplitl [Hzs4]; · iexact Hzs4
  isplitl [Hpq7l]; · iexact Hpq7l
  isplitl [Hzs5]; · iexact Hzs5
  isplitl [Hpo1l]; · iexact Hpo1l
  isplitl [Hzs6]; · iexact Hzs6
  isplitl [Hpo7l]; · iexact Hpo7l
  isplitl [Hzs7]; · iexact Hzs7
  iexact Hpq1l

theorem part_37 (K : Dev nD × CI → ℕ) (c : Dev nD)  {Φ : (PUnit) → sProp 𝕄} :
    iprop(env m ρ K ∗ ow 16 c ∗ sw 8 c ∗ sw 9 c ∗ sw 10 c ∗ sw 11 c ∗ sw 12 c)
      ⊢ iprop(((ow 16 c ∗ semVal (sendCell 8 c) 0 ∗ pc m ρ false c (fw c 6) fullShare.left ∗ semVal (sendCell 9 c) 0 ∗ pc m ρ true c (fw c 2) fullShare.left ∗ semVal (sendCell 10 c) 0 ∗ pc m ρ true c (fw c 6) fullShare.left ∗ semVal (sendCell 11 c) 0 ∗ pc m ρ false c (fw c 2) fullShare.left ∗ semVal (sendCell 12 c) 0 ∗ pc m ρ false c (fw c 5) fullShare.left) -∗ Φ ⟨⟩)
        -∗ run c (k0_part37 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0 c) Φ) := by
  rw [k0_part37_eq_skeleton]; unfold k0_part37_skel
  simp only [semSignalWord, semWaitWord, Prog.lift, Prog.bind_op, Prog.bind_ret, Prog.pure_eq_ret, Prog.bind_assoc, wp_deviceId]
  iintro ⟨#HE, HO, Hw8, Hw9, Hw10, Hw11, Hw12⟩ Hk
  iapply (sent_x m ρ K c 8 16 (by decide) credit_qslice semS8) $$ [Hw8 HO]
  · isplitr; · iexact HE
    isplitl [Hw8] <;> iassumption
  iintro ⟨Hzs8, Hpq6l, HO⟩
  iapply (sent_x m ρ K c 9 16 (by decide) credit_oslice semS9) $$ [Hw9 HO]
  · isplitr; · iexact HE
    isplitl [Hw9] <;> iassumption
  iintro ⟨Hzs9, Hpo2l, HO⟩
  iapply (sent_x m ρ K c 10 16 (by decide) credit_oslice semS10) $$ [Hw10 HO]
  · isplitr; · iexact HE
    isplitl [Hw10] <;> iassumption
  iintro ⟨Hzs10, Hpo6l, HO⟩
  iapply (sent_x m ρ K c 11 16 (by decide) credit_qslice semS11) $$ [Hw11 HO]
  · isplitr; · iexact HE
    isplitl [Hw11] <;> iassumption
  iintro ⟨Hzs11, Hpq2l, HO⟩
  iapply (sent_x m ρ K c 12 16 (by decide) credit_qslice semS12) $$ [Hw12 HO]
  · isplitr; · iexact HE
    isplitl [Hw12] <;> iassumption
  iintro ⟨Hzs12, Hpq5l, HO⟩
  iapply (run_ret c); iapply Hk
  isplitl [HO]; · iexact HO
  isplitl [Hzs8]; · iexact Hzs8
  isplitl [Hpq6l]; · iexact Hpq6l
  isplitl [Hzs9]; · iexact Hzs9
  isplitl [Hpo2l]; · iexact Hpo2l
  isplitl [Hzs10]; · iexact Hzs10
  isplitl [Hpo6l]; · iexact Hpo6l
  isplitl [Hzs11]; · iexact Hzs11
  isplitl [Hpq2l]; · iexact Hpq2l
  isplitl [Hzs12]; · iexact Hzs12
  iexact Hpq5l

end Cert.RingProof

end

end
-- ==== Proof.Split.lean ====
/- The gathered buffers split into blocks and joined again; what the body takes and gives. -/
module

public import proofs.«01_k».proof.Proof.Tables

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A stretch, then the rest. -/
theorem run_bind {α β : Type} (c : Dev nD) {p : Prog (TpuEff nD τ sig (Elt F) Λ₀ .tc) α} {k : α → Prog (TpuEff nD τ sig (Elt F) Λ₀ .tc) β} {Q : β → sProp 𝕄} :
    run c p (fun a => run c (k a) Q) ⊢ run c (p.bind k) Q := by
  unfold run; exact Entails.of_eq (wp_bind ..).symm

/-- Fourteen conjuncts, one by one. -/
theorem open14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
/-- Eight, likewise. -/
theorem open8 (Φ : Fin 8 → sProp 𝕄) : bigSep Finset.univ Φ
    = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The gathered buffers and their blocks -/

/-- A device's whole gathered buffer is its eight blocks. -/
theorem blocks_q (c : Dev nD) (f : (cc0_scratch0 : Ref sig .tc).ty.Contents (Elt F)) :
    (whole c cc0_scratch0 f : sProp 𝕄) = bigSep Finset.univ (fun k => pQ c (fw c k) fullShare f) := by
  refine Eq.trans ?_ (bigSep_univ_equiv (around c) (fun j => pQ (F := F) c j fullShare f))
  have h := pointsTo_biUnion (Ix := Unit) (Name := ℕ) (U := UU) (Lvl := ℕ) (Val := Elt F) (ℓ := (c : Thread nD τ).loc cc0_scratch0) (q := fullShare) (f := f)
    (Finset.univ : Finset (Dev nD)) (fun j => (wqB j).view.set)
    (fun i _ j _ hij => Finset.disjoint_left.mpr fun x hx hy => hij (Fin.ext (((mem_setQ i x).mp hx).symm.trans ((mem_setQ j x).mp hy))))
  unfold pQ
  refine Eq.trans ?_ h
  refine congrArg (fun s => ((c : Thread nD τ).loc cc0_scratch0 ↦[s]{fullShare} f : sProp 𝕄)) ?_
  refine (Finset.eq_univ_iff_forall.mpr fun x => ?_).symm
  exact Finset.mem_biUnion.mpr ⟨qdev x, Finset.mem_univ _, (mem_setQ _ x).mpr rfl⟩
theorem blocks_o (c : Dev nD) (f : (cc0_scratch1 : Ref sig .tc).ty.Contents (Elt F)) :
    (whole c cc0_scratch1 f : sProp 𝕄) = bigSep Finset.univ (fun k => pO c (fw c k) fullShare f) := by
  refine Eq.trans ?_ (bigSep_univ_equiv (around c) (fun j => pO (F := F) c j fullShare f))
  have h := pointsTo_biUnion (Ix := Unit) (Name := ℕ) (U := UU) (Lvl := ℕ) (Val := Elt F) (ℓ := (c : Thread nD τ).loc cc0_scratch1) (q := fullShare) (f := f)
    (Finset.univ : Finset (Dev nD)) (fun j => (woB j).view.set)
    (fun i _ j _ hij => Finset.disjoint_left.mpr fun x hx hy => hij (Fin.ext (((mem_setO i x).mp hx).symm.trans ((mem_setO j x).mp hy))))
  unfold pO
  refine Eq.trans ?_ h
  refine congrArg (fun s => ((c : Thread nD τ).loc cc0_scratch1 ↦[s]{fullShare} f : sProp 𝕄)) ?_
  refine (Finset.eq_univ_iff_forall.mpr fun x => ?_).symm
  exact Finset.mem_biUnion.mpr ⟨odev x, Finset.mem_univ _, (mem_setO _ x).mpr rfl⟩

theorem pQ_any (c j : Dev nD) (f) : (pQ c j fullShare f : sProp 𝕄) ⊢ pAny false c j := by
  show _ ⊢ iprop(∃ f, pQ (F := F) c j fullShare f)
  iintro H; iexists f; iexact H
theorem pO_any (c j : Dev nD) (f) : (pO c j fullShare f : sProp 𝕄) ⊢ pAny true c j := by
  show _ ⊢ iprop(∃ f, pO (F := F) c j fullShare f)
  iintro H; iexists f; iexact H

/-- Split into its blocks, whatever it holds. -/
theorem any_q (c : Dev nD) (f) : (bigSep Finset.univ (fun k => pQ (F := F) c (fw c k) fullShare f) : sProp 𝕄) ⊢ iprop(pAny false c c ∗ pAny false c (fw c 1) ∗ pAny false c (fw c 2) ∗ pAny false c (fw c 3) ∗ pAny false c (fw c 4) ∗ pAny false c (fw c 5) ∗ pAny false c (fw c 6) ∗ pAny false c (fw c 7)) := by
  refine (bigSep_mono fun k _ => pQ_any c (fw c k) f).trans ?_
  rw [open8, fw_zero]
  exact Idealize.SL.BI.Entails.refl _
theorem split_q (c : Dev nD) : (iprop(∃ f, whole c cc0_scratch0 f) : sProp 𝕄) ⊢ iprop(pAny false c c ∗ pAny false c (fw c 1) ∗ pAny false c (fw c 2)
    ∗ pAny false c (fw c 3) ∗ pAny false c (fw c 4) ∗ pAny false c (fw c 5) ∗ pAny false c (fw c 6) ∗ pAny false c (fw c 7)) := by
  iintro ⟨%f, H⟩
  ihave H := (Entails.of_eq (blocks_q c f)) $$ H
  ihave H := (any_q c f) $$ H
  iexact H
theorem any_o (c : Dev nD) (f) : (bigSep Finset.univ (fun k => pO (F := F) c (fw c k) fullShare f) : sProp 𝕄) ⊢ iprop(pAny true c c ∗ pAny true c (fw c 1) ∗ pAny true c (fw c 2) ∗ pAny true c (fw c 3) ∗ pAny true c (fw c 4) ∗ pAny true c (fw c 5) ∗ pAny true c (fw c 6) ∗ pAny true c (fw c 7)) := by
  refine (bigSep_mono fun k _ => pO_any c (fw c k) f).trans ?_
  rw [open8, fw_zero]
  exact Idealize.SL.BI.Entails.refl _
theorem split_o (c : Dev nD) : (iprop(∃ f, whole c cc0_scratch1 f) : sProp 𝕄) ⊢ iprop(pAny true c c ∗ pAny true c (fw c 1) ∗ pAny true c (fw c 2)
    ∗ pAny true c (fw c 3) ∗ pAny true c (fw c 4) ∗ pAny true c (fw c 5) ∗ pAny true c (fw c 6) ∗ pAny true c (fw c 7)) := by
  iintro ⟨%f, H⟩
  ihave H := (Entails.of_eq (blocks_o c f)) $$ H
  ihave H := (any_o c f) $$ H
  iexact H
/-- Joined again, every block in. -/
theorem join_q (c : Dev nD) : iprop(pc m ρ false c (fw c 0) fullShare ∗ pc m ρ false c (fw c 1) fullShare ∗ pc m ρ false c (fw c 2) fullShare
    ∗ pc m ρ false c (fw c 3) fullShare ∗ pc m ρ false c (fw c 4) fullShare ∗ pc m ρ false c (fw c 5) fullShare ∗ pc m ρ false c (fw c 6) fullShare
    ∗ pc m ρ false c (fw c 7) fullShare) ⊢ (iprop(∃ f, whole c cc0_scratch0 f) : sProp 𝕄) := by
  refine (Entails.of_eq (open8 (fun k => pQ c (fw c k) fullShare (gQ m ρ))).symm).trans ?_
  rw [← blocks_q]
  iintro H; iexists _; iexact H
theorem join_o (c : Dev nD) : iprop(pc m ρ true c (fw c 0) fullShare ∗ pc m ρ true c (fw c 1) fullShare ∗ pc m ρ true c (fw c 2) fullShare
    ∗ pc m ρ true c (fw c 3) fullShare ∗ pc m ρ true c (fw c 4) fullShare ∗ pc m ρ true c (fw c 5) fullShare ∗ pc m ρ true c (fw c 6) fullShare
    ∗ pc m ρ true c (fw c 7) fullShare) ⊢ (iprop(∃ f, whole c cc0_scratch1 f) : sProp 𝕄) := by
  refine (Entails.of_eq (open8 (fun k => pO c (fw c k) fullShare (gO m ρ))).symm).trans ?_
  rw [← blocks_o]
  iintro H; iexists _; iexact H

/-- A landing place, seen from the device it is on. -/
theorem land_src (t : Fin 14) (c : Dev nD) : (land t (src t c) : sProp 𝕄) = pAny (isO t) c (fw c (rK t)) := by
  unfold land; rw [dst_src, blk_src]
/-- What device `c` hands the device before it at the barrier, and the one after it. -/
theorem give_prv (c : Dev nD) : iprop(pAny false c (fw c 7) ∗ pAny true c (fw c 7) ∗ pAny false c (fw c 6) ∗ pAny true c (fw c 6)
    ∗ pAny false c (fw c 5) ∗ pAny true c (fw c 5) ∗ pAny false c (fw c 4)) ⊢ (barT (prv c) : sProp 𝕄) := by
  have e : (barT (prv c) : sProp 𝕄) = iprop(land 0 (src 0 c) ∗ land 1 (src 1 c) ∗ land 4 (src 4 c) ∗ land 6 (src 6 c) ∗ land 8 (src 8 c)
    ∗ land 10 (src 10 c) ∗ land 12 (src 12 c)) := rfl
  rw [e]; simp only [land_src]
  exact Entails.of_eq rfl
theorem give_nxt (c : Dev nD) : iprop(pAny false c (fw c 1) ∗ pAny true c (fw c 1) ∗ pAny true c (fw c 2) ∗ pAny false c (fw c 2)
    ∗ pAny true c (fw c 3) ∗ pAny false c (fw c 3) ∗ pAny true c (fw c 4)) ⊢ (barF (nxt c) : sProp 𝕄) := by
  have e : (barF (nxt c) : sProp 𝕄) = iprop(land 2 (src 2 c) ∗ land 3 (src 3 c) ∗ land 5 (src 5 c) ∗ land 7 (src 7 c) ∗ land 9 (src 9 c)
    ∗ land 11 (src 11 c) ∗ land 13 (src 13 c)) := rfl
  rw [e]; simp only [land_src]
  exact Entails.of_eq rfl
/-- The device's own block, at its two halves. -/
theorem own_halves (o : Bool) (c : Dev nD) : (pc m ρ o c c fullShare : sProp 𝕄)
    ⊢ iprop(pc m ρ o c (fw c 0) fullShare.left ∗ pc m ρ o c (fw c 0) fullShare.right) := by
  rw [fw_zero]; exact (pc_halves m ρ o c c).1

/-! ## What the body takes and gives -/

/-- What device `c` holds of the protocol at the start. -/
def prot (c : Dev nD) : sProp 𝕄 :=
  iprop((bigSep Finset.univ fun t => sk t c) ∗ (bigSep Finset.univ fun t => rk t c)
    ∗ dutyTok ER (barCell (prv c)) 0 true ∗ dutyTok ER (barCell (nxt c)) 0 false
    ∗ dutyTok ER (exitCell (prv c)) 0 true ∗ dutyTok ER (exitCell (nxt c)) 0 false
    ∗ cred (tallyAt (barCell c) () 2) ∗ atPos ER (barCell c) 0 ∅ 0
    ∗ cred (tallyAt (exitCell c) () 2) ∗ atPos ER (exitCell c) 0 ∅ 0)
/-- The semaphores of the local copies, at zero. -/
def kvz (c : Dev nD) : sProp 𝕄 := iprop(semVal ((c : Thread nD τ), .dma (kvS false)) 0 ∗ semVal ((c : Thread nD τ), .dma (kvS true)) 0)
/-- `K` and `V` in place. -/
def argsKV (c : Dev nD) : sProp 𝕄 :=
  iprop(whole c main_arg2 (m ((c : Thread nD τ).loc main_arg2)) ∗ whole c main_arg3 (m ((c : Thread nD τ).loc main_arg3)))
/-- The scratch buffers, whatever they hold. -/
def rest0 (c : Dev nD) : sProp 𝕄 :=
  iprop((∃ f, whole c cc0_scratch0 f) ∗ (∃ f, whole c cc0_scratch1 f) ∗ (∃ f, whole c cc0_scratch2 f) ∗ (∃ f, whole c cc0_scratch3 f)
    ∗ (∃ f, whole c cc0_scratch4 f) ∗ (∃ f, whole c cc0_scratch5 f))
/-- The protocol's semaphores at zero. -/
def zeros (c : Dev nD) : sProp 𝕄 :=
  iprop(semVal (barCell c) 0 ∗ semVal (exitCell c) 0 ∗ (bigSep Finset.univ fun t => semVal (sendCell t c) 0)
    ∗ (bigSep Finset.univ fun t => semVal (recvCell t c) 0))

end Cert.RingProof

end

end
-- ==== Proof.Body.lean ====
/- The kernel's body on one device, from its stretches. -/
module

public import proofs.«01_k».proof.Proof.PartsA
public import proofs.«01_k».proof.Proof.PartsB
public import proofs.«01_k».proof.Proof.PartsB2
public import proofs.«01_k».proof.Proof.PartsC
public import proofs.«01_k».proof.Proof.Split

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 8000000 in
/-- The whole body on device `c`: from the launch's resources, through the thirty-eight stretches, to every semaphore
    back at zero, the copies of `K`, `V` and the windows as they were, and the result stored. -/
theorem body_run (K : Dev nD × CI → ℕ) (c : Dev nD) {Φ : PUnit → sProp 𝕄} :
    iprop(env m ρ K ∗ prot c ∗ kvz c ∗ argsKV m c ∗ rest0 c ∗ whole c cc0_stg0_0 (xstg m ρ c) ∗ whole c cc0_stg1_0 (qstg m ρ c)
        ∗ whole c cc0_stg2_0 (ostg m ρ c) ∗ (∃ f, whole c cc0_stg3_0 f) ∗ ow 0 c)
      ⊢ iprop(((zeros c ∗ kvz c ∗ argsKV m c ∗ rest0 c ∗ whole c cc0_stg0_0 (xstg m ρ c) ∗ whole c cc0_stg1_0 (qstg m ρ c)
        ∗ whole c cc0_stg2_0 (ostg m ρ c) ∗ whole c cc0_stg3_0 (outv m ρ c) ∗ ow 18 c) -∗ Φ ⟨⟩)
        -∗ run c (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0) Φ) := by
  simp only [cc0_body_eq_skeleton]; unfold cc0_body_skel
  simp only [k0_part38_eq_skeleton]; unfold k0_part38_skel
  simp only [semSignalWord, semWaitWord, Prog.lift, Prog.bind_op, Prog.bind_ret, Prog.pure_eq_ret, Prog.bind_assoc]
  unfold prot kvz argsKV rest0 zeros
  simp only [open14]
  iintro ⟨#HE, ⟨⟨Hs0, Hs1, Hs2, Hs3, Hs4, Hs5, Hs6, Hs7, Hs8, Hs9, Hs10, Hs11, Hs12, Hs13⟩, ⟨Hr0, Hr1, Hr2, Hr3, Hr4, Hr5, Hr6, Hr7, Hr8, Hr9, Hr10, Hr11, Hr12, Hr13⟩, HBtp, HBtn, HEtp, HEtn, HBc, HBa, HEc, HEa⟩, ⟨HKz, HVz⟩, ⟨HKs, HVs⟩, ⟨Hc0, Hc1, HKd, HVd, Hc4, Hc5⟩, Hx, Hq, Ho, Hout, HO⟩ Hk
  ihave HKh := (hdK_intro m c) $$ Hc4
  ihave HVh := (hdV_intro m c) $$ Hc5
  ihave Hc0 := (split_q c) $$ Hc0
  icases Hc0 with ⟨HAq, Hq1, Hq2, Hq3, Hq4, Hq5, Hq6, Hq7⟩
  ihave Hc1 := (split_o c) $$ Hc1
  icases Hc1 with ⟨HAo, Ho1, Ho2, Ho3, Ho4, Ho5, Ho6, Ho7⟩
  ihave HBp := (give_prv c) $$ [Hq7 Ho7 Hq6 Ho6 Hq5 Ho5 Hq4]
  · isplitl [Hq7]; · iexact Hq7
    isplitl [Ho7]; · iexact Ho7
    isplitl [Hq6]; · iexact Hq6
    isplitl [Ho6]; · iexact Ho6
    isplitl [Hq5]; · iexact Hq5
    isplitl [Ho5]; · iexact Ho5
    iexact Hq4
  ihave HBn := (give_nxt c) $$ [Hq1 Ho1 Ho2 Hq2 Ho3 Hq3 Ho4]
  · isplitl [Hq1]; · iexact Hq1
    isplitl [Ho1]; · iexact Ho1
    isplitl [Ho2]; · iexact Ho2
    isplitl [Hq2]; · iexact Hq2
    isplitl [Ho3]; · iexact Ho3
    isplitl [Hq3]; · iexact Hq3
    iexact Ho4
  -- part 1
  iapply (run_bind c)
  iapply (part_1 m ρ K c ) $$ [HKd HKs HKz HVd HVs HVz HO HBp HBtp HBn HBtn HBc HBa Hq HAq Ho]
  · isplitr; · iexact HE
    isplitl [HKd]; · iexact HKd
    isplitl [HKs]; · iexact HKs
    isplitl [HKz]; · iexact HKz
    isplitl [HVd]; · iexact HVd
    isplitl [HVs]; · iexact HVs
    isplitl [HVz]; · iexact HVz
    isplitl [HO]; · iexact HO
    isplitl [HBp]; · iexact HBp
    isplitl [HBtp]; · iexact HBtp
    isplitl [HBn]; · iexact HBn
    isplitl [HBtn]; · iexact HBtn
    isplitl [HBc]; · iexact HBc
    isplitl [HBa]; · iexact HBa
    isplitl [Hq]; · iexact Hq
    isplitl [HAq]; · iexact HAq
    iexact Ho
  iintro %v5 %v7 %v28 ⟨HKf, HVf, HO, HBz, HBB, Hq, HBq, Ho⟩
  try dsimp only
  unfold barF barT
  icases HBB with ⟨⟨Hl2, Hl3, Hl5, Hl7, Hl9, Hl11, Hl13⟩, Hl0, Hl1, Hl4, Hl6, Hl8, Hl10, Hl12⟩
  -- part 2
  iapply (run_bind c)
  iapply (part_2 m ρ K c (w2 c) v28) $$ [HAo]
  · isplitr; · iexact HE
    iexact HAo
  iintro %v59 HBo
  try dsimp only
  ihave HBq := (own_halves m ρ false c) $$ HBq
  icases HBq with ⟨Hpq0l, Hpq0r⟩
  ihave HBo := (own_halves m ρ true c) $$ HBo
  icases HBo with ⟨Hpo0l, Hpo0r⟩
  -- part 3
  iapply (run_bind c)
  iapply (part_3 m ρ K c (w2 c) v7 v59) $$ [Hs0 Hl0 Hpq0l HO]
  · isplitr; · iexact HE
    isplitl [Hs0]; · iexact Hs0
    isplitl [Hl0]; · iexact Hl0
    isplitl [Hpq0l]; · iexact Hpq0l
    iexact HO
  iintro  ⟨HO, Hw0⟩
  try dsimp only
  -- part 4
  iapply (run_bind c)
  iapply (part_4 m ρ K c v5 v7) $$ [Hs1 Hl1 Hpo0l HO Hs2 Hl2 Hpq0r Hs3 Hl3 Hpo0r Hx]
  · isplitr; · iexact HE
    isplitl [Hs1]; · iexact Hs1
    isplitl [Hl1]; · iexact Hl1
    isplitl [Hpo0l]; · iexact Hpo0l
    isplitl [HO]; · iexact HO
    isplitl [Hs2]; · iexact Hs2
    isplitl [Hl2]; · iexact Hl2
    isplitl [Hpq0r]; · iexact Hpq0r
    isplitl [Hs3]; · iexact Hs3
    isplitl [Hl3]; · iexact Hl3
    isplitl [Hpo0r]; · iexact Hpo0r
    iexact Hx
  iintro  ⟨HO, Hw1, Hw2, Hw3, Hx⟩
  try dsimp only
  -- part 5
  iapply (run_bind c)
  iapply (part_5 m ρ K c ) $$ [HO HKf HVf HKh HVh]
  · isplitr; · iexact HE
    isplitl [HO]; · iexact HO
    isplitl [HKf]; · iexact HKf
    isplitl [HVf]; · iexact HVf
    isplitl [HKh]; · iexact HKh
    iexact HVh
  iintro  ⟨HO, HKb, HKs, HKz, HVb, HVs, HVz, HKh, HVh⟩
  try dsimp only
  -- part 6
  iapply (run_bind c)
  iapply (part_6 m ρ K c ) $$ [HKb HKh HVb HVh]
  · isplitr; · iexact HE
    isplitl [HKb]; · iexact HKb
    isplitl [HKh]; · iexact HKh
    isplitl [HVb]; · iexact HVb
    iexact HVh
  iintro  ⟨HKb, HKh, HVb, HVh⟩
  try dsimp only
  -- part 7
  iapply (run_bind c)
  iapply (part_7 m ρ K c ) $$ [HKh HVb HVh HKb]
  · isplitr; · iexact HE
    isplitl [HKh]; · iexact HKh
    isplitl [HVb]; · iexact HVb
    isplitl [HVh]; · iexact HVh
    iexact HKb
  iintro  ⟨HKh, HVb, HVh, HKb⟩
  try dsimp only
  -- part 8
  iapply (run_bind c)
  iapply (part_8 m ρ K c ) $$ [HVh HKb HKh HVb]
  · isplitr; · iexact HE
    isplitl [HVh]; · iexact HVh
    isplitl [HKb]; · iexact HKb
    isplitl [HKh]; · iexact HKh
    iexact HVb
  iintro  ⟨HVh, HKb, HKh, HVb⟩
  try dsimp only
  -- part 9
  iapply (run_bind c)
  iapply (part_9 m ρ K c ) $$ [HKb HKh HVb HVh]
  · isplitr; · iexact HE
    isplitl [HKb]; · iexact HKb
    isplitl [HKh]; · iexact HKh
    isplitl [HVb]; · iexact HVb
    iexact HVh
  iintro  ⟨HKb, HKh, HVb, HVh⟩
  try dsimp only
  -- part 10
  iapply (run_bind c)
  iapply (part_10 m ρ K c ) $$ [HKh HVb HVh HKb]
  · isplitr; · iexact HE
    isplitl [HKh]; · iexact HKh
    isplitl [HVb]; · iexact HVb
    isplitl [HVh]; · iexact HVh
    iexact HKb
  iintro  ⟨HKh, HVb, HVh, HKb⟩
  try dsimp only
  -- part 11
  iapply (run_bind c)
  iapply (part_11 m ρ K c ) $$ [HVh HKb HKh HVb]
  · isplitr; · iexact HE
    isplitl [HVh]; · iexact HVh
    isplitl [HKb]; · iexact HKb
    isplitl [HKh]; · iexact HKh
    iexact HVb
  iintro  ⟨HVh, HKb, HKh, HVb⟩
  try dsimp only
  -- part 12
  iapply (run_bind c)
  iapply (part_12 m ρ K c ) $$ [HVh HKb HKh HVb]
  · isplitr; · iexact HE
    isplitl [HVh]; · iexact HVh
    isplitl [HKb]; · iexact HKb
    isplitl [HKh]; · iexact HKh
    iexact HVb
  iintro  ⟨HVh, HKb, HKh, HVb⟩
  try dsimp only
  -- part 13
  iapply (run_bind c)
  iapply (part_13 m ρ K c ) $$ [HKh HVb HVh HKb]
  · isplitr; · iexact HE
    isplitl [HKh]; · iexact HKh
    isplitl [HVb]; · iexact HVb
    isplitl [HVh]; · iexact HVh
    iexact HKb
  iintro  ⟨HKh, HVb, HVh, HKb⟩
  try dsimp only
  -- part 14
  iapply (run_bind c)
  iapply (part_14 m ρ K c ) $$ [HVb HVh HKb HKh]
  · isplitr; · iexact HE
    isplitl [HVb]; · iexact HVb
    isplitl [HVh]; · iexact HVh
    isplitl [HKb]; · iexact HKb
    iexact HKh
  iintro %v348 ⟨HVb, HVh, HKb, HKh⟩
  try dsimp only
  -- part 15
  iapply (run_bind c)
  iapply (part_15 m ρ K c v348) $$ [HVh HKb HKh HVb]
  · isplitr; · iexact HE
    isplitl [HVh]; · iexact HVh
    isplitl [HKb]; · iexact HKb
    isplitl [HKh]; · iexact HKh
    iexact HVb
  iintro  ⟨HVh, HKb, HKh, HVb⟩
  try dsimp only
  -- part 16
  iapply (run_bind c)
  iapply (part_16 m ρ K c ) $$ [HKh HVb HVh HKb]
  · isplitr; · iexact HE
    isplitl [HKh]; · iexact HKh
    isplitl [HVb]; · iexact HVb
    isplitl [HVh]; · iexact HVh
    iexact HKb
  iintro  ⟨HKh, HVb, HVh, HKb⟩
  try dsimp only
  -- part 17
  iapply (run_bind c)
  iapply (part_17 m ρ K c ) $$ [HVb HVh HKb HKh]
  · isplitr; · iexact HE
    isplitl [HVb]; · iexact HVb
    isplitl [HVh]; · iexact HVh
    isplitl [HKb]; · iexact HKb
    iexact HKh
  iintro  ⟨HVb, HVh, HKb, HKh⟩
  try dsimp only
  -- part 18
  iapply (run_bind c)
  iapply (part_18 m ρ K c ) $$ [HVh HKb HKh HVb]
  · isplitr; · iexact HE
    isplitl [HVh]; · iexact HVh
    isplitl [HKb]; · iexact HKb
    isplitl [HKh]; · iexact HKh
    iexact HVb
  iintro  ⟨HVh, HKb, HKh, HVb⟩
  try dsimp only
  ihave HKg := (hdK_full m c) $$ HKh
  ihave HVg := (hdV_full m c) $$ HVh
  -- part 19
  iapply (run_bind c)
  iapply (part_19 m ρ K c ) $$ HE
  try dsimp only
  -- part 20
  iapply (run_bind c)
  iapply (part_20 m ρ K c (w2 c)) $$ [Hq Ho HKg HVg]
  · isplitr; · iexact HE
    isplitl [Hq]; · iexact Hq
    isplitl [Ho]; · iexact Ho
    isplitl [HKg]; · iexact HKg
    iexact HVg
  iintro  ⟨Hq, Ho, HKg, HVg⟩
  try dsimp only
  -- part 21
  iapply (run_bind c)
  iapply (part_21 m ρ K c (w2 c) v7) $$ [HO Hr0]
  · isplitr; · iexact HE
    isplitl [HO]; · iexact HO
    iexact Hr0
  iintro %v546 %v549 ⟨HO, Hzr0, Hpq7l, Hpq7r⟩
  try dsimp only
  -- part 22
  iapply (run_bind c)
  iapply (part_22 m ρ K c v5 v7) $$ [Hs4 Hl4 Hpq7l HO Hr3 Hs5 Hl5 Hr1]
  · isplitr; · iexact HE
    isplitl [Hs4]; · iexact Hs4
    isplitl [Hl4]; · iexact Hl4
    isplitl [Hpq7l]; · iexact Hpq7l
    isplitl [HO]; · iexact HO
    isplitl [Hr3]; · iexact Hr3
    isplitl [Hs5]; · iexact Hs5
    isplitl [Hl5]; · iexact Hl5
    iexact Hr1
  iintro  ⟨HO, Hw4, Hzr3, Hpo1r, Hw5, Hzr1, Hpo7l, Hpo7r⟩
  try dsimp only
  -- part 23
  iapply (run_bind c)
  iapply (part_23 m ρ K c v5 v546) $$ [Hs6 Hl6 Hpo7l HO Hr2 Hs7 Hl7 Hpq7r Hpo7r]
  · isplitr; · iexact HE
    isplitl [Hs6]; · iexact Hs6
    isplitl [Hl6]; · iexact Hl6
    isplitl [Hpo7l]; · iexact Hpo7l
    isplitl [HO]; · iexact HO
    isplitl [Hr2]; · iexact Hr2
    isplitl [Hs7]; · iexact Hs7
    isplitl [Hl7]; · iexact Hl7
    isplitl [Hpq7r]; · iexact Hpq7r
    iexact Hpo7r
  iintro %v619 ⟨HO, Hw6, Hzr2, Hpq1r, Hw7, Hpq7r, Hpo7r⟩
  try dsimp only
  -- part 24
  iapply (run_bind c)
  iapply (part_24 m ρ K c v546 v549 v619) $$ [HKg HVg Hpq1r Hpo1r]
  · isplitr; · iexact HE
    isplitl [HKg]; · iexact HKg
    isplitl [HVg]; · iexact HVg
    isplitl [Hpq1r]; · iexact Hpq1r
    iexact Hpo1r
  iintro  ⟨HKg, HVg, Hpq1r, Hpo1r⟩
  try dsimp only
  -- part 25
  iapply (run_bind c)
  iapply (part_25 m ρ K c (w2 c) v7 v549) $$ [HKg HVg]
  · isplitr; · iexact HE
    isplitl [HKg]; · iexact HKg
    iexact HVg
  iintro %v689 %v692 ⟨HKg, HVg⟩
  try dsimp only
  -- part 26
  iapply (run_bind c)
  iapply (part_26 m ρ K c v5 v7) $$ [HO Hr4 Hs8 Hl8 Hr5 Hs9 Hl9]
  · isplitr; · iexact HE
    isplitl [HO]; · iexact HO
    isplitl [Hr4]; · iexact Hr4
    isplitl [Hs8]; · iexact Hs8
    isplitl [Hl8]; · iexact Hl8
    isplitl [Hr5]; · iexact Hr5
    isplitl [Hs9]; · iexact Hs9
    iexact Hl9
  iintro %v721 ⟨HO, Hzr4, Hpq6r, Hw8, Hzr5, Hpo2r, Hw9⟩
  try dsimp only
  -- part 27
  iapply (run_bind c)
  iapply (part_27 m ρ K c v5 v7 v689 v721) $$ [HO Hr6 Hs10 Hl10 Hr7 Hs11 Hl11]
  · isplitr; · iexact HE
    isplitl [HO]; · iexact HO
    isplitl [Hr6]; · iexact Hr6
    isplitl [Hs10]; · iexact Hs10
    isplitl [Hl10]; · iexact Hl10
    isplitl [Hr7]; · iexact Hr7
    isplitl [Hs11]; · iexact Hs11
    iexact Hl11
  iintro %v749 ⟨HO, Hzr6, Hpo6r, Hw10, Hzr7, Hpq2r, Hw11⟩
  try dsimp only
  -- part 28
  iapply (run_bind c)
  iapply (part_28 m ρ K c v689 v692 v749) $$ [Hpq6r Hpo6r HKg HVg]
  · isplitr; · iexact HE
    isplitl [Hpq6r]; · iexact Hpq6r
    isplitl [Hpo6r]; · iexact Hpo6r
    isplitl [HKg]; · iexact HKg
    iexact HVg
  iintro %v789 ⟨Hpq6r, Hpo6r, HKg, HVg⟩
  try dsimp only
  -- part 29
  iapply (run_bind c)
  iapply (part_29 m ρ K c (w2 c) v692 v789) $$ [Hpq2r Hpo2r HKg HVg]
  · isplitr; · iexact HE
    isplitl [Hpq2r]; · iexact Hpq2r
    isplitl [Hpo2r]; · iexact Hpo2r
    isplitl [HKg]; · iexact HKg
    iexact HVg
  iintro %v830 ⟨Hpq2r, Hpo2r, HKg, HVg⟩
  try dsimp only
  -- part 30
  iapply (run_bind c)
  iapply (part_30 m ρ K c (w2 c) v5 v7 v830) $$ [HO Hr8 Hs12 Hl12 Hr9]
  · isplitr; · iexact HE
    isplitl [HO]; · iexact HO
    isplitl [Hr8]; · iexact Hr8
    isplitl [Hs12]; · iexact Hs12
    isplitl [Hl12]; · iexact Hl12
    iexact Hr9
  iintro %v832 %v835 ⟨HO, Hzr8, Hpq5r, Hw12, Hzr9, Hpo3l, Hpo3r⟩
  try dsimp only
  -- part 31
  iapply (run_bind c)
  iapply (part_31 m ρ K c v5 v7 v832) $$ [Hs13 Hl13 Hpo3l HO Hr10 Hr11 Hpq5r]
  · isplitr; · iexact HE
    isplitl [Hs13]; · iexact Hs13
    isplitl [Hl13]; · iexact Hl13
    isplitl [Hpo3l]; · iexact Hpo3l
    isplitl [HO]; · iexact HO
    isplitl [Hr10]; · iexact Hr10
    isplitl [Hr11]; · iexact Hr11
    iexact Hpq5r
  iintro  ⟨HO, Hw13, Hzr10, Hpo5f, Hzr11, Hpq3f, Hpq5r⟩
  try dsimp only
  -- part 32
  iapply (run_bind c)
  iapply (part_32 m ρ K c v832 v835) $$ [HKg HVg Hpq3f Hpo3r]
  · isplitr; · iexact HE
    isplitl [HKg]; · iexact HKg
    isplitl [HVg]; · iexact HVg
    isplitl [Hpq3f]; · iexact Hpq3f
    iexact Hpo3r
  iintro  ⟨HKg, HVg, Hpq3f, Hpo3r⟩
  try dsimp only
  -- part 33
  iapply (run_bind c)
  iapply (part_33 m ρ K c (w2 c) v7 v835) $$ [HKg HVg]
  · isplitr; · iexact HE
    isplitl [HKg]; · iexact HKg
    iexact HVg
  iintro %v959 ⟨HKg, HVg⟩
  try dsimp only
  -- part 34
  iapply (run_bind c)
  iapply (part_34 m ρ K c v5 v959) $$ [HO Hr12 Hr13 HKg HVg]
  · isplitr; · iexact HE
    isplitl [HO]; · iexact HO
    isplitl [Hr12]; · iexact Hr12
    isplitl [Hr13]; · iexact Hr13
    isplitl [HKg]; · iexact HKg
    iexact HVg
  iintro  ⟨HO, Hzr12, Hpq4f, Hzr13, Hpo4f, HKg, HVg⟩
  try dsimp only
  -- part 35
  iapply (run_bind c)
  iapply (part_35 m ρ K c ) $$ [HO Hw0 Hw3 Hw1]
  · isplitr; · iexact HE
    isplitl [HO]; · iexact HO
    isplitl [Hw0]; · iexact Hw0
    isplitl [Hw3]; · iexact Hw3
    iexact Hw1
  iintro  ⟨HO, Hzs0, Hpq0l, Hzs3, Hpo0r, Hzs1, Hpo0l⟩
  try dsimp only
  -- part 36
  iapply (run_bind c)
  iapply (part_36 m ρ K c ) $$ [HO Hw2 Hw4 Hw5 Hw6 Hw7]
  · isplitr; · iexact HE
    isplitl [HO]; · iexact HO
    isplitl [Hw2]; · iexact Hw2
    isplitl [Hw4]; · iexact Hw4
    isplitl [Hw5]; · iexact Hw5
    isplitl [Hw6]; · iexact Hw6
    iexact Hw7
  iintro  ⟨HO, Hzs2, Hpq0r, Hzs4, Hpq7l, Hzs5, Hpo1l, Hzs6, Hpo7l, Hzs7, Hpq1l⟩
  try dsimp only
  -- part 37
  iapply (run_bind c)
  iapply (part_37 m ρ K c ) $$ [HO Hw8 Hw9 Hw10 Hw11 Hw12]
  · isplitr; · iexact HE
    isplitl [HO]; · iexact HO
    isplitl [Hw8]; · iexact Hw8
    isplitl [Hw9]; · iexact Hw9
    isplitl [Hw10]; · iexact Hw10
    isplitl [Hw11]; · iexact Hw11
    iexact Hw12
  iintro  ⟨HO, Hzs8, Hpq6l, Hzs9, Hpo2l, Hzs10, Hpo6l, Hzs11, Hpq2l, Hzs12, Hpq5l⟩
  try dsimp only
  -- the last stretch
  iapply (sent_x m ρ K c 13 16 (by decide) credit_oslice semS13) $$ [Hw13 HO]
  · isplitr; · iexact HE
    isplitl [Hw13] <;> iassumption
  iintro ⟨Hzs13, Hpo3l, HO⟩
  iapply (lda_out c) $$ Hout; iintro %v1069 Hout
  iapply (st_out c (k0_pay101 (val1011 m ρ c))) $$ Hout; iintro Hout
  iapply (sig_x m ρ K c true 16 true (prv c) (dev17 c) rfl rfl (P := iprop(emp)) (by rw [payload_exit])) $$ [HEtp HO]
  · isplitr; · iexact HE
    isplitr; · iempintro
    isplitl [HEtp] <;> iassumption
  iintro HO
  iapply (sig_x m ρ K c true 17 false (nxt c) (dev18 c) rfl rfl (P := iprop(emp)) (by rw [payload_exit])) $$ [HEtn HO]
  · isplitr; · iexact HE
    isplitr; · iempintro
    isplitl [HEtn] <;> iassumption
  iintro HO
  iapply (wait_reg m ρ K c true 18 rfl (by decide)) $$ [HEc HEa HO]
  · isplitr; · iexact HE
    isplitl [HEc]; · iexact HEc
    isplitl [HEa] <;> iassumption
  iintro ⟨HEz, -, HO⟩
  iapply (run_ret c)
  iapply Hk
  ihave Hpq0f := ((pc_halves m ρ false c (fw c 0)).2) $$ [Hpq0l Hpq0r]
  · isplitl [Hpq0l]; · iexact Hpq0l
    iexact Hpq0r
  ihave Hpq1f := ((pc_halves m ρ false c (fw c 1)).2) $$ [Hpq1l Hpq1r]
  · isplitl [Hpq1l]; · iexact Hpq1l
    iexact Hpq1r
  ihave Hpq2f := ((pc_halves m ρ false c (fw c 2)).2) $$ [Hpq2l Hpq2r]
  · isplitl [Hpq2l]; · iexact Hpq2l
    iexact Hpq2r
  ihave Hpq5f := ((pc_halves m ρ false c (fw c 5)).2) $$ [Hpq5l Hpq5r]
  · isplitl [Hpq5l]; · iexact Hpq5l
    iexact Hpq5r
  ihave Hpq6f := ((pc_halves m ρ false c (fw c 6)).2) $$ [Hpq6l Hpq6r]
  · isplitl [Hpq6l]; · iexact Hpq6l
    iexact Hpq6r
  ihave Hpq7f := ((pc_halves m ρ false c (fw c 7)).2) $$ [Hpq7l Hpq7r]
  · isplitl [Hpq7l]; · iexact Hpq7l
    iexact Hpq7r
  ihave Hc0 := (join_q m ρ c) $$ [Hpq0f Hpq1f Hpq2f Hpq3f Hpq4f Hpq5f Hpq6f Hpq7f]
  · isplitl [Hpq0f]; · iexact Hpq0f
    isplitl [Hpq1f]; · iexact Hpq1f
    isplitl [Hpq2f]; · iexact Hpq2f
    isplitl [Hpq3f]; · iexact Hpq3f
    isplitl [Hpq4f]; · iexact Hpq4f
    isplitl [Hpq5f]; · iexact Hpq5f
    isplitl [Hpq6f]; · iexact Hpq6f
    iexact Hpq7f
  ihave Hpo0f := ((pc_halves m ρ true c (fw c 0)).2) $$ [Hpo0l Hpo0r]
  · isplitl [Hpo0l]; · iexact Hpo0l
    iexact Hpo0r
  ihave Hpo1f := ((pc_halves m ρ true c (fw c 1)).2) $$ [Hpo1l Hpo1r]
  · isplitl [Hpo1l]; · iexact Hpo1l
    iexact Hpo1r
  ihave Hpo2f := ((pc_halves m ρ true c (fw c 2)).2) $$ [Hpo2l Hpo2r]
  · isplitl [Hpo2l]; · iexact Hpo2l
    iexact Hpo2r
  ihave Hpo3f := ((pc_halves m ρ true c (fw c 3)).2) $$ [Hpo3l Hpo3r]
  · isplitl [Hpo3l]; · iexact Hpo3l
    iexact Hpo3r
  ihave Hpo6f := ((pc_halves m ρ true c (fw c 6)).2) $$ [Hpo6l Hpo6r]
  · isplitl [Hpo6l]; · iexact Hpo6l
    iexact Hpo6r
  ihave Hpo7f := ((pc_halves m ρ true c (fw c 7)).2) $$ [Hpo7l Hpo7r]
  · isplitl [Hpo7l]; · iexact Hpo7l
    iexact Hpo7r
  ihave Hc1 := (join_o m ρ c) $$ [Hpo0f Hpo1f Hpo2f Hpo3f Hpo4f Hpo5f Hpo6f Hpo7f]
  · isplitl [Hpo0f]; · iexact Hpo0f
    isplitl [Hpo1f]; · iexact Hpo1f
    isplitl [Hpo2f]; · iexact Hpo2f
    isplitl [Hpo3f]; · iexact Hpo3f
    isplitl [Hpo4f]; · iexact Hpo4f
    isplitl [Hpo5f]; · iexact Hpo5f
    isplitl [Hpo6f]; · iexact Hpo6f
    iexact Hpo7f
  isplitl [HBz HEz Hzs0 Hzs1 Hzs2 Hzs3 Hzs4 Hzs5 Hzs6 Hzs7 Hzs8 Hzs9 Hzs10 Hzs11 Hzs12 Hzs13 Hzr0 Hzr1 Hzr2 Hzr3 Hzr4 Hzr5 Hzr6 Hzr7 Hzr8 Hzr9 Hzr10 Hzr11 Hzr12 Hzr13]
  · isplitl [HBz]; · iexact HBz
    isplitl [HEz]; · iexact HEz
    isplitl [Hzs0 Hzs1 Hzs2 Hzs3 Hzs4 Hzs5 Hzs6 Hzs7 Hzs8 Hzs9 Hzs10 Hzs11 Hzs12 Hzs13]
    · isplitl [Hzs0]; · iexact Hzs0
      isplitl [Hzs1]; · iexact Hzs1
      isplitl [Hzs2]; · iexact Hzs2
      isplitl [Hzs3]; · iexact Hzs3
      isplitl [Hzs4]; · iexact Hzs4
      isplitl [Hzs5]; · iexact Hzs5
      isplitl [Hzs6]; · iexact Hzs6
      isplitl [Hzs7]; · iexact Hzs7
      isplitl [Hzs8]; · iexact Hzs8
      isplitl [Hzs9]; · iexact Hzs9
      isplitl [Hzs10]; · iexact Hzs10
      isplitl [Hzs11]; · iexact Hzs11
      isplitl [Hzs12]; · iexact Hzs12
      iexact Hzs13
    isplitl [Hzr0]; · iexact Hzr0
    isplitl [Hzr1]; · iexact Hzr1
    isplitl [Hzr2]; · iexact Hzr2
    isplitl [Hzr3]; · iexact Hzr3
    isplitl [Hzr4]; · iexact Hzr4
    isplitl [Hzr5]; · iexact Hzr5
    isplitl [Hzr6]; · iexact Hzr6
    isplitl [Hzr7]; · iexact Hzr7
    isplitl [Hzr8]; · iexact Hzr8
    isplitl [Hzr9]; · iexact Hzr9
    isplitl [Hzr10]; · iexact Hzr10
    isplitl [Hzr11]; · iexact Hzr11
    isplitl [Hzr12]; · iexact Hzr12
    iexact Hzr13
  isplitl [HKz HVz]
  · isplitl [HKz] <;> iassumption
  isplitl [HKs HVs]
  · isplitl [HKs] <;> iassumption
  isplitl [Hc0 Hc1 HKb HVb HKg HVg]
  · isplitl [Hc0]; · iexact Hc0
    isplitl [Hc1]; · iexact Hc1
    isplitl [HKb]; · iexists _; iexact HKb
    isplitl [HVb]; · iexists _; iexact HVb
    isplitl [HKg]; · iexists _; iexact HKg
    iexists _; iexact HVg
  isplitl [Hx]; · iexact Hx
  isplitl [Hq]; · iexact Hq
  isplitl [Ho]; · iexact Ho
  isplitl [Hout]; · iexact Hout
  iexact HO

end Cert.RingProof

end

end
-- ==== Proof.Ghost.lean ====
/- The protocol's cells made at the launch, and its tokens and credits dealt to the devices. -/
module

public import proofs.«01_k».proof.Proof.Split

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their duty tokens -/

theorem xS_injective : Function.Injective xS := by decide

theorem cSem_injective : Function.Injective (cSem : CI → SemLoc sig)
  | .inl false, .inl false, _ => rfl
  | .inl true, .inl true, _ => rfl
  | .inl false, .inl true, h => absurd (SemLoc.reg.inj h) (by decide)
  | .inl true, .inl false, h => absurd (SemLoc.reg.inj h) (by decide)
  | .inl false, .inr _, h => by cases h
  | .inl true, .inr _, h => by cases h
  | .inr _, .inl false, h => by cases h
  | .inr _, .inl true, h => by cases h
  | .inr _, .inr _, h => congrArg Sum.inr (xS_injective (SemLoc.dma.inj h))

theorem kcell_injective : Function.Injective (kcell : Dev nD × CI → GSem nD τ sig) := by
  rintro ⟨c, k⟩ ⟨c', k'⟩ h
  exact Prod.ext (congrArg (fun g : GSem nD τ sig => g.1.1) h) (cSem_injective (congrArg Prod.snd h))
def ringCells : Finset (GSem nD τ sig) := Finset.univ.map ⟨kcell, kcell_injective⟩

/-- Which duty of a device's own cells: either of the two of its barrier or exit cell, or the one of a transfer's cell. -/
abbrev TI : Type := (Bool × Bool) ⊕ (Bool × Fin 14)
abbrev tokOf (x : Dev nD × TI) : GSem nD τ sig × ℕ × Bool := match x.2 with
  | .inl (b, d) => (kcell (x.1, .inl b), 0, d)
  | .inr bt => (kcell (x.1, .inr bt), 0, false)
theorem tokOf_injective : Function.Injective (tokOf : Dev nD × TI → GSem nD τ sig × ℕ × Bool) := by
  rintro ⟨c, ⟨b, d⟩ | bt⟩ ⟨c', ⟨b', d'⟩ | bt'⟩ h
  · have h1 := kcell_injective (congrArg Prod.fst h)
    have h2 : d = d' := congrArg (fun x : GSem nD τ sig × ℕ × Bool => x.2.2) h
    cases h1; cases h2; rfl
  · cases kcell_injective (congrArg Prod.fst h)
  · cases kcell_injective (congrArg Prod.fst h)
  · cases kcell_injective (congrArg Prod.fst h); rfl
def ringToks : Finset (GSem nD τ sig × ℕ × Bool) := Finset.univ.map ⟨tokOf, tokOf_injective⟩

/-- What is owned at the launch. -/
def u₀ : UU :=
  (initOf (Pipeline.cells cfgs cellOf_inj) (Pipeline.launchToks cfgs cellOf_inj), (initOf ringCells ringToks, (1 : Counters)))

/-- The duty tokens of device `c`'s own cells. -/
def toks (c : Dev nD) : sProp 𝕄 :=
  iprop((dutyTok ER (barCell c) 0 false ∗ dutyTok ER (barCell c) 0 true ∗ dutyTok ER (exitCell c) 0 false ∗ dutyTok ER (exitCell c) 0 true)
    ∗ (bigSep Finset.univ fun t : Fin 14 => dutyTok ER (sendCell t c) 0 false) ∗ (bigSep Finset.univ fun t : Fin 14 => dutyTok ER (recvCell t c) 0 false))

/-- Over the cells of a device, one by one. -/
theorem over_CI (Φ : CI → sProp 𝕄) : bigSep Finset.univ Φ
    = iprop((Φ (.inl false) ∗ Φ (.inl true)) ∗ (bigSep Finset.univ fun t => Φ (.inr (false, t))) ∗ (bigSep Finset.univ fun t => Φ (.inr (true, t)))) := by
  rw [bigSep_univ_sum, bigSep_univ_prod, bigSep_univ_eq_bigSepL [false, true] (by decide) (by decide),
    bigSep_univ_eq_bigSepL [false, true] (by decide) (by decide)]; rfl
/-- Over its duties, likewise. -/
theorem over_TI (Φ : TI → sProp 𝕄) : bigSep Finset.univ Φ
    = iprop((Φ (.inl (false, false)) ∗ Φ (.inl (false, true)) ∗ Φ (.inl (true, false)) ∗ Φ (.inl (true, true)))
      ∗ (bigSep Finset.univ fun t => Φ (.inr (false, t))) ∗ (bigSep Finset.univ fun t => Φ (.inr (true, t)))) := by
  rw [bigSep_univ_sum, bigSep_univ_prod (fun x : Bool × Fin 14 => Φ (.inr x)),
    bigSep_univ_eq_bigSepL [(false, false), (false, true), (true, false), (true, true)] (by decide) (by decide),
    bigSep_univ_eq_bigSepL [false, true] (by decide) (by decide)]; rfl

/-- The positions at the start, and the records of what was reached, of device `c`. -/
def ats (c : Dev nD) : sProp 𝕄 := bigSep Finset.univ fun k : CI => atPos ER (kcell (c, k)) 0 ∅ 0

/-- What the launch deals device `c`. -/
def G (c : Dev nD) : sProp 𝕄 :=
  iprop((bigSep Finset.univ fun k : CI => roundState ER (Rd m ρ) (kcell (c, k)) 0)
    ∗ (ats c ∗ bigSep Finset.univ fun k : CI => reached ER (kcell (c, k)) 0) ∗ toks c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [over_TI]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G ats; simp only [bigSep_sep']
  isplitl [Hst']; · iexact Hst'
  isplitl [Hat' Hr']
  · isplitl [Hat'] <;> iassumption
  iexact Htok'

/-! ## The semaphores -/

/-- The scoped semaphores the body uses: the exit semaphore, those of the transfers, and those of the local copies. -/
abbrev OI : Type := Unit ⊕ (Bool × Fin 14) ⊕ Bool
abbrev osem : OI → SemLoc sig := fun | .inl () => .reg exitS | .inr (.inl bt) => .dma (xS bt) | .inr (.inr b) => .dma (kvS b)

theorem ownSemFacts : Pipeline.OwnSemFacts cfg0.spec osem := by decide +kernel

local notation "own₀" => Pipeline.ownSems0 (Ix := Unit) (Name := ℕ) (U := UU) (Lvl := ℕ) (Val := Elt F) (τ := τ) osem

theorem ownSems0_eq (c : Dev nD) : (own₀ c : sProp 𝕄)
    = iprop(semVal (exitCell c) 0 ∗ ((bigSep Finset.univ fun t => semVal (sendCell t c) 0) ∗ (bigSep Finset.univ fun t => semVal (recvCell t c) 0)) ∗ kvz c) := by
  unfold Pipeline.ownSems0 kvz
  rw [bigSep_univ_sum, bigSep_univ_sum, bigSep_univ_prod, bigSep_univ_eq_bigSepL [()] (by decide) (by decide),
    bigSep_univ_eq_bigSepL [false, true] (by decide) (by decide), bigSep_univ_eq_bigSepL [false, true] (by decide) (by decide)]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The semaphores of a device: those of the protocol, and the two of the local copies. -/
theorem sems0_eq (c : Dev nD) :
    iprop(own₀ c ∗ unscopedSems0 c) ⊢ iprop((bigSep Finset.univ fun k : CI => semVal (kcell (c, k)) 0) ∗ kvz c : sProp 𝕄) := by
  rw [ownSems0_eq, unscopedSems0_eq, over_CI]
  iintro ⟨⟨HE, ⟨HS, HV⟩, HK⟩, HB⟩
  isplitr [HK]
  · isplitl [HB HE]
    · isplitl [HB]; · iexact HB
      iexact HE
    isplitl [HS]; · iexact HS
    iexact HV
  iexact HK

theorem zeros_back (c : Dev nD) : iprop(zeros c ∗ kvz c) ⊢ iprop(unscopedSems0 c ∗ own₀ c : sProp 𝕄) := by
  rw [ownSems0_eq, unscopedSems0_eq]; unfold zeros
  iintro ⟨⟨HB, HE, HS, HV⟩, HK⟩
  isplitl [HB]; · iexact HB
  isplitl [HE]; · iexact HE
  isplitl [HS HV]
  · isplitl [HS]; · iexact HS
    iexact HV
  iexact HK

/-! ## The cells made, the tokens dealt -/

theorem cells_alloc (c : Dev nD) :
    iprop((bigSep Finset.univ fun k : CI => semVal (kcell (c, k)) 0) ∗ bigSep Finset.univ fun k : CI => roundState ER (Rd m ρ) (kcell (c, k)) 0)
      ⊢ (|={Set.univ}=> bigSep Finset.univ fun k : CI => iprop(∃ κ : ℕ, cellInv ER (Rd m ρ) κ (kcell (c, k))) : sProp 𝕄) := by
  rw [← bigSep_sep']
  exact (bigSep_mono fun k _ => (Rounds.body_intro ER (Rd m ρ) (kcell (c, k))).trans inv_alloc).trans (bigSep_fupd _ _)

/-- What device `c` has once its cells are made. -/
def made (c : Dev nD) : sProp 𝕄 :=
  iprop((bigSep Finset.univ fun k : CI => iprop(∃ κ : ℕ, cellInv ER (Rd m ρ) κ (kcell (c, k))))
    ∗ (ats c ∗ bigSep Finset.univ fun k : CI => reached ER (kcell (c, k)) 0) ∗ toks c ∗ kvz c)

theorem core_alloc (c : Dev nD) : iprop(own₀ c ∗ unscopedSems0 c ∗ G m ρ c) ⊢ |={Set.univ}=> made m ρ c := by
  unfold G made
  iintro ⟨Hos, Hus, Hst, Hat, Htok⟩
  ihave Hv := (sems0_eq (F := F) c) $$ [Hos Hus]
  · isplitl [Hos] <;> iassumption
  icases Hv with ⟨Hv, HK⟩
  imod (cells_alloc m ρ c) $$ [Hv Hst] with Hinv
  · isplitl [Hv] <;> iassumption
  imodintro
  isplitl [Hinv]; · iexact Hinv
  isplitl [Hat]; · iexact Hat
  isplitl [Htok]; · iexact Htok
  iexact HK

/-- The records every device shares. -/
def records (K : Dev nD × CI → ℕ) : sProp 𝕄 :=
  iprop((bigSep Finset.univ fun ck : Dev nD × CI => cellInv ER (Rd m ρ) (K ck) (kcell ck))
    ∗ bigSep Finset.univ fun ck : Dev nD × CI => reached ER (kcell ck) 0)
instance records_persistent (K : Dev nD × CI → ℕ) : BI.Persistent (records (F := F) m ρ K) := by unfold records; infer_instance

/-- The tokens of the duties device `c` pays. -/
def payToks (c : Dev nD) : sProp 𝕄 :=
  iprop((dutyTok ER (barCell (nxt c)) 0 false ∗ dutyTok ER (barCell (prv c)) 0 true ∗ dutyTok ER (exitCell (nxt c)) 0 false ∗ dutyTok ER (exitCell (prv c)) 0 true)
    ∗ (bigSep Finset.univ fun t : Fin 14 => dutyTok ER (sendCell t c) 0 false) ∗ (bigSep Finset.univ fun t : Fin 14 => dutyTok ER (recvCell t (dst t c)) 0 false))

/-- A transfer carries a pair of a device and a transfer to the pair of its receiver and itself. -/
def along : Dev nD × Fin 14 ≃ Dev nD × Fin 14 := ⟨fun x => (dst x.2 x.1, x.2), fun x => (src x.2 x.1, x.2),
  fun x => Prod.ext (src_dst x.2 x.1) rfl, fun x => Prod.ext (dst_src x.2 x.1) rfl⟩

theorem recv_around : (bigSep Finset.univ fun c : Dev nD => bigSep Finset.univ fun t : Fin 14 => (dutyTok ER (recvCell t c) 0 false : sProp 𝕄))
    = bigSep Finset.univ fun c : Dev nD => bigSep Finset.univ fun t : Fin 14 => dutyTok ER (recvCell t (dst t c)) 0 false := by
  refine Eq.trans (bigSep_univ_prod (fun x : Dev nD × Fin 14 => (dutyTok ER (recvCell x.2 x.1) 0 false : sProp 𝕄))).symm ?_
  refine Eq.trans (bigSep_univ_equiv along _) ?_
  exact bigSep_univ_prod (fun x : Dev nD × Fin 14 => (dutyTok ER (recvCell x.2 (dst x.2 x.1)) 0 false : sProp 𝕄))

/-- The tokens dealt around the ring: each to the device that pays it. -/
theorem toks_around : (bigSep Finset.univ fun c : Dev nD => (toks c : sProp 𝕄)) ⊢ bigSep Finset.univ fun c : Dev nD => payToks c := by
  unfold toks payToks
  simp only [bigSep_sep']
  rw [recv_around,
    bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (exitCell c) 0 false : sProp 𝕄)),
    bigSep_univ_equiv ring.symm (fun c : Dev nD => (dutyTok ER (exitCell c) 0 true : sProp 𝕄))]
  exact Idealize.SL.BI.Entails.refl _

/-- What is device `c`'s alone. -/
def linear (c : Dev nD) : sProp 𝕄 := iprop(ats c ∗ payToks c ∗ kvz c)
/-- What the global step deals device `c`. -/
def G' (c : Dev nD) : sProp 𝕄 := iprop(∃ K, records m ρ K ∗ linear c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) : iprop(records m ρ K ∗ linear c) ⊢ G' m ρ c := by
  unfold G'
  iintro H
  iexists K
  iexact H

theorem regroup : (bigSep Finset.univ fun c : Dev nD => (made m ρ c : sProp 𝕄)) ⊢ bigSep Finset.univ (G' m ρ) := by
  unfold made
  simp only [bigSep_sep']
  rw [← bigSep_univ_prod (fun ck : Dev nD × CI => iprop(∃ κ : ℕ, cellInv ER (Rd (F := F) m ρ) κ (kcell ck))),
    ← bigSep_univ_prod (fun ck : Dev nD × CI => (reached ER (kcell ck) 0 : sProp 𝕄))]
  iintro ⟨HI, ⟨Hat, #HR⟩, Htok, HK⟩
  ihave HKK := (BI.bigSep_exists_pi Finset.univ (fun (ck : Dev nD × CI) (κ : ℕ) => (cellInv ER (Rd m ρ) κ (kcell ck) : sProp 𝕄))) $$ HI
  icases HKK with ⟨%K, #HI⟩
  ihave Htk := (toks_around (F := F)) $$ Htok
  iapply (with_persistent (R := records m ρ K) fun c _ => ghost_intro m ρ K c)
  isplitr
  · unfold records; isplitl; · iexact HI
    iexact HR
  · unfold linear
    simp only [bigSep_sep']
    isplitl [Hat]; · iexact Hat
    isplitl [Htk]; · iexact Htk
    iexact HK

/-- The global step: the own and the unscoped semaphores of every device at once. -/
theorem glob : (bigSep Finset.univ fun c => iprop(own₀ c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at the launch -/

theorem tl_nil_at (g : GSem nD τ sig) : tl [] g () = 0 := rfl
theorem tl_cons_at (x : GSem nD τ sig × ℕ) (xs : List (GSem nD τ sig × ℕ)) (g : GSem nD τ sig) :
    tl (x :: xs) g () = (if x.1 = g then x.2 else 0) + tl xs g () := by
  show (tl xs + tallyAt x.1 () x.2) g () = _
  rw [Pi.add_apply, Finsupp.add_apply, tallyAt_apply, Nat.add_comm]
  refine congrArg (· + _) (if_congr ⟨fun h => h.1.symm, fun h => ⟨h.symm, rfl⟩⟩ rfl rfl)
/-- What a list of debts owes a cell: its entries for that cell, added up. -/
theorem tl_at (l : List (GSem nD τ sig × ℕ)) (g : GSem nD τ sig) : tl l g () = ((l.filter fun x => decide (x.1 = g)).map Prod.snd).sum := by
  induction l with
  | nil => rfl
  | cons x xs ih =>
    rw [tl_cons_at, ih, List.filter_cons]
    by_cases h : x.1 = g
    · rw [if_pos h, if_pos (decide_eq_true h)]; rfl
    · rw [if_neg h, if_neg (by rw [decide_eq_false h]; exact Bool.false_ne_true), Nat.zero_add]

theorem owed_recv (t : Fin 14) (d c : Dev nD) : owe 0 d (recvCell t c) () = if d = src t c then N else 0 := by
  unfold owe; rw [tl_at]; revert t d c; decide +kernel
theorem owed_bar (d c : Dev nD) : owe 0 d (barCell c) () = (if d = nxt c then 1 else 0) + (if d = prv c then 1 else 0) := by
  unfold owe; rw [tl_at]; revert d c; decide +kernel
theorem owed_exit (d c : Dev nD) : owe 0 d (exitCell c) () = (if d = nxt c then 1 else 0) + (if d = prv c then 1 else 0) := by
  unfold owe; rw [tl_at]; revert d c; decide +kernel

theorem launch_recv (t : Fin 14) (c : Dev nD) :
    tallyOn (recvCell t c) (launchCredit (Pipeline.owing (owe 0)) 0 (recvCell t c)) = (tallyAt (recvCell t c) () N : CellTallies nD τ sig Unit) := by
  unfold tallyAt; refine congrArg _ (Finsupp.ext fun u => ?_); cases u
  rw [Pipeline.launchCredit_owing, Finsupp.single_eq_same, Finset.sum_congr rfl fun d _ => owed_recv t d c, Finset.sum_ite_eq' Finset.univ (src t c) fun _ => N,
    if_pos (Finset.mem_univ _)]
theorem launch_bar (c : Dev nD) :
    tallyOn (barCell c) (launchCredit (Pipeline.owing (owe 0)) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nxt c) fun _ => 1, Finset.sum_ite_eq' Finset.univ (prv c) fun _ => 1, if_pos (Finset.mem_univ _), if_pos (Finset.mem_univ _)]
theorem launch_exit (c : Dev nD) :
    tallyOn (exitCell c) (launchCredit (Pipeline.owing (owe 0)) 0 (exitCell c)) = (tallyAt (exitCell c) () 2 : CellTallies nD τ sig Unit) := by
  unfold tallyAt; refine congrArg _ (Finsupp.ext fun u => ?_); cases u
  rw [Pipeline.launchCredit_owing, Finsupp.single_eq_same, Finset.sum_congr rfl fun d _ => owed_exit d c, Finset.sum_add_distrib,
    Finset.sum_ite_eq' Finset.univ (nxt c) fun _ => 1, Finset.sum_ite_eq' Finset.univ (prv c) fun _ => 1, if_pos (Finset.mem_univ _), if_pos (Finset.mem_univ _)]

/-- Which of a device's cells are credited at the launch. -/
abbrev crI : Type := Bool ⊕ Fin 14
abbrev crSem : crI → SemLoc sig := fun | .inl b => cSem (.inl b) | .inr t => .dma (recvS t)
theorem crSem_injective : Function.Injective crSem := by
  rintro (_ | _) (_ | _) h
  · exact congrArg Sum.inl (Sum.inl.inj (cSem_injective h))
  · rename_i b t; cases b <;> cases h
  · rename_i t b; cases b <;> cases h
  · rename_i t t'
    exact congrArg Sum.inr (congrArg Prod.snd (Sum.inr.inj (cSem_injective (a₁ := .inr (true, t)) (a₂ := .inr (true, t')) h)))

theorem creds (c : Dev nD) :
    (Pipeline.launchCred (owe 0) c : sProp 𝕄) ⊢ iprop((cred (tallyAt (barCell c) () 2) ∗ cred (tallyAt (exitCell c) () 2))
      ∗ bigSep Finset.univ fun t : Fin 14 => cred (tallyAt (recvCell t c) () N)) := by
  unfold Pipeline.launchCred
  refine BIBase.Entails.trans (bigSep_subset (Finset.subset_univ (Finset.univ.map ⟨crSem, crSem_injective⟩))) ?_
  rw [bigSep_map, bigSep_univ_sum, bigSep_univ_eq_bigSepL [false, true] (by decide) (by decide)]
  refine BIClass.sep_mono ?_ (bigSep_mono fun t _ => Entails.of_eq (congrArg cred (launch_recv t c)))
  exact BIClass.sep_mono (Entails.of_eq (congrArg cred (launch_bar c))) (Entails.of_eq (congrArg cred (launch_exit c)))

/-- The protocol's state of device `c`, from what the launch gives it. -/
theorem prot_intro (c : Dev nD) : iprop(ats c ∗ payToks c ∗ Pipeline.launchCred (owe 0) c) ⊢ (prot c : sProp 𝕄) := by
  unfold ats payToks prot sk rk
  rw [over_CI]
  simp only [bigSep_sep']
  iintro ⟨⟨⟨HaB, HaE⟩, HaS, HaV⟩, ⟨⟨HB1, HB2, HE1, HE2⟩, HtS, HtV⟩, Hcr⟩
  ihave Hc := (creds (F := F) c) $$ Hcr
  icases Hc with ⟨⟨HcB, HcE⟩, HcV⟩
  isplitl [HtS HtV HaS]
  · isplitl [HtS]; · iexact HtS
    isplitl [HtV]; · iexact HtV
    iexact HaS
  isplitl [HcV HaV]
  · isplitl [HcV]; · iexact HcV
    iexact HaV
  isplitl [HB2]; · iexact HB2
  isplitl [HB1]; · iexact HB1
  isplitl [HE2]; · iexact HE2
  isplitl [HE1]; · iexact HE1
  isplitl [HcB]; · iexact HcB
  isplitl [HaB]; · iexact HaB
  isplitl [HcE]; · iexact HcE
  iexact HaE

end Cert.RingProof

end

end
-- ==== Proof.Launch.lean ====
/- The launch of the eight devices, and the run of the kernel. -/
module

public import Idealize.ShloMosaic.Lib.Pipeline.CollectiveSegs
public import proofs.«01_k».proof.Proof.Gen.KernelIdeal.Points
public import proofs.«01_k».proof.Proof.Body
public import proofs.«01_k».proof.Proof.Ghost

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's proof data -/

/-- Device `c`'s state before the body; -/
def start (c : Dev nD) : sProp 𝕄 := iprop((∃ K, env m ρ K) ∗ prot c ∗ kvz c ∗ argsKV m c)
def Φ₀ (c : Dev nD) : sProp 𝕄 := iprop(start m ρ c ∗ rest0 c)
/-- and after it. -/
def Φ₁ (c : Dev nD) : sProp 𝕄 := iprop(zeros c ∗ kvz c ∗ argsKV m c ∗ rest0 c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => qstg m ρ c
    | ⟨2, _⟩ => ostg m ρ c
    | ⟨3, _⟩ => outv m ρ c
  Φ t := match t with
    | ⟨0, _⟩ => Φ₀ m ρ c
    | ⟨_ + 1, _⟩ => Φ₁ m c
  q _ := fullShare
  owed t := match t with
    | ⟨0, _⟩ => owe 0 c
    | ⟨_ + 1, _⟩ => 0

/-! ## The body's obligation -/

/-- A whole staging buffer owned is its points-to. -/
theorem owns_stage (c : Dev nD) (b : Ref sig .tc) (X : b.ty.Contents (Elt F)) :
    (owns (Ix := Unit) (Name := ℕ) (U := UU) (Lvl := ℕ) (c : Thread nD τ) (Memref.whole b) fullShare X : sProp 𝕄) = iprop(∃ f, ⌜f = X⌝ ∗ whole c b f) := by
  unfold owns; simp only [Memref.view_whole, View.read_whole, View.set_whole]

/-- The contents of a staging buffer, known. -/
abbrev stg (c : Dev nD) (b : Ref sig .tc) (X : b.ty.Contents (Elt F)) : sProp 𝕄 := iprop(∃ f, ⌜f = X⌝ ∗ whole c b f)

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d)) ∗ (∃ d, stg c cc0_stg1_0 ((dats m ρ 0 c).before (1 : Fin 4) t0_0 d))
    ∗ (∃ d, stg c cc0_stg2_0 ((dats m ρ 0 c).before (2 : Fin 4) t0_0 d)) ∗ (∃ d, stg c cc0_stg3_0 ((dats m ρ 0 c).before (3 : Fin 4) t0_0 d)))
def bodyPost (c : Dev nD) : sProp 𝕄 :=
  iprop(Φ₁ m c ∗ (dats m ρ 0 c).owesAt () t0_0.succ ∗ stg c cc0_stg0_0 (xstg m ρ c) ∗ stg c cc0_stg1_0 (qstg m ρ c) ∗ stg c cc0_stg2_0 (ostg m ρ c)
    ∗ stg c cc0_stg3_0 (outv m ρ c))

theorem before_x (c : Dev nD) (d) : (dats m ρ 0 c).before (0 : Fin 4) t0_0 d = xstg m ρ c := by
  unfold Dat.before; rw [if_pos (fetch0_0 t0_0)]; rfl
theorem before_q (c : Dev nD) (d) : (dats m ρ 0 c).before (1 : Fin 4) t0_0 d = qstg m ρ c := by
  unfold Dat.before; rw [if_pos (fetch0_1 t0_0)]; rfl
theorem before_o (c : Dev nD) (d) : (dats m ρ 0 c).before (2 : Fin 4) t0_0 d = ostg m ρ c := by
  unfold Dat.before; rw [if_pos (fetch0_2 t0_0)]; rfl

theorem owes_in (c : Dev nD) : ((dats m ρ 0 c).owesAt () t0_0.castSucc : sProp 𝕄) ⊢ ow 0 c := by
  unfold Dat.owesAt Pipeline.owesWithin ow
  rw [show (dats m ρ 0 c).owed t0_0.castSucc = owe 0 c from rfl]
  iintro ⟨%W, %hW, HO⟩
  iexists W
  iexact HO
theorem owes_out (c : Dev nD) : ow 18 c ⊢ ((dats m ρ 0 c).owesAt () t0_0.succ : sProp 𝕄) := by
  unfold Dat.owesAt Pipeline.owesWithin ow
  rw [show (dats m ρ 0 c).owed t0_0.succ = owe 18 c from rfl]
  iintro ⟨%W, HO⟩
  iexists W
  isplitr; · ipureintro; exact fun _ _ => Or.inl trivial
  iexact HO

/-- The body from its precondition to its postcondition. -/
theorem sound_body (c : Dev nD) : bodyPre m ρ c ⊢ run c (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scoped0) (fun _ => bodyPost m ρ c) := by
  unfold bodyPre Φ₀ start
  simp only [before_x, before_q, before_o]
  iintro ⟨⟨⟨⟨%K, He⟩, Hp, Hk, Ha⟩, Hr⟩, Ho, ⟨%dx, %fx, %hx, Hx⟩, ⟨%dq, %fq, %hq, Hq⟩, ⟨%do', %fo, %ho, Hwo⟩, ⟨%dt, %ft, %ht, Ht⟩⟩
  subst hx hq ho
  ihave Ho := (owes_in m ρ c) $$ Ho
  iapply (body_run m ρ K c (Φ := fun _ => bodyPost m ρ c)) $$ [He Hp Hk Ha Hr Hx Hq Hwo Ht Ho]
  · isplitl [He]; · iexact He
    isplitl [Hp]; · iexact Hp
    isplitl [Hk]; · iexact Hk
    isplitl [Ha]; · iexact Ha
    isplitl [Hr]; · iexact Hr
    isplitl [Hx]; · iexact Hx
    isplitl [Hq]; · iexact Hq
    isplitl [Hwo]; · iexact Hwo
    isplitl [Ht]; · iexists ft; iexact Ht
    iexact Ho
  iintro ⟨Hz, Hk, Ha, Hr, Hx, Hq, Hwo, Ht, Ho⟩
  unfold bodyPost Φ₁
  isplitl [Hz Hk Ha Hr]
  · isplitl [Hz]; · iexact Hz
    isplitl [Hk]; · iexact Hk
    isplitl [Ha]; · iexact Ha
    iexact Hr
  isplitl [Ho]
  · iapply (owes_out m ρ c); iexact Ho
  isplitl [Hx]
  · iexists _; isplitr; · (ipureintro; rfl)
    iexact Hx
  isplitl [Hq]
  · iexists _; isplitr; · (ipureintro; rfl)
    iexact Hq
  isplitl [Hwo]
  · iexists _; isplitr; · (ipureintro; rfl)
    iexact Hwo
  iexists _; isplitr; · (ipureintro; rfl)
  iexact Ht

set_option maxRecDepth 20000 in
/-- The body's obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_stage]
  exact sound_body m ρ c

/-! ## The launch's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (owe 0) c ∗ prngReg c (ρ c) ∗ G' m ρ c)
      ⊢ |={Set.univ}=> iprop(start m ρ c ∗ emp) := by
  rw [Pipeline.unscopedRestP_none]
  show iprop(Pipeline.unscopedRest spec0 c _ ∗ _) ⊢ _
  rw [unscopedRest0_eq]
  unfold start G' linear records env argsKV
  iintro ⟨⟨H2, H3⟩, Hlev, Hcr, -, ⟨%K, ⟨HI, HR⟩, Hat, Htk, HK⟩⟩
  ihave Hp := (prot_intro (F := F) c) $$ [Hat Htk Hcr]
  · isplitl [Hat]; · iexact Hat
    isplitl [Htk]; · iexact Htk
    iexact Hcr
  imodintro
  isplitl
  · isplitl [HI HR Hlev]
    · iexists K
      isplitl [HI]; · iexact HI
      isplitl [HR]; · iexact HR
      iexact Hlev
    isplitl [Hp]; · iexact Hp
    isplitl [HK]; · iexact HK
    isplitl [H2]; · iexact H2
    iexact H3
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  show iprop(_ ∗ _ ∗ Pipeline.scopedRest spec0 c) ⊢ _
  rw [scopedRest0_eq]
  unfold Φ₀ rest0
  iintro ⟨Hs, -, Hr⟩
  isplitl [Hs]; · iexact Hs
  iexact Hr

/-- What is left of device `c` when the region has ended. -/
def left (c : Dev nD) : sProp 𝕄 := iprop(unscopedSems0 c ∗ argsKV m c)

theorem phi1_exit (c : Dev nD) :
    (dats m ρ 0 c).Φ (Fin.last cfg0.N) ⊢ iprop(left m c ∗ Pipeline.ownSems0 osem c ∗ Pipeline.scopedRest cfg0.spec c) := by
  rw [show (dats m ρ 0 c).Φ (Fin.last cfg0.N) = Φ₁ m c from rfl]
  show _ ⊢ iprop(_ ∗ _ ∗ Pipeline.scopedRest spec0 c)
  rw [scopedRest0_eq]
  unfold Φ₁ rest0 left
  iintro ⟨Hz, HK, Ha, Hr⟩
  ihave H := (zeros_back (F := F) c) $$ [Hz HK]
  · isplitl [Hz] <;> iassumption
  icases H with ⟨HU, HO⟩
  isplitl [HU Ha]
  · isplitl [HU] <;> iassumption
  isplitl [HO]; · iexact HO
  iexact Hr

theorem owed_at (c : Dev nD) (t : Fin (cfg0.N + 1)) : (dats m ρ 0 c).owed t = owe 0 c ∨ (dats m ρ 0 c).owed t = owe 18 c := by
  rcases t with ⟨_ | _, ht⟩
  · exact Or.inl rfl
  · exact Or.inr rfl

theorem waits (c : Dev nD) : (levAts L lv : sProp 𝕄) ⊢ Pipeline.cellsWaits cfgs (dats m ρ) () 0 c :=
  Pipeline.cellsWaits_intro cfgs (dats m ρ) () 0 c fun w s t => by
    rcases owed_at m ρ c t with h | h <;> rw [h] <;> refine mayWait_owe c _ _ ?_ <;> fin_cases w <;> fin_cases s <;> decide

/-! ## The run -/

/-- What an array of a window holds after the run. -/
def finalA (c : Dev nD) (w : Fin cfg0.W) : Buf (Elt F) ((cfg0.win w).arr.view.loc (c : Thread nD τ)) := (dats m ρ 0 c).arrAt w cfg0.N

/-- What is read of device `c`'s memory at the end: its unscoped semaphores at zero, `K` and `V` as they were. -/
def QY (c : Dev nD) (s : MemSt nD τ sig (Elt F)) : Prop :=
  (∀ sm : SemLoc sig, sm.isScoped .tc = false → s.sem ((c.tc : Thread nD τ), sm) = 0)
  ∧ s.mem ((c : Thread nD τ).loc main_arg2) = m ((c : Thread nD τ).loc main_arg2)
  ∧ s.mem ((c : Thread nD τ).loc main_arg3) = m ((c : Thread nD τ).loc main_arg3)

theorem left_read (c : Dev nD) (s' : Phys nD τ sig (Elt F)) :
    iprop(left m c ∗ emp ∗ SI s') ⊢ (|={Set.univ}=> iprop(⌜QY m c s'.mem⌝ ∗ SI s') : sProp 𝕄) := by
  unfold left argsKV
  iintro ⟨⟨Hu, H2, H3⟩, -, HSI⟩
  icombine HSI H2 gives %h2
  icombine HSI H3 gives %h3
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => h2 i (Finset.mem_univ _), funext fun i => h3 i (Finset.mem_univ _)⟩
  iexact HSI

/-- What holds when every device has ended. -/
def QC : PUnit × MemSt nD τ sig (Elt F) → Prop := fun r =>
  ∀ c : Dev nD, (∀ w : Fin cfg0.W, r.2.mem ((cfg0.win w).arr.view.loc (c : Thread nD τ)) = finalA m ρ c w) ∧ QY m c r.2

theorem fund_all : (ownU u₀ : sProp 𝕄) ⊢ |={Set.univ}=> iprop(BI.own (EP (initOf (Pipeline.cells cfgs cellOf_inj) (Pipeline.launchToks cfgs cellOf_inj)))
    ∗ bigSep Finset.univ (G m ρ)) := by
  unfold u₀
  iintro Hu
  ihave H := (ownU_pair _ _) $$ Hu
  icases H with ⟨HP, HR⟩
  ihave H := (own_pair_emb (M' := 𝕄) _ _ _) $$ HR
  icases H with ⟨HX, -⟩
  ihave HX := (show (BI.own (((Emb.inl : Emb UB (UB × Counters)).trans embR) (initOf ringCells ringToks)) : sProp 𝕄) ⊢ (BI.own (ER (initOf ringCells ringToks)) : sProp 𝕄) from Idealize.SL.BI.Entails.refl _) $$ HX
  imod (fund_ring m ρ) $$ HX with HG
  imodintro
  isplitl [HP] <;> iassumption

set_option maxRecDepth 20000 in
/-- From any memory with zero counters every weakly fair execution of the eight devices terminates; at the end each window's
    array holds the computed contents, `K` and `V` are unchanged, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe 0) (howed₀ := fun _ => rfl) (howedN := fun _ => rfl)
    (L := L) (lv := lv) (hL := L_of_ne) (hwaits := waits m ρ)
    (G := G m ρ) (G' := G' m ρ) (u₀ := u₀)
    (hu₀ := fund_all m ρ)
    (hglob := glob m ρ)
    (hA := fun _ _ => rfl) (hpf := fun _ k => k.elim0)
    (X := start m ρ) (Y := left m) (Z := fun _ => iprop(emp))
    (hX := start_intro m ρ) (hin := phi0_intro m ρ) (hout := phi1_exit m ρ)
    (QY := QY m)
    (hY := left_read m)
    (hQ := fun _ h hs => ⟨fun c => ⟨(h c).1, (h c).2.2⟩, sem_eq_zero hs fun c => (h c).2.2.1⟩)

/-- The three staged arguments end as they began. -/
theorem final_x (c : Dev nD) : finalA m ρ c (0 : Fin 4) = (s₀ m ρ).mem (win0_0.arr.view.loc (c : Thread nD τ)) := (dats (F := F) m ρ 0 c).arrAt_in (0 : Fin 4) rfl _
theorem final_q (c : Dev nD) : finalA m ρ c (1 : Fin 4) = (s₀ m ρ).mem (win0_1.arr.view.loc (c : Thread nD τ)) := (dats (F := F) m ρ 0 c).arrAt_in (1 : Fin 4) rfl _
theorem final_o (c : Dev nD) : finalA m ρ c (2 : Fin 4) = (s₀ m ρ).mem (win0_2.arr.view.loc (c : Thread nD τ)) := (dats (F := F) m ρ 0 c).arrAt_in (2 : Fin 4) rfl _

/-- The arguments are unchanged after the run. -/
theorem args_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (final_x m ρ c), ((h c).1 1).trans (final_q m ρ c), (h c).2.2.1, (h c).2.2.2, ((h c).1 2).trans (final_o m ρ c)⟩

end Cert.RingProof

end

end
-- ==== Proof.Frames.lean ====
/- The three frames: each program terminates, leaves its arguments unchanged and every semaphore counter at zero. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch

@[expose] public section

noncomputable section

namespace Cert.RingProof

open Idealize.ShloMosaic Idealize.SL.Sem

/-- The kernel over the extended reals. -/
theorem frame_kernelIdeal : Cert.quiescent_KernelIdeal := fun m ρ _ =>
  (θ_run Cert.KernelIdeal.defs _ _).mono (fun _ h => ⟨args_kept m ρ h.1, h.2⟩) (run_main (F := Ideal) m ρ)

/-- The two printed bodies are one. -/
theorem bodies_eq {F : FTy → Type} [FloatOps F] : (Cert.Kernel.defs₀ (F := F)) = Cert.KernelIdeal.defs₀ (F := F) := by
  unfold Cert.Kernel.defs₀ Cert.KernelIdeal.defs₀
  refine congrArg Defs.onTc (funext fun l => ?_)
  revert l
  rintro ⟨_ | n, h⟩
  · funext a
    rfl
  · exact absurd h (Nat.not_lt.2 (Nat.le_add_left _ _))
theorem defs_eq {F : FTy → Type} [FloatOps F] : (Cert.Kernel.defs (F := F)) = Cert.KernelIdeal.defs (F := F) :=
  congrArg (Pipeline.defs Cert.KernelIdeal.pcfgs) bodies_eq

/-- The kernel as printed, over bits: the same run. -/
theorem frame_kernel : Cert.quiescent_Kernel := fun m ρ _ => by
  have key : ∀ d, d = Cert.KernelIdeal.defs (F := Bits) → θ_run d (onTc (τ := Cert.KernelIdeal.τ) (Cert.KernelIdeal.main (F := Bits))) (s₀ m ρ)
      (fun r => QC m ρ r ∧ r.2.sem = fun _ => 0) := by
    rintro _ rfl
    exact run_main (F := Bits) m ρ
  exact (θ_run Cert.Kernel.defs _ _).mono (fun _ h => ⟨args_kept m ρ h.1, h.2⟩) (key _ defs_eq)

/-- The reference: host operations alone, and no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.RingProof

end

end
-- ==== Proof.Soft.lean ====
/- Real entries among the extended reals, and why the greatest score may be left out of a softmax of real scores. -/
module

public import Idealize.ShloMosaic.PureOps.Ideal.Laws
public import Idealize.ShloMosaic.Lib.Pointwise

@[expose] public section

namespace Cert.RingValue

open Idealize.ShloMosaic
open scoped BigOperators

/-- The extended real `x` is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of reals, taken in the extended reals, is the real sum. -/
theorem sum_coe {n : ℕ} (f : Fin n → ℝ) : ∑ i, (f i : EReal) = ((∑ i, f i : ℝ) : EReal) := by
  induction n with
  | zero => simp
  | succ n ih => rw [Fin.sum_univ_succ, Fin.sum_univ_succ, ih, EReal.coe_add]

theorem IsReal.sum {n : ℕ} {f : Fin n → EReal} (h : ∀ i, IsReal (f i)) : IsReal (∑ i, f i) := by
  choose g hg using h
  exact ⟨∑ i, g i, by simp only [hg, sum_coe]⟩

/-- The greatest of at least one real is real. -/
theorem IsReal.fold_max {n : ℕ} {f : Fin (n + 1) → EReal} (h : ∀ i, IsReal (f i)) : IsReal (Finset.univ.fold max ⊥ f) := by
  have key : ∀ s : Finset (Fin (n + 1)), s.Nonempty → IsReal (s.fold max ⊥ f) := by
    intro s hs
    induction hs using Finset.Nonempty.cons_induction with
    | singleton a => rw [Finset.fold_singleton, max_bot_right]; exact h a
    | cons a s ha hs ih =>
      rw [Finset.fold_cons]
      rcases max_choice (f a) (s.fold max ⊥ f) with e | e <;> rw [e]
      · exact h a
      · exact ih
  exact key _ Finset.univ_nonempty

/-- A factor moves from a sum of products of reals into each product's first part. -/
theorem scale_in {n : ℕ} {f g : Fin n → EReal} {κ : EReal} (hf : ∀ i, IsReal (f i)) (hg : ∀ i, IsReal (g i)) (hκ : IsReal κ) :
    ∑ i, f i * κ * g i = (∑ i, f i * g i) * κ := by
  choose a ha using hf
  choose b hb using hg
  obtain ⟨k, rfl⟩ := hκ
  simp only [ha, hb, ← EReal.coe_mul, sum_coe]
  congr 1
  rw [Finset.sum_mul]
  exact Finset.sum_congr rfl fun i _ => by ring

/-- Subtracting one real from every score leaves the softmax of real scores as it is. -/
theorem softmax_shift {n : ℕ} {t : Fin (n + 1) → EReal} {μ : EReal} (ht : ∀ j, IsReal (t j)) (hμ : IsReal μ) (j : Fin (n + 1)) :
    Ideal.div (Ideal.exp (t j - μ)) (∑ x, Ideal.exp (t x - μ)) = Ideal.div (Ideal.exp (t j)) (∑ x, Ideal.exp (t x)) := by
  choose a ha using ht
  obtain ⟨u, rfl⟩ := hμ
  have e1 : ∀ x, Ideal.exp (t x) = ((Real.exp (a x) : ℝ) : EReal) := fun x => by rw [ha]; rfl
  have e2 : ∀ x, Ideal.exp (t x - (u : EReal)) = ((Real.exp (a x - u) : ℝ) : EReal) := fun x => by rw [ha, ← EReal.coe_sub]; rfl
  have p1 : (∑ x, Real.exp (a x)) ≠ 0 := (Finset.sum_pos (fun x _ => Real.exp_pos _) Finset.univ_nonempty).ne'
  have p2 : (∑ x, Real.exp (a x - u)) ≠ 0 := (Finset.sum_pos (fun x _ => Real.exp_pos _) Finset.univ_nonempty).ne'
  have s : ∑ x, Real.exp (a x - u) = (∑ x, Real.exp (a x)) * Real.exp (-u) := by
    rw [Finset.sum_mul]
    exact Finset.sum_congr rfl fun x _ => by rw [sub_eq_add_neg, Real.exp_add]
  simp only [e1, e2, sum_coe]
  rw [Ideal.div_coe p1, Ideal.div_coe p2, ← EReal.coe_mul, ← EReal.coe_mul, s, sub_eq_add_neg, Real.exp_add]
  congr 1
  have := (Real.exp_pos (-u)).ne'
  field_simp

end Cert.RingValue

end
-- ==== Proof.Blk.lean ====
/- What one block of heads adds to a device's result: the attention of its four heads followed by the product with its
   rows of `Wo`, as one function of the block's weights, keys and values; the kernel's terms are that function eight times. -/
module

public import proofs.«01_k».proof.Proof.Launch
public import Idealize.ShloMosaic.Lib.Pointwise
public import Idealize.ShloMosaic.PureOps.Ideal.Laws

@[expose] public section

noncomputable section

namespace Cert.RingProof

open Cert.KernelIdeal Cert.KernelIdeal.Gen
open Idealize.ShloMosaic

/-- The mask, once for each of the eight (batch, head) pairs. -/
def msk8 (msk : IVec S128x128 1) : IVec S8x128x128 1 :=
  broadcastTo S8x128x128 (k0_pay99 msk) broadcasts_S1x128x128_S8x128x128

section
variable {F : FTy → Type} [FloatOps F]

/-- One block's contribution: from the rounded input `x2`, the block's columns `wq` of `Wq` and rows `wo` of `Wo`, and its
    heads' keys and values. -/
def blk (x2 : FVec F S256x512 .bf16) (msk : IVec S128x128 1) (wq : Vec F S512x256 .bf16) (wo : Vec F S256x512 .bf16)
    (kb vb : Vec F S2x4x128x64 .bf16) : FVec F S256x512 .f32 :=
  k0_pay86 wo (k0_pay97 vb) (k0_pay98 x2 wq kb) (msk8 msk) k0_pay85

variable (x2 : FVec F S256x512 .bf16) (msk : IVec S128x128 1) (acc : FVec F S256x512 .f32)
  (wq : Vec F S512x256 .bf16) (wo : Vec F S256x512 .bf16) (kb vb : Vec F S2x4x128x64 .bf16)

/-- The six middle steps and the last one add one block each to what has been summed so far. -/
theorem step88 : k0_pay88 msk acc wo (k0_pay87 x2 wq) kb vb = addf acc (blk x2 msk wq wo kb vb) := rfl
theorem step90 : k0_pay90 msk acc wo (k0_pay89 x2 wq) kb vb = addf acc (blk x2 msk wq wo kb vb) := rfl
theorem step91 : k0_pay91 x2 msk acc wq wo kb vb = addf acc (blk x2 msk wq wo kb vb) := rfl
theorem step92 : k0_pay92 x2 msk acc wq wo kb vb = addf acc (blk x2 msk wq wo kb vb) := rfl
theorem step94 : k0_pay94 msk acc wo (k0_pay93 x2 wq) kb vb = addf acc (blk x2 msk wq wo kb vb) := rfl
theorem step96 : k0_pay96 msk acc wo (k0_pay95 x2 wq) kb vb = addf acc (blk x2 msk wq wo kb vb) := rfl
theorem step100 : k0_pay100 acc wo (k0_pay97 vb) (k0_pay98 x2 wq kb) (Scalar.ofBits .f32 0xCE6E6B28#32) (k0_pay99 msk)
    = addf acc (blk x2 msk wq wo kb vb) := rfl
/-- A block's weights as sent are the arguments rounded: the casts between equal shapes change nothing. -/
theorem pay1_eq (q : Vec F S512x256 .f32) : k0_pay1 q = truncf .bf16 q bitsLt_bf16_f32 := by
  simp only [k0_pay1, shapeCast_self]
theorem pay3_eq (o : Vec F S256x512 .f32) : k0_pay3 (k0_pay2 o) = truncf .bf16 o bitsLt_bf16_f32 := by
  simp only [k0_pay3, k0_pay2, shapeCast_self]
theorem pay81_eq (o : Vec F S256x512 .f32) : k0_pay81 o = truncf .bf16 o bitsLt_bf16_f32 := by
  simp only [k0_pay81, shapeCast_self]
theorem pay83_eq (q : Vec F S512x256 .f32) : k0_pay83 x2 q kb = k0_pay98 x2 (truncf .bf16 q bitsLt_bf16_f32) kb := by
  have e : k0_pay83 x2 q kb = k0_pay98 x2 (truncf .bf16 (shapeCast S512x256 q shapeCasts_S512x256_S512x256) bitsLt_bf16_f32) kb := rfl
  rw [e, shapeCast_self]
/-- The first block is the device's own, its weights rounded on the spot. -/
theorem step86 (q : Vec F S512x256 .f32) (o : Vec F S256x512 .f32) (a b : IVec S128x128 32) (d e : IVec S128x128 1) :
    k0_pay86 (k0_pay81 o) (k0_pay82 vb) (k0_pay83 x2 q kb) (k0_pay84 a b d e) k0_pay85
      = blk x2 (k0_pay80 a b d e) (k0_pay1 q) (k0_pay3 (k0_pay2 o)) kb vb := by
  rw [pay83_eq, pay81_eq, pay1_eq, pay3_eq]; rfl
end

section
variable {F : FTy → Type} [FloatOps F] (m : (ℓ : Loc nD τ sig) → Buf (Elt F) ℓ) (ρ : Dev nD → PrngReg)

/-- What the block that started `k` devices ahead adds to the result of device `c`. -/
def blkAt (c : Dev nD) (k : Fin 8) : FVec F S256x512 .f32 :=
  blk (val116 m ρ c) (val503 m ρ c) (qblk m ρ (fw c k)) (oblk m ρ (fw c k)) (grp (hdM (bufK m c)) (fw c k)) (grp (hdM (bufV m c)) (fw c k))

/-- The accumulated value is the sum of the eight blocks in the order in which they arrive. -/
theorem val1011_eq (c : Dev nD) : val1011 m ρ c =
    addf (addf (addf (addf (addf (addf (addf (blkAt m ρ c 0) (blkAt m ρ c 7)) (blkAt m ρ c 1)) (blkAt m ρ c 6)) (blkAt m ρ c 2))
      (blkAt m ρ c 5)) (blkAt m ρ c 3)) (blkAt m ρ c 4) := by
  have h0 : val542 m ρ c = blkAt m ρ c 0 := by
    unfold blkAt
    rw [fw_zero]
    exact step86 _ _ _ _ _ _ _ _ _
  have h7 : val645 m ρ c = addf (val542 m ρ c) (blkAt m ρ c 7) := step88 _ _ _ _ _ _ _
  have h1 : val685 m ρ c = addf (val645 m ρ c) (blkAt m ρ c 1) := step90 _ _ _ _ _ _ _
  have h6 : val788 m ρ c = addf (val685 m ρ c) (blkAt m ρ c 6) := step91 _ _ _ _ _ _ _
  have h2 : val828 m ρ c = addf (val788 m ρ c) (blkAt m ρ c 2) := step92 _ _ _ _ _ _ _
  have h5 : val915 m ρ c = addf (val828 m ρ c) (blkAt m ρ c 5) := step94 _ _ _ _ _ _ _
  have h3 : val955 m ρ c = addf (val915 m ρ c) (blkAt m ρ c 3) := step96 _ _ _ _ _ _ _
  have h4 : val1011 m ρ c = addf (val955 m ρ c) (blkAt m ρ c 4) := step100 _ _ _ _ _ _ _
  rw [h4, h3, h5, h2, h6, h1, h7, h0]
end

end Cert.RingProof

end

end
-- ==== Proof.Mask.lean ====
/- The kernel's mask on a device is the reference's mask on that device's rows, and no row of it is empty. -/
module

public import proofs.«01_k».proof.Proof.Blk
public import proofs.«01_k».proof.Proof.Gen.ReferenceIdeal.Read

@[expose] public section

noncomputable section

namespace Cert.RingValue

open Cert.ReferenceIdeal.Read
open Idealize.ShloMosaic

/-- The kernel's quotient by 64, rounded down. -/
def kfloor (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)

/-- The kernel's mask bit for query block `q` and key block `k`. -/
def kbit (q k : BitVec 32) : BitVec 1 :=
  IntOp.ori (IntOp.ori (IntOp.cmpi .eq q k) (IntOp.cmpi .eq k 0#32))
    (IntOp.cmpi .eq (IntOp.remsi .vector (IntOp.addi q k) 3#32) 0#32)

/-- The reference's remainder by 3, of the sign of 3. -/
def rrem (s : BitVec 32) : BitVec 32 :=
  Scalar.select
    (IntOp.andi (IntOp.cmpi .ne (IntOp.cmpi .slt (IntOp.remsi .host s 3#32) 0#32) (IntOp.cmpi .slt 3#32 0#32))
      (IntOp.cmpi .ne (IntOp.remsi .host s 3#32) 0#32))
    (IntOp.addi (IntOp.remsi .host s 3#32) 3#32) (IntOp.remsi .host s 3#32)

/-- The reference's mask bit for query block `q` and key block `k`. -/
def rbit (q k : BitVec 32) : BitVec 1 :=
  IntOp.ori (IntOp.ori (IntOp.cmpi .eq q k) (IntOp.cmpi .eq k 0#32)) (IntOp.cmpi .eq (rrem (IntOp.addi q k)) 0#32)

/-- The reference's quotient by 64, rounded down. -/
def rfloor (x : BitVec 32) : BitVec 32 :=
  Scalar.select
    (IntOp.andi
      (IntOp.cmpi .ne (if x = 0 then 0 else if x.msb = true then -1 else 1) (1#32))
      (IntOp.cmpi .ne (IntOp.remsi .host x 64#32) 0#32))
    (IntOp.subi (IntOp.divsi .host x 64#32) 1#32)
    (IntOp.divsi .host x 64#32)

theorem kfloor_row : ∀ c : Fin 8, ∀ i : Fin 128,
    IntOp.addi (Scalar.muli (RingProof.w2 c) 2#32) (kfloor (BitVec.ofNat 32 i.val)) = BitVec.ofNat 32 ((c.val * 128 + i.val) / 64) := by
  decide +kernel
theorem kfloor_col : ∀ j : Fin 128, kfloor (BitVec.ofNat 32 j.val) = BitVec.ofNat 32 (j.val / 64) := by decide +kernel
theorem rfloor_eq : ∀ i : Fin 1024, rfloor (BitVec.ofNat 32 i.val) = BitVec.ofNat 32 (i.val / 64) := by decide +kernel
theorem bit_eq : ∀ q : Fin 16, ∀ k : Fin 2, kbit (BitVec.ofNat 32 q.val) (BitVec.ofNat 32 k.val) = rbit (BitVec.ofNat 32 q.val) (BitVec.ofNat 32 k.val) := by
  decide +kernel
theorem bit_zero : ∀ q : Fin 16, rbit (BitVec.ofNat 32 q.val) (BitVec.ofNat 32 0) = 1#1 := by decide +kernel

section
open Cert.RingProof Cert.KernelIdeal Cert.KernelIdeal.Gen

/-- The kernel's mask at row `i` and column `j`. -/
theorem val503_apply (m : (ℓ : Loc nD τ sig) → Buf (Elt Ideal) ℓ) (ρ : Dev nD → PrngReg) (c : Dev nD) (i j : Fin 128) :
    val503 (F := Ideal) m ρ c (ix2 i j)
      = kbit (IntOp.addi (Scalar.muli (w2 c) 2#32) (kfloor (BitVec.ofNat 32 i.val))) (kfloor (BitVec.ofNat 32 j.val)) := by
  pointwise [val503, val469, val471, val485, val489, val441, val442, k0_pay80, k0_pay76, k0_pay77, k0_pay78, k0_pay79]
  rfl
end

section
open Cert.ReferenceIdeal Cert.ReferenceIdeal.Gen

theorem v5_apply (i : Fin 1024) : val_main_v5 (F := Ideal) (ix1 i) = BitVec.ofNat 32 (i.val / 64) := by
  refine Eq.trans ?_ (rfloor_eq i)
  pointwise [val_main_v4, val_main_c, val_main_v5, val_main_call0_v0, val_main_call0_v1, val_main_call0_v2, val_main_call0_v3,
    val_main_call0_v4, val_main_call0_v5, val_main_call0_v6, val_main_call0_v7, val_main_call0_v8, val_main_call0_v9,
    val_main_call0_v10, val_main_call0_v11, val_main_call0_v12, val_main_call0_v13, val_main_call0_c, val_main_call0_c_0]
  rfl

theorem v8_apply (j : Fin 128) : val_main_v8 (F := Ideal) (ix1 j) = BitVec.ofNat 32 (j.val / 64) := by
  refine Eq.trans ?_ (rfloor_eq ⟨j.val, by omega⟩)
  pointwise [val_main_v7, val_main_c_0, val_main_v8, val_main_call1_v0, val_main_call1_v1, val_main_call1_v2, val_main_call1_v3,
    val_main_call1_v4, val_main_call1_v5, val_main_call1_v6, val_main_call1_v7, val_main_call1_v8, val_main_call1_v9,
    val_main_call1_v10, val_main_call1_v11, val_main_call1_v12, val_main_call1_v13, val_main_call1_c, val_main_call1_c_0]
  rfl

/-- The reference's mask at row `i` and column `j`. -/
theorem v23_apply (i : Fin 1024) (j : Fin 128) :
    val_main_v23 (F := Ideal) (ix2 i j) = rbit (BitVec.ofNat 32 (i.val / 64)) (BitVec.ofNat 32 (j.val / 64)) := by
  rw [← v5_apply, ← v8_apply]
  pointwise [val_main_v6, val_main_v9, val_main_v10, val_main_v11, val_main_v12, val_main_v13, val_main_v14, val_main_v15,
    val_main_v16, val_main_v17, val_main_v18, val_main_v19, val_main_v20, val_main_v21, val_main_v22, val_main_v23,
    val_main_c_1, val_main_c_2, val_main_c_3, val_main_call2_v0, val_main_call2_v1, val_main_call2_v2, val_main_call2_v3,
    val_main_call2_v4, val_main_call2_v5, val_main_call2_v6, val_main_call2_v7, val_main_call2_v8, val_main_call2_v9,
    val_main_call2_v10, val_main_call2_v11, val_main_call2_v12, val_main_call2_v13, val_main_call2_v14, val_main_call2_c,
    val_main_call2_c_0, val_main_call2_c_1, val_main_call2_c_2, val_main_call2_c_3]
  rfl

/-- Every row of the mask has its first block. -/
theorem v34_apply (i : Fin 1024) : val_main_v34 (F := Ideal) (ix1 i) = 1#1 := by
  have h0 : val_main_v23 (F := Ideal) (ix2 i (0 : Fin 128)) = 1#1 :=
    (v23_apply i 0).trans (bit_zero ⟨i.val / 64, by omega⟩)
  have hor : ∀ y : BitVec 1, IntOp.ori 1#1 y = 1#1 := by decide
  pointwise [val_main_v34]
  rw [← Finset.insert_erase (Finset.mem_univ (0 : Fin 128)), Finset.fold_insert (Finset.notMem_erase _ _), h0]
  exact hor _
end

/-- The two masks agree: row `i` of device `c` is row `128 c + i` of the whole. -/
theorem mask_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (i j : Fin 128) (h : c.val * 128 + i.val < 1024) :
    RingProof.val503 (F := Ideal) m ρ c (ix2 i j) = val_main_v23 (F := Ideal) (ix2 ⟨c.val * 128 + i.val, h⟩ j) := by
  rw [val503_apply, v23_apply, kfloor_row c i, kfloor_col j]
  exact bit_eq ⟨(c.val * 128 + i.val) / 64, by omega⟩ ⟨j.val / 64, by omega⟩

end Cert.RingValue

end

end
-- ==== Proof.RefValue.lean ====
/- The reference's result read at an index, for real inputs: the greatest score drops out of the softmax. -/
module

public import proofs.«01_k».proof.Proof.Soft
public import proofs.«01_k».proof.Proof.Mask

@[expose] public section

noncomputable section

namespace Cert.RingValue

open Cert.ReferenceIdeal Cert.ReferenceIdeal.Gen Cert.ReferenceIdeal.Read
open Idealize.ShloMosaic

/-- The three literals: the scale 1/8 and the masked score are real, the first maximum is the least element. -/
theorem scale_real : IsReal (Ideal.ofBits .f32 0x3E000000#32) :=
  ⟨1 / 8, by simp [Ideal.ofBits, Ideal.ieee, -EReal.coe_mul]; norm_num⟩
theorem masked_real : IsReal (Ideal.ofBits .f32 0xCE6E6B28#32) :=
  ⟨-1000000000, by simp [Ideal.ofBits, Ideal.ieee, -EReal.coe_mul]; norm_num⟩
theorem bot_bits : Ideal.ofBits .f32 0xFF800000#32 = ⊥ := by simp [Ideal.ofBits, Ideal.ieee]

variable (X : FVec Ideal S2x1024x512 .f32) (W : FVec Ideal S512x2048 .f32) (K V : FVec Ideal S2x128x2048 .f32)
  (O : FVec Ideal S2048x512 .f32)

/-- A masked score of the reference. -/
theorem v28_read (b : Fin 2) (h : Fin 32) (i : Fin 1024) (j : Fin 128) :
    val_main_v28 (F := Ideal) X W K (ix4 b h i j) =
      Scalar.select (val_main_v23 (F := Ideal) (ix2 i j))
        ((∑ d : Fin 64, (∑ e : Fin 512, X (ix3 b i e) * W (ix2 e ⟨h.val * 64 + d.val, by omega⟩)) * K (ix3 b j ⟨h.val * 64 + d.val, by omega⟩))
          * Ideal.ofBits .f32 0x3E000000#32)
        (Ideal.ofBits .f32 0xCE6E6B28#32) := by
  pointwise [val_main_v28, val_main_v27, val_main_v26, val_main_v25, val_main_v24, val_main_v0, val_main_v2, val_main_v3, val_main_call3_v0,
    val_main_call3_v1, val_main_call3_v2, val_main_cst, val_main_cst_4]
  rfl

/-- The greatest score of a row. -/
theorem v29_read (b : Fin 2) (h : Fin 32) (i : Fin 1024) :
    val_main_v29 (F := Ideal) X W K (ix3 b h i)
      = Finset.univ.fold max ⊥ (fun j : Fin 128 => val_main_v28 (F := Ideal) X W K (ix4 b h i j)) := by
  rw [← bot_bits]
  pointwise [val_main_v29]
  rfl

/-- The reference's result, no row of the mask being empty. -/
theorem v46_read (b : Fin 2) (i : Fin 1024) (n : Fin 512) :
    val_main_v46 (F := Ideal) X W K V O (ix3 b i n) =
      ∑ p : Fin 2048, (∑ j : Fin 128, V (ix3 b j p) *
        Ideal.div (Ideal.exp (val_main_v28 (F := Ideal) X W K (ix4 b ⟨p.val / 64, by omega⟩ i j) - val_main_v29 (F := Ideal) X W K (ix3 b ⟨p.val / 64, by omega⟩ i)))
          (∑ x : Fin 128, Ideal.exp (val_main_v28 (F := Ideal) X W K (ix4 b ⟨p.val / 64, by omega⟩ i x) - val_main_v29 (F := Ideal) X W K (ix3 b ⟨p.val / 64, by omega⟩ i))))
        * O (ix2 p n) := by
  have hz : val_main_cst_7 (F := Ideal) (Shape.Idx.first h_S_) = 0 := Ideal.ofBits_zero_f32
  pointwise [val_main_v46, val_main_v45, val_main_v44, val_main_v43, val_main_v1, val_main_v42, val_main_v41, val_main_v40, val_main_v39, val_main_v38,
     val_main_v37, val_main_v36, val_main_v35, val_main_v33, val_main_v32, val_main_v31, val_main_v30, val_main_call4_v0, val_main_call4_v1, val_main_call4_v2,
     val_main_call5_v0, val_main_call5_v1, val_main_call5_v2]
  have hs : ∀ x y : EReal, Scalar.select (1#1) x y = x := fun _ _ => rfl
  simp only [v34_apply, hs, hz, zero_add]

/-- The inputs of the queries and the keys are real. -/
structure Finite : Prop where
  x : ∀ i, IsReal (X i)
  w : ∀ i, IsReal (W i)
  k : ∀ i, IsReal (K i)

variable {X W K}

/-- Then the masked scores are real, -/
theorem v28_real (h : Finite X W K) (b : Fin 2) (g : Fin 32) (i : Fin 1024) (j : Fin 128) :
    IsReal (val_main_v28 (F := Ideal) X W K (ix4 b g i j)) := by
  rw [v28_read]
  unfold Scalar.select
  split_ifs
  · exact (IsReal.sum fun d => (IsReal.sum fun e => (h.x _).mul (h.w _)).mul (h.k _)).mul scale_real
  · exact masked_real

/-- so the weights are the exponentials over their sum. -/
theorem ref_read (h : Finite X W K) (b : Fin 2) (i : Fin 1024) (n : Fin 512) :
    val_main_v46 (F := Ideal) X W K V O (ix3 b i n) =
      ∑ p : Fin 2048, (∑ j : Fin 128,
        Ideal.div (Ideal.exp (val_main_v28 (F := Ideal) X W K (ix4 b ⟨p.val / 64, by omega⟩ i j)))
          (∑ x : Fin 128, Ideal.exp (val_main_v28 (F := Ideal) X W K (ix4 b ⟨p.val / 64, by omega⟩ i x))) * V (ix3 b j p))
        * O (ix2 p n) := by
  rw [v46_read]
  refine Finset.sum_congr rfl fun p _ => congrArg (· * O (ix2 p n)) (Finset.sum_congr rfl fun j _ => ?_)
  rw [mul_comm]
  refine congrArg (· * V (ix3 b j p)) ?_
  have hμ : IsReal (val_main_v29 (F := Ideal) X W K (ix3 b ⟨p.val / 64, by omega⟩ i)) := by
    rw [v29_read]; exact IsReal.fold_max fun x => v28_real h _ _ _ _
  exact softmax_shift (t := fun x => val_main_v28 (F := Ideal) X W K (ix4 b ⟨p.val / 64, by omega⟩ i x)) (fun x => v28_real h _ _ _ _) hμ j

end Cert.RingValue

end

end
-- ==== Proof.End.lean ====
/- What the run leaves in the result's array, and what the staged arguments are: each window is its whole array, carried once. -/
module

public import proofs.«01_k».proof.Proof.Launch
public import Idealize.ShloMosaic.Lib.Pipeline.ValueKit.Geometry

@[expose] public section

noncomputable section

namespace Cert.RingProof

open Cert.KernelIdeal Cert.KernelIdeal.Gen
open Idealize.ShloMosaic

variable {F : FTy → Type} [FloatOps F] (m : (ℓ : Loc nD τ sig) → Buf (Elt F) ℓ) (ρ : Dev nD → PrngReg)

/-- The result's array ends holding the value the body computed. -/
theorem final_out (c : Dev nD) : finalA m ρ c (3 : Fin 4) = outv m ρ c :=
  (dats m ρ 0 c).arrAt_eq_of_after_last (3 : Fin 4) t0_0 (by decide +kernel) _ fun j => by
    rfl

/-- The staged input is the device's argument; -/
theorem xstg_eq (c : Dev nD) : xstg m ρ c = m ((c.tc : Thread nD τ).loc main_arg0) := by
  have h0 : ∀ a, win0_0.index (0 : Fin 1) a = 0 := by decide +kernel
  funext y
  show m ((c.tc : Thread nD τ).loc main_arg0) ((win0_0.blk (0 : Fin 1)).view.emb y) = _
  congr 1
  funext a
  apply Fin.ext
  blk_simp
  exact (congrArg (fun k => k * win0_0.size a + (y a).val) (h0 a)).trans (by rw [Nat.zero_mul, Nat.zero_add])

/-- so are its columns of `Wq` -/
theorem qstg_eq (c : Dev nD) : qstg m ρ c = m ((c.tc : Thread nD τ).loc main_arg1) := by
  have h0 : ∀ a, win0_1.index (0 : Fin 1) a = 0 := by decide +kernel
  funext y
  show m ((c.tc : Thread nD τ).loc main_arg1) ((win0_1.blk (0 : Fin 1)).view.emb y) = _
  congr 1
  funext a
  apply Fin.ext
  blk_simp
  exact (congrArg (fun k => k * win0_1.size a + (y a).val) (h0 a)).trans (by rw [Nat.zero_mul, Nat.zero_add])

/-- and its rows of `Wo`. -/
theorem ostg_eq (c : Dev nD) : ostg m ρ c = m ((c.tc : Thread nD τ).loc main_arg4) := by
  have h0 : ∀ a, win0_2.index (0 : Fin 1) a = 0 := by decide +kernel
  funext y
  show m ((c.tc : Thread nD τ).loc main_arg4) ((win0_2.blk (0 : Fin 1)).view.emb y) = _
  congr 1
  funext a
  apply Fin.ext
  blk_simp
  exact (congrArg (fun k => k * win0_2.size a + (y a).val) (h0 a)).trans (by rw [Nat.zero_mul, Nat.zero_add])

end Cert.RingProof

end

end
-- ==== Proof.Ker.lean ====
/- One block's contribution at an index, with the inputs named by the whole arrays: it is the reference's sum over that
   block's 256 rows of `Wo`. -/
module

public import proofs.«01_k».proof.Proof.RefValue
public import proofs.«01_k».proof.Proof.End

@[expose] public section

noncomputable section

namespace Cert.RingValue

open Cert.KernelIdeal Cert.KernelIdeal.Gen
open Cert.RingProof (blk msk8 blkAt val116 val503 qblk oblk grp hdM bufK bufV fw outv finalA slab xstg_eq qstg_eq ostg_eq pay1_eq pay3_eq)
open Idealize.ShloMosaic

/-- A block at row `i` of batch `b` and column `n`: a sum over its 256 (head, feature) pairs. -/
theorem blk_apply (x2 : FVec Ideal S256x512 .bf16) (msk : IVec S128x128 1) (wq : Vec Ideal S512x256 .bf16) (wo : Vec Ideal S256x512 .bf16)
    (kb vb : Vec Ideal S2x4x128x64 .bf16) (b : Fin 2) (i : Fin 128) (n : Fin 512) (s : Fin 256 → Fin 128 → EReal)
    (hs : ∀ (p : Fin 256) (j : Fin 128), s p j = Scalar.select (msk (ix2 i j))
      (∑ d : Fin 64, (∑ e : Fin 512, x2 (ix2 ⟨b.val * 128 + i.val, by omega⟩ e) * wq (ix2 e ⟨p.val / 64 * 64 + d.val, by omega⟩))
        * Ideal.ofBits .f32 0x3E000000#32 * kb (ix4 b ⟨p.val / 64, by omega⟩ j d)) (Ideal.ofBits .f32 0xCE6E6B28#32)) :
    blk x2 msk wq wo kb vb (ix2 ⟨b.val * 128 + i.val, by omega⟩ n) =
      ∑ p : Fin 256, (∑ j : Fin 128, Ideal.div (Ideal.exp (s p j)) (∑ x : Fin 128, Ideal.exp (s p x))
        * vb (ix4 b ⟨p.val / 64, by omega⟩ j ⟨p.val % 64, by omega⟩)) * wo (ix2 p n) := by
  simp only [hs]
  pointwise [blk, k0_pay86, k0_pay85, k0_pay97, k0_pay98, msk8, k0_pay99]
  refine Finset.sum_congr rfl fun p _ => ?_
  have e : (b.val * 4 + p.val / 64) % 4 = p.val / 64 := by omega
  simp only [e]

section
variable (m : (ℓ : Loc nD τ sig) → Buf (Elt Ideal) ℓ) (ρ : Dev nD → PrngReg)
  (X : FVec Ideal ⟨3, ![2, 1024, 512]⟩ .f32) (W : FVec Ideal ⟨2, ![512, 2048]⟩ .f32) (K V : FVec Ideal ⟨3, ![2, 128, 2048]⟩ .f32)
  (O : FVec Ideal ⟨2, ![2048, 512]⟩ .f32)

/-- The devices hold the whole arrays' blocks, `K` and `V` whole. -/
structure Held : Prop where
  x : ∀ c : Dev nD, m ((c.tc : Thread nD τ).loc main_arg0) = Layout.block ⟨3, ![2, 128, 512]⟩ ⟨3, ![2, 1024, 512]⟩ 1 8 c X
  w : ∀ c : Dev nD, m ((c.tc : Thread nD τ).loc main_arg1) = Layout.block ⟨2, ![512, 256]⟩ ⟨2, ![512, 2048]⟩ 1 8 c W
  k : ∀ c : Dev nD, m ((c.tc : Thread nD τ).loc main_arg2) = K
  v : ∀ c : Dev nD, m ((c.tc : Thread nD τ).loc main_arg3) = V
  o : ∀ c : Dev nD, m ((c.tc : Thread nD τ).loc main_arg4) = Layout.block ⟨2, ![256, 512]⟩ ⟨2, ![2048, 512]⟩ 0 8 c O

/-- Row `i` of device `c`'s block is row `128 c + i`; -/
theorem rows_idx {α : Type} (c : Fin 8) (f : (⟨3, ![2, 1024, 512]⟩ : Shape).Idx → α) (b : Fin 2) (i : Fin 128) (e : Fin 512) :
    Layout.block ⟨3, ![2, 128, 512]⟩ ⟨3, ![2, 1024, 512]⟩ 1 8 c f (by decide) (ix3 b i e) = f (ix3 b ⟨c.val * 128 + i.val, by omega⟩ e) := by
  rw [Layout.block_apply]
  congr 1
  funext a
  apply Fin.ext
  rw [Layout.Tiles.idx_val]
  fin_cases a <;> rfl
/-- column `q` of its block of `Wq` is column `256 c + q`; -/
theorem wq_idx {α : Type} (c : Fin 8) (f : (⟨2, ![512, 2048]⟩ : Shape).Idx → α) (e : Fin 512) (q : Fin 256) :
    Layout.block ⟨2, ![512, 256]⟩ ⟨2, ![512, 2048]⟩ 1 8 c f (by decide) (ix2 e q) = f (ix2 e ⟨c.val * 256 + q.val, by omega⟩) := by
  rw [Layout.block_apply]
  congr 1
  funext a
  apply Fin.ext
  rw [Layout.Tiles.idx_val]
  fin_cases a <;> rfl
/-- row `p` of its block of `Wo` is row `256 c + p`. -/
theorem wo_idx {α : Type} (c : Fin 8) (f : (⟨2, ![2048, 512]⟩ : Shape).Idx → α) (p : Fin 256) (n : Fin 512) :
    Layout.block ⟨2, ![256, 512]⟩ ⟨2, ![2048, 512]⟩ 0 8 c f (by decide) (ix2 p n) = f (ix2 ⟨c.val * 256 + p.val, by omega⟩ n) := by
  rw [Layout.block_apply]
  congr 1
  funext a
  apply Fin.ext
  rw [Layout.Tiles.idx_val]
  fin_cases a <;> rfl

variable {m X W K V O} (H : Held m X W K V O)
include H

/-- The rounded input, read in the whole array; -/
theorem x_read (c : Dev nD) (b : Fin 2) (i : Fin 128) (e : Fin 512) :
    val116 m ρ c (ix2 ⟨b.val * 128 + i.val, by omega⟩ e) = X (ix3 b ⟨c.val * 128 + i.val, by have : c.val < 8 := c.isLt; omega⟩ e) := by
  refine Eq.trans ?_ (rows_idx c X b i e)
  unfold val116
  rw [xstg_eq, H.x c]
  generalize Layout.block ⟨3, ![2, 128, 512]⟩ ⟨3, ![2, 1024, 512]⟩ 1 8 c X _ = y
  pointwise [k0_pay4]
/-- a device's columns of `Wq`; -/
theorem q_read (c : Dev nD) (e : Fin 512) (q : Fin 256) :
    qblk m ρ c (ix2 e q) = W (ix2 e ⟨c.val * 256 + q.val, by have : c.val < 8 := c.isLt; omega⟩) := by
  refine Eq.trans ?_ (wq_idx c W e q)
  unfold qblk
  rw [pay1_eq, qstg_eq, H.w c]
  rfl
/-- a device's rows of `Wo`. -/
theorem o_read (c : Dev nD) (p : Fin 256) (n : Fin 512) :
    oblk m ρ c (ix2 p n) = O (ix2 ⟨c.val * 256 + p.val, by have : c.val < 8 := c.isLt; omega⟩ n) := by
  refine Eq.trans ?_ (wo_idx c O p n)
  unfold oblk
  rw [pay3_eq, ostg_eq, H.o c]
  rfl
omit H
/-- A head of the keys or the values is 64 of its columns. -/
theorem head_read (f : S2x128x2048.Idx → Elt Ideal .f32) (o : Dev nD) (b : Fin 2) (h : Fin 4) (j : Fin 128) (d : Fin 64) :
    grp (F := Ideal) (hdM f) o (ix4 b h j d) = f (ix3 b j ⟨64 * (4 * o.val + h.val) + d.val, by have : o.val < 8 := o.isLt; omega⟩) := by
  have ei : RingProof.ixh b j d = ix4 b (0 : Fin 1) j d := funext fun a => by fin_cases a <;> rfl
  show k0_pay5 (F := Ideal) (slab f ⟨4 * o.val + h.val, _⟩) (RingProof.ixh b j d) = _
  rw [ei]
  pointwise [k0_pay5]
  unfold slab
  congr 1
  funext a
  fin_cases a <;> rfl
include H

/-- What the block that started `k` devices ahead adds to row `i` of batch `b` on device `c`: the reference's terms for the
    256 rows of `Wo` which that device holds. -/
theorem blkAt_read (hf : Finite X W K) (c : Dev nD) (k : Fin 8) (b : Fin 2) (i : Fin 128) (n : Fin 512) (I : Fin 1024)
    (hI : I.val = c.val * 128 + i.val) (g : Fin 2048 → EReal)
    (hg : ∀ p : Fin 2048, g p = (∑ j : Fin 128,
      Ideal.div (Ideal.exp (ReferenceIdeal.Read.val_main_v28 (F := Ideal) X W K (ix4 b ⟨p.val / 64, by omega⟩ I j)))
        (∑ x : Fin 128, Ideal.exp (ReferenceIdeal.Read.val_main_v28 (F := Ideal) X W K (ix4 b ⟨p.val / 64, by omega⟩ I x))) * V (ix3 b j p))
      * O (ix2 p n)) :
    blkAt m ρ c k (ix2 ⟨b.val * 128 + i.val, by omega⟩ n)
      = ∑ p : Fin 256, g ⟨(fw c k).val * 256 + p.val, by have : (fw c k).val < 8 := (fw c k).isLt; omega⟩ := by
  have ho : (fw c k).val < 8 := (fw c k).isLt
  have hc : c.val < 8 := c.isLt
  obtain ⟨I, hb⟩ := I
  dsimp only at hI
  subst hI
  unfold blkAt
  rw [blk_apply _ _ _ _ _ _ b i n (fun p j => ReferenceIdeal.Read.val_main_v28 (F := Ideal) X W K
    (ix4 b ⟨((fw c k).val * 256 + p.val) / 64, by omega⟩ ⟨c.val * 128 + i.val, by omega⟩ j)) fun p j => ?_]
  · refine Finset.sum_congr rfl fun p _ => ?_
    have e : 64 * (4 * (fw c k).val + p.val / 64) + p.val % 64 = (fw c k).val * 256 + p.val := by omega
    simp only [hg, o_read ρ H, head_read, e, bufV, H.v]
  · have e : ∀ d : Fin 64, ((fw c k).val * 256 + p.val) / 64 * 64 + d.val = (fw c k).val * 256 + (p.val / 64 * 64 + d.val) := by omega
    have e' : ∀ d : Fin 64, 64 * (4 * (fw c k).val + p.val / 64) + d.val = (fw c k).val * 256 + (p.val / 64 * 64 + d.val) := by omega
    rw [v28_read, mask_eq m ρ c i j (by omega)]
    congr 1
    simp only [x_read ρ H, q_read ρ H, head_read, e, e', bufK, H.k]
    exact (scale_in (fun d => IsReal.sum fun e => (hf.x _).mul (hf.w _)) (fun d => hf.k _) scale_real).symm
end

end Cert.RingValue

end

end
-- ==== Proof.Value.lean ====
/- The value claim: under finite queries and keys every device's result is its rows of the reference's. -/
module

public import proofs.«01_k».proof.Proof.Ker
public import proofs.«01_k».proof.Proof.Frames

@[expose] public section

noncomputable section

namespace Cert.RingValue

open Cert.KernelIdeal Cert.KernelIdeal.Gen
open Cert.RingProof (blkAt val1011 val1011_eq fw around outv final_out args_kept run_main)
open Idealize.ShloMosaic Idealize.SL.Sem

/-- The facts which the precondition's two texts state of their shapes. -/
theorem pre_facts : Cert.Pre_finite_scores_KernelIdeal.Facts := ⟨by decide, by decide, by decide⟩
theorem pre_facts_ref : Cert.Pre_finite_scores_ReferenceIdeal.Facts := ⟨by decide, by decide, by decide⟩

/-- A sum over 2048 rows is the sum of the eight devices' sums over 256, counted from any device on. -/
theorem sum_around (c : Dev nD) (g : Fin 2048 → EReal) :
    ∑ p, g p = ∑ k : Fin 8, ∑ p : Fin 256, g ⟨(fw c k).val * 256 + p.val, by have : (fw c k).val < 8 := (fw c k).isLt; omega⟩ := by
  have h := (finProdFinEquiv (m := 8) (n := 256)).sum_comp (fun p => g p)
  rw [Fintype.sum_prod_type] at h
  refine h.symm.trans (((around c).sum_comp _).symm.trans ?_)
  refine Finset.sum_congr rfl fun k _ => Finset.sum_congr rfl fun p _ => congrArg g (Fin.ext ?_)
  show p.val + 256 * (fw c k).val = (fw c k).val * 256 + p.val
  omega

section
variable {m : (ℓ : Loc nD τ sig) → Buf (Elt Ideal) ℓ} (ρ : Dev nD → PrngReg)
  {X : FVec Ideal ⟨3, ![2, 1024, 512]⟩ .f32} {W : FVec Ideal ⟨2, ![512, 2048]⟩ .f32} {K V : FVec Ideal ⟨3, ![2, 128, 2048]⟩ .f32}
  {O : FVec Ideal ⟨2, ![2048, 512]⟩ .f32} (H : Held m X W K V O)
include H

/-- Row `i` of batch `b` of device `c`'s result is row `128 c + i` of the reference's. -/
theorem out_read (hf : Finite X W K) (c : Dev nD) (b : Fin 2) (i : Fin 128) (n : Fin 512) :
    outv m ρ c (ix3 b i n) = ReferenceIdeal.Read.val_main_v46 (F := Ideal) X W K V O
      (ix3 b ⟨c.val * 128 + i.val, by have : c.val < 8 := c.isLt; omega⟩ n) := by
  rw [ref_read V O hf, sum_around c]
  have hk := fun k => blkAt_read ρ H hf c k b i n ⟨c.val * 128 + i.val, by have : c.val < 8 := c.isLt; omega⟩ rfl _ (fun p => rfl)
  simp only [← hk]
  have e : outv m ρ c (ix3 b i n) = val1011 m ρ c (ix2 ⟨b.val * 128 + i.val, by omega⟩ n) := by
    unfold outv
    generalize val1011 m ρ c = y
    pointwise [k0_pay101]
  rw [e, val1011_eq, Fin.sum_univ_eight]
  show (((((((_ : EReal) + _) + _) + _) + _) + _) + _) + _ = _
  abel

/-- The whole of it: the result's array is the block. -/
theorem out_block (hf : Finite X W K) (c : Dev nD) :
    outv m ρ c = Layout.block ⟨3, ![2, 128, 512]⟩ ⟨3, ![2, 1024, 512]⟩ 1 8 c (ReferenceIdeal.Read.val_main_v46 (F := Ideal) X W K V O) := by
  funext y
  have e : y = ix3 (y 0) (y 1) (y 2) := funext fun a => by fin_cases a <;> rfl
  rw [e]
  exact (out_read ρ H hf c (y 0) (y 1) (y 2)).trans (rows_idx c _ (y 0) (y 1) (y 2)).symm
end

/-- An extended real less than infinity in absolute value is real. -/
theorem real_of_lt {s : Shape} (x : FVec Ideal s .f32) (h : (⟨0, ![]⟩ : Shape).BroadcastsInDim s ![])
    (e : cmpf .olt (Host.absf x) (broadcastInDim s ![] h (constant (F := Ideal) ⟨0, ![]⟩ .f32 0x7F800000#32)) = fun _ => 1#1) (i : s.Idx) :
    IsReal (x i) := by
  have ht : Ideal.ofBits .f32 0x7F800000#32 = ⊤ := by simp [Ideal.ofBits, Ideal.ieee]
  have h1 : Ideal.cmp .olt (max (x i) (-(x i))) (Ideal.ofBits .f32 0x7F800000#32) = 1#1 := congrFun e i
  rw [ht] at h1
  induction hx : x i using EReal.rec with
  | bot => rw [hx] at h1; simp [Ideal.cmp] at h1
  | top => rw [hx] at h1; simp [Ideal.cmp] at h1
  | coe r => exact ⟨r, rfl⟩

/-- The precondition, read of the whole arrays. -/
theorem finite_of_pre {m : (ℓ : Loc nD τ sig) → Buf (Elt Ideal) ℓ}
    {X : FVec Ideal ⟨3, ![2, 1024, 512]⟩ .f32} {W : FVec Ideal ⟨2, ![512, 2048]⟩ .f32} {K V : FVec Ideal ⟨3, ![2, 128, 2048]⟩ .f32}
    {O : FVec Ideal ⟨2, ![2048, 512]⟩ .f32} (H : Held m X W K V O)
    (hp : Cert.Pre_KernelIdeal_finite_scores_KernelIdeal (hPre_finite_scores_KernelIdeal := pre_facts) m) : Finite X W K where
  x i := by
    have h1 : (i 1).val < 1024 := (i 1).isLt
    have h := real_of_lt _ _ (hp ⟨(i 1).val / 128, by show _ < 8; omega⟩).1 (ix3 (i 0) ⟨(i 1).val % 128, by omega⟩ (i 2))
    rw [H.x] at h
    have e : i = ix3 (i 0) ⟨(i 1).val / 128 * 128 + (i 1).val % 128, by omega⟩ (i 2) := funext fun a => by
      fin_cases a
      · rfl
      · exact Fin.ext (by show (i 1).val = (i 1).val / 128 * 128 + (i 1).val % 128; omega)
      · rfl
    exact Eq.mpr (congrArg IsReal ((congrArg X e).trans (rows_idx ⟨_, by omega⟩ X (i 0) ⟨_, by omega⟩ (i 2)).symm)) h
  w i := by
    have h1 : (i 1).val < 2048 := (i 1).isLt
    have h := real_of_lt _ _ (hp ⟨(i 1).val / 256, by show _ < 8; omega⟩).2.1 (ix2 (i 0) ⟨(i 1).val % 256, by omega⟩)
    rw [H.w] at h
    have e : i = ix2 (i 0) ⟨(i 1).val / 256 * 256 + (i 1).val % 256, by omega⟩ := funext fun a => by
      fin_cases a
      · rfl
      · exact Fin.ext (by show (i 1).val = (i 1).val / 256 * 256 + (i 1).val % 256; omega)
    exact Eq.mpr (congrArg IsReal ((congrArg W e).trans (wq_idx ⟨_, by omega⟩ W (i 0) ⟨_, by omega⟩).symm)) h
  k i := by
    have h := real_of_lt _ _ (hp 0).2.2 i
    rw [H.k] at h
    exact h

/-- The idealized kernel computes the reference's result, each device its rows. -/
theorem algebraic : Cert.algebraic_KernelIdeal_ReferenceIdeal_pre_finite_scores_KernelIdeal
    (hPre_finite_scores_KernelIdeal := pre_facts) := fun m ρ m' ρ' hp hin => by
  have H : Held m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) :=
    ⟨fun c => (hin c).1, fun c => (hin c).2.1, fun c => (hin c).2.2.1, fun c => (hin c).2.2.2.1, fun c => (hin c).2.2.2.2⟩
  refine ⟨_, (θ_run defs _ _).mono (fun r h c => ⟨((h.1 c).1 3).trans ((final_out m ρ c).trans (out_block ρ H (finite_of_pre H hp) c)), args_kept m ρ h.1 c⟩)
    (run_main (F := Ideal) m ρ),
    (θ_run Cert.ReferenceIdeal.defs _ _).mono (fun r h => ?_) (Cert.ReferenceIdeal.Value.run (F := Ideal) m' ρ')⟩
  exact ⟨(h 0).1.trans (Cert.ReferenceIdeal.Read.val_main_v46_eq m' 0), (h 0).2⟩

end Cert.RingValue

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- The frames (a frame under the precondition is the frame), that the idealized kernel is the kernel, and the value claim. -/
theorem claim : Cert.Claim := ⟨Cert.Kernel.Gen.facts, Cert.KernelIdeal.Gen.facts, Cert.ReferenceIdeal.Gen.facts,
  Cert.RingValue.pre_facts, Cert.RingValue.pre_facts_ref, Cert.RingProof.frame_kernel, Cert.RingProof.frame_kernelIdeal,
  fun m ρ _ => Cert.RingProof.frame_kernelIdeal m ρ trivial, Cert.RingProof.frame_reference,
  fun m ρ _ => Cert.RingProof.frame_reference m ρ trivial, trivial, Cert.RingValue.algebraic⟩

end Cert.Proof

end
